-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![2, 4096, 768]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 512, 768]⟩ ⟨3, ![2, 4096, 768]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .bf16) (main_arg1 : FVec F S768x512 .bf16) (main_arg2 : FVec F S2x512x8x64 .bf16) (main_arg3 : FVec F S2x512x8x64 .bf16) (main_arg4 : FVec F S512x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x512 .f32 := (extf .f32 · bitsLt_bf16_f32) main_arg1
  let main_v6 : FVec F S768x512 .f32 := Host.absf main_v5
  let main_cst_0 : FVec F S_ .f32 := constant S_ .f32 0x7F800000#32
  let main_v7 : FVec F S768x512 .f32 := broadcastInDim S768x512 ![] bcast_S_S768x512 main_cst_0
  let main_v8 : IVec S768x512 1 := cmpf .olt main_v6 main_v7
  let main_c_1 : IVec S_ 1 := constantI S_ 1 1#1
  let main_v9 : IVec S_ 1 := (fun x v => Host.reduce IntOp.andi x v reducesTo_S768x512_S_d0_1 h_S_) main_v8 main_c_1
  let main_v10 : IVec S_ 1 := andi main_v4 main_v9
  let main_v11 : FVec F S2x512x8x64 .f32 := (extf .f32 · bitsLt_bf16_f32) main_arg2
  let main_v12 : FVec F S2x512x8x64 .f32 := Host.absf main_v11
  let main_cst_2 : FVec F S_ .f32 := constant S_ .f32 0x7F800000#32
  let main_v13 : FVec F S2x512x8x64 .f32 := broadcastInDim S2x512x8x64 ![] bcast_S_S2x512x8x64 main_cst_2
  let main_v14 : IVec S2x512x8x64 1 := cmpf .olt main_v12 main_v13
  let main_c_3 : IVec S_ 1 := constantI S_ 1 1#1
  let main_v15 : IVec S_ 1 := (fun x v => Host.reduce IntOp.andi x v reducesTo_S2x512x8x64_S_d0_1_2_3 h_S_) main_v14 main_c_3
  let main_v16 : IVec S_ 1 := andi main_v10 main_v15
  main_v16
-- ==== Pre_finite_ReferenceIdeal.lean ====
abbrev S2x4096x768 : Shape := ⟨3, ![2, 4096, 768]⟩
abbrev S768x512 : Shape := ⟨2, ![768, 512]⟩
abbrev S2x4096x8x64 : Shape := ⟨4, ![2, 4096, 8, 64]⟩
abbrev S512x768 : Shape := ⟨2, ![512, 768]⟩
abbrev S_ : Shape := ⟨0, ![]⟩

class Facts : Prop where
  bitsLt_bf16_f32 : FTy.bits .bf16 < FTy.bits .f32
  bcast_S_S2x4096x768 : S_.BroadcastsInDim S2x4096x768 (![] : Fin 0 → Fin S2x4096x768.rank)
  reducesTo_S2x4096x768_S_d0_1_2 : S2x4096x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_

variable [Facts]

def fn {F : FTy → Type} [FloatOps F] (main_arg0 : FVec F S2x4096x768 .bf16) (main_arg1 : FVec F S768x512 .bf16) (main_arg2 : FVec F S2x4096x8x64 .bf16) (main_arg3 : FVec F S2x4096x8x64 .bf16) (main_arg4 : FVec F S512x768 .bf16) : IVec S_ 1 :=
  let main_v0 : FVec F S2x4096x768 .f32 := (extf .f32 · bitsLt_bf16_f32) main_arg0
  let main_v1 : FVec F S2x4096x768 .f32 := Host.absf main_v0
  let main_cst : FVec F S_ .f32 := constant S_ .f32 0x7F800000#32
  let main_v2 : FVec F S2x4096x768 .f32 := broadcastInDim S2x4096x768 ![] bcast_S_S2x4096x768 main_cst
  let main_v3 : IVec S2x4096x768 1 := cmpf .olt main_v1 main_v2
  let main_c : IVec S_ 1 := constantI S_ 1 1#1
  let main_v4 : IVec S_ 1 := (fun x v => Host.reduce IntOp.andi x v reducesTo_S2x4096x768_S_d0_1_2 h_S_) main_v3 main_c
  let main_v5 : FVec F S768x512 .f32 := (extf .f32 · bitsLt_bf16_f32) main_arg1
  let main_v6 : FVec F S768x512 .f32 := Host.absf main_v5
  let main_cst_0 : FVec F S_ .f32 := constant S_ .f32 0x7F800000#32
  let main_v7 : FVec F S768x512 .f32 := broadcastInDim S768x512 ![] bcast_S_S768x512 main_cst_0
  let main_v8 : IVec S768x512 1 := cmpf .olt main_v6 main_v7
  let main_c_1 : IVec S_ 1 := constantI S_ 1 1#1
  let main_v9 : IVec S_ 1 := (fun x v => Host.reduce IntOp.andi x v reducesTo_S768x512_S_d0_1 h_S_) main_v8 main_c_1
  let main_v10 : IVec S_ 1 := andi main_v4 main_v9
  let main_v11 : FVec F S2x4096x8x64 .f32 := (extf .f32 · bitsLt_bf16_f32) main_arg2
  let main_v12 : FVec F S2x4096x8x64 .f32 := Host.absf main_v11
  let main_cst_2 : FVec F S_ .f32 := constant S_ .f32 0x7F800000#32
  let main_v13 : FVec F S2x4096x8x64 .f32 := broadcastInDim S2x4096x8x64 ![] bcast_S_S2x4096x8x64 main_cst_2
  let main_v14 : IVec S2x4096x8x64 1 := cmpf .olt main_v12 main_v13
  let main_c_3 : IVec S_ 1 := constantI S_ 1 1#1
  let main_v15 : IVec S_ 1 := (fun x v => Host.reduce IntOp.andi x v reducesTo_S2x4096x8x64_S_d0_1_2_3 h_S_) main_v14 main_c_3
  let main_v16 : IVec S_ 1 := andi main_v10 main_v15
  main_v16
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S16x512x64 : Shape := ⟨3, ![16, 512, 64]⟩
abbrev S8x2x512x512 : Shape := ⟨4, ![8, 2, 512, 512]⟩
abbrev S16x64x512 : Shape := ⟨3, ![16, 64, 512]⟩
abbrev S16x1x512 : Shape := ⟨3, ![16, 1, 512]⟩
abbrev S7 : Shape := ⟨1, ![7]⟩
abbrev S_ : Shape := ⟨0, ![]⟩
abbrev S2x512x512 : Shape := ⟨3, ![2, 512, 512]⟩
abbrev S1x2x512x512 : Shape := ⟨4, ![1, 2, 512, 512]⟩
abbrev S1x512x768 : Shape := ⟨3, ![1, 512, 768]⟩
abbrev S512x512 : Shape := ⟨2, ![512, 512]⟩
abbrev S512x64 : Shape := ⟨2, ![512, 64]⟩
abbrev S1x512x64 : Shape := ⟨3, ![1, 512, 64]⟩
abbrev S1x1x512x512 : Shape := ⟨4, ![1, 1, 512, 512]⟩
abbrev S256x64 : Shape := ⟨2, ![256, 64]⟩
abbrev S1x256x64 : Shape := ⟨3, ![1, 256, 64]⟩
abbrev S1 : Shape := ⟨1, ![1]⟩
abbrev S1x2x256x512 : Shape := ⟨4, ![1, 2, 256, 512]⟩
abbrev S2x256x512 : Shape := ⟨3, ![2, 256, 512]⟩
abbrev S1x1x512 : Shape := ⟨3, ![1, 1, 512]⟩
abbrev S1x512 : Shape := ⟨2, ![1, 512]⟩
abbrev S512 : Shape := ⟨1, ![512]⟩
abbrev S64x512 : Shape := ⟨2, ![64, 512]⟩
abbrev S1x64x512 : Shape := ⟨3, ![1, 64, 512]⟩

abbrev nBuf : Space → Nat
  | .hbm => 6
  | .vmem => 13
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x8x64, .bf16⟩
  | .hbm, ⟨3, _⟩ => ⟨S2x512x8x64, .bf16⟩
  | .hbm, ⟨4, _⟩ => ⟨S512x768, .bf16⟩
  | .hbm, ⟨5, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S512x768, .bf16⟩
  | .local _ .vmem, ⟨5, _⟩ => ⟨S2x512x768, .f32⟩
  | .local _ .vmem, ⟨6, _⟩ => ⟨S16x512x64, .bf16⟩
  | .local _ .vmem, ⟨7, _⟩ => ⟨S8x2x512x512, .bf16⟩
  | .local _ .vmem, ⟨8, _⟩ => ⟨S8x2x512x512, .bf16⟩
  | .local _ .vmem, ⟨9, _⟩ => ⟨S16x512x64, .bf16⟩
  | .local _ .vmem, ⟨10, _⟩ => ⟨S16x512x64, .bf16⟩
  | .local _ .vmem, ⟨11, _⟩ => ⟨S16x64x512, .f32⟩
  | .local _ .vmem, ⟨12, _⟩ => ⟨S16x1x512, .f32⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_10 : BitVec 32 := 1#32
  let v18 : BitVec 32 := Scalar.muli v16 c1_i32_10
  let v19 : BitVec 32 := Scalar.addi c0_i32 v18
  v19.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_12 : BitVec 32 := 1#32
  let v20 : BitVec 32 := Scalar.muli v10 c1_i32_12
  let v21 : BitVec 32 := Scalar.addi c0_i32_13 v20
  v21.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v25 : Index := Scalar.indexCast v2
  let c0_17 : Index := 0#32
  let c0_18 : Index := 0#32
  let c0_19 : Index := 0#32
  ![v25.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v122 : Index := Scalar.indexCast v2
  let c0_79 : Index := 0#32
  let c0_80 : Index := 0#32
  let c0_81 : Index := 0#32
  ![v122.toNat, 0, 0, 0]
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v262 : Index := Scalar.indexCast v2
  let c1_186 : Index := 1#32
  let c0_187 : Index := 0#32
  let c0_188 : Index := 0#32
  ![v262.toNat, 1, 0, 0]
def k0_off4 (d0 : Dev nD) (c0_i32_301 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v431 : BitVec 32 := Scalar.subi v5 c0_i32_301
  let c16_i32 : BitVec 32 := 16#32
  let v432 : BitVec 32 := Scalar.addi v431 c16_i32
  let c8_i32_302 : BitVec 32 := 8#32
  let v433 : BitVec 32 := Scalar.remsi v432 c8_i32_302
  let c4_i32_303 : BitVec 32 := 4#32
  let v434 : BitVec 1 := Scalar.cmpi .slt v433 c4_i32_303
  let c11_i32_304 : BitVec 32 := 11#32
  let v435 : BitVec 32 := Scalar.subi c11_i32_304 v433
  let v436 : BitVec 32 := Scalar.select v434 v433 v435
  let c0_i32_324 : BitVec 32 := 0#32
  let c0_i32_325 : BitVec 32 := 0#32
  let c0_i32_326 : BitVec 32 := 0#32
  ![v436.toNat, 0, 0, 0]
def k0_dev3 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_322 : BitVec 32 := 1#32
  let v455 : BitVec 32 := Scalar.muli v10 c1_i32_322
  let v456 : BitVec 32 := Scalar.addi c0_i32_323 v455
  v456.toNat
def k0_dev4 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_332 : BitVec 32 := 1#32
  let v465 : BitVec 32 := Scalar.muli v10 c1_i32_332
  let v466 : BitVec 32 := Scalar.addi c0_i32_333 v465
  v466.toNat
def k0_off5 (d0 : Dev nD) (c0_i32_305 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v437 : BitVec 32 := Scalar.addi v5 c0_i32_305
  let c8_i32_306 : BitVec 32 := 8#32
  let v438 : BitVec 32 := Scalar.remsi v437 c8_i32_306
  let c4_i32_307 : BitVec 32 := 4#32
  let v439 : BitVec 1 := Scalar.cmpi .slt v438 c4_i32_307
  let c11_i32_308 : BitVec 32 := 11#32
  let v440 : BitVec 32 := Scalar.subi c11_i32_308 v438
  let v441 : BitVec 32 := Scalar.select v439 v438 v440
  let c0_i32_344 : BitVec 32 := 0#32
  let c256_i32 : BitVec 32 := 256#32
  let c0_i32_345 : BitVec 32 := 0#32
  ![v441.toNat, 0, 256, 0]
def k0_dev5 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_342 : BitVec 32 := 1#32
  let v475 : BitVec 32 := Scalar.muli v16 c1_i32_342
  let v476 : BitVec 32 := Scalar.addi c0_i32_343 v475
  v476.toNat
def k0_dev6 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_351 : BitVec 32 := 1#32
  let v485 : BitVec 32 := Scalar.muli v16 c1_i32_351
  let v486 : BitVec 32 := Scalar.addi c0_i32_352 v485
  v486.toNat
@[reducible] def k0_t1_loop : Scf.Loop 32 :=
  let c0_i32_372 : BitVec 32 := 0#32
  let c16_i32_373 : BitVec 32 := 16#32
  let v540 : BitVec 32 := Scalar.addi c0_i32_372 c16_i32_373
  let c1_i32_374 : BitVec 32 := 1#32
  ⟨c0_i32_372, v540, c1_i32_374⟩
def k0_off6 (k0_t1 : Fin k0_t1_loop.trips) : Fin 3 → Nat :=
  let c0_i32_372 : BitVec 32 := 0#32
  let c1_i32_374 : BitVec 32 := 1#32
  let arg21 : BitVec 32 := Scf.iv c0_i32_372 c1_i32_374 k0_t1
  let v3720 : Index := Scalar.indexCast arg21
  let c0_3019 : Index := 0#32
  let c0_3020 : Index := 0#32
  ![v3720.toNat, 0, 0]
def k0_off7 (k0_t1 : Fin k0_t1_loop.trips) : Fin 3 → Nat :=
  let c0_i32_372 : BitVec 32 := 0#32
  let c1_i32_374 : BitVec 32 := 1#32
  let arg21 : BitVec 32 := Scf.iv c0_i32_372 c1_i32_374 k0_t1
  let v3729 : Index := Scalar.indexCast arg21
  let c0_3024 : Index := 0#32
  let c0_3025 : Index := 0#32
  ![v3729.toNat, 0, 0]
def k0_off8 (k0_t1 : Fin k0_t1_loop.trips) : Fin 3 → Nat :=
  let c0_i32_372 : BitVec 32 := 0#32
  let c1_i32_374 : BitVec 32 := 1#32
  let arg21 : BitVec 32 := Scf.iv c0_i32_372 c1_i32_374 k0_t1
  let v3744 : Index := Scalar.indexCast arg21
  let c0_3032 : Index := 0#32
  let c0_3033 : Index := 0#32
  ![v3744.toNat, 0, 0]
def k0_off9 (d0 : Dev nD) (c0_i32_309 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v442 : BitVec 32 := Scalar.subi v5 c0_i32_309
  let c1_i32_310 : BitVec 32 := 1#32
  let v443 : BitVec 32 := Scalar.subi v442 c1_i32_310
  let c16_i32_311 : BitVec 32 := 16#32
  let v444 : BitVec 32 := Scalar.addi v443 c16_i32_311
  let c8_i32_312 : BitVec 32 := 8#32
  let v445 : BitVec 32 := Scalar.remsi v444 c8_i32_312
  let c4_i32_313 : BitVec 32 := 4#32
  let v446 : BitVec 1 := Scalar.cmpi .slt v445 c4_i32_313
  let c11_i32_314 : BitVec 32 := 11#32
  let v447 : BitVec 32 := Scalar.subi c11_i32_314 v445
  let v448 : BitVec 32 := Scalar.select v446 v445 v447
  let v597 : Index := Scalar.indexCast v448
  let c0_452 : Index := 0#32
  let c0_453 : Index := 0#32
  let c0_454 : Index := 0#32
  ![v597.toNat, 0, 0, 0]
def k0_off10 (d0 : Dev nD) (c0_i32_315 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v449 : BitVec 32 := Scalar.addi v5 c0_i32_315
  let c1_i32_316 : BitVec 32 := 1#32
  let v450 : BitVec 32 := Scalar.addi v449 c1_i32_316
  let c8_i32_317 : BitVec 32 := 8#32
  let v451 : BitVec 32 := Scalar.remsi v450 c8_i32_317
  let c4_i32_318 : BitVec 32 := 4#32
  let v452 : BitVec 1 := Scalar.cmpi .slt v451 c4_i32_318
  let c11_i32_319 : BitVec 32 := 11#32
  let v453 : BitVec 32 := Scalar.subi c11_i32_319 v451
  let v454 : BitVec 32 := Scalar.select v452 v451 v453
  let v603 : Index := Scalar.indexCast v454
  let c0_458 : Index := 0#32
  let c0_459 : Index := 0#32
  let c0_460 : Index := 0#32
  ![v603.toNat, 0, 0, 0]
def k0_off11 (d0 : Dev nD) (c0_i32_309 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v442 : BitVec 32 := Scalar.subi v5 c0_i32_309
  let c1_i32_310 : BitVec 32 := 1#32
  let v443 : BitVec 32 := Scalar.subi v442 c1_i32_310
  let c16_i32_311 : BitVec 32 := 16#32
  let v444 : BitVec 32 := Scalar.addi v443 c16_i32_311
  let c8_i32_312 : BitVec 32 := 8#32
  let v445 : BitVec 32 := Scalar.remsi v444 c8_i32_312
  let c4_i32_313 : BitVec 32 := 4#32
  let v446 : BitVec 1 := Scalar.cmpi .slt v445 c4_i32_313
  let c11_i32_314 : BitVec 32 := 11#32
  let v447 : BitVec 32 := Scalar.subi c11_i32_314 v445
  let v448 : BitVec 32 := Scalar.select v446 v445 v447
  let v737 : Index := Scalar.indexCast v448
  let c1_560 : Index := 1#32
  let c0_561 : Index := 0#32
  let c0_562 : Index := 0#32
  ![v737.toNat, 1, 0, 0]
def k0_off12 (d0 : Dev nD) (c0_i32_315 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v449 : BitVec 32 := Scalar.addi v5 c0_i32_315
  let c1_i32_316 : BitVec 32 := 1#32
  let v450 : BitVec 32 := Scalar.addi v449 c1_i32_316
  let c8_i32_317 : BitVec 32 := 8#32
  let v451 : BitVec 32 := Scalar.remsi v450 c8_i32_317
  let c4_i32_318 : BitVec 32 := 4#32
  let v452 : BitVec 1 := Scalar.cmpi .slt v451 c4_i32_318
  let c11_i32_319 : BitVec 32 := 11#32
  let v453 : BitVec 32 := Scalar.subi c11_i32_319 v451
  let v454 : BitVec 32 := Scalar.select v452 v451 v453
  let v743 : Index := Scalar.indexCast v454
  let c1_566 : Index := 1#32
  let c0_567 : Index := 0#32
  let c0_568 : Index := 0#32
  ![v743.toNat, 1, 0, 0]
def k0_dev7 (d0 : Dev nD) : Nat :=
  let c0_i32_691 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_690 : BitVec 32 := 1#32
  let v901 : BitVec 32 := Scalar.muli v10 c1_i32_690
  let v902 : BitVec 32 := Scalar.addi c0_i32_691 v901
  v902.toNat
def k0_dev8 (d0 : Dev nD) : Nat :=
  let c0_i32_701 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_700 : BitVec 32 := 1#32
  let v911 : BitVec 32 := Scalar.muli v10 c1_i32_700
  let v912 : BitVec 32 := Scalar.addi c0_i32_701 v911
  v912.toNat
def k0_dev9 (d0 : Dev nD) : Nat :=
  let c0_i32_711 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_710 : BitVec 32 := 1#32
  let v921 : BitVec 32 := Scalar.muli v16 c1_i32_710
  let v922 : BitVec 32 := Scalar.addi c0_i32_711 v921
  v922.toNat
def k0_dev10 (d0 : Dev nD) : Nat :=
  let c0_i32_721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_720 : BitVec 32 := 1#32
  let v931 : BitVec 32 := Scalar.muli v16 c1_i32_720
  let v932 : BitVec 32 := Scalar.addi c0_i32_721 v931
  v932.toNat
@[reducible] def k0_t2_loop : Scf.Loop 32 :=
  let c0_i32_742 : BitVec 32 := 0#32
  let c16_i32_743 : BitVec 32 := 16#32
  let v986 : BitVec 32 := Scalar.addi c0_i32_742 c16_i32_743
  let c1_i32_744 : BitVec 32 := 1#32
  ⟨c0_i32_742, v986, c1_i32_744⟩
def k0_off13 (k0_t2 : Fin k0_t2_loop.trips) : Fin 3 → Nat :=
  let c0_i32_742 : BitVec 32 := 0#32
  let c1_i32_744 : BitVec 32 := 1#32
  let arg21 : BitVec 32 := Scf.iv c0_i32_742 c1_i32_744 k0_t2
  let v3720 : Index := Scalar.indexCast arg21
  let c0_3019 : Index := 0#32
  let c0_3020 : Index := 0#32
  ![v3720.toNat, 0, 0]
def k0_off14 (k0_t2 : Fin k0_t2_loop.trips) : Fin 3 → Nat :=
  let c0_i32_742 : BitVec 32 := 0#32
  let c1_i32_744 : BitVec 32 := 1#32
  let arg21 : BitVec 32 := Scf.iv c0_i32_742 c1_i32_744 k0_t2
  let v3729 : Index := Scalar.indexCast arg21
  let c0_3024 : Index := 0#32
  let c0_3025 : Index := 0#32
  ![v3729.toNat, 0, 0]
def k0_off15 (k0_t2 : Fin k0_t2_loop.trips) : Fin 3 → Nat :=
  let c0_i32_742 : BitVec 32 := 0#32
  let c1_i32_744 : BitVec 32 := 1#32
  let arg21 : BitVec 32 := Scf.iv c0_i32_742 c1_i32_744 k0_t2
  let v3744 : Index := Scalar.indexCast arg21
  let c0_3032 : Index := 0#32
  let c0_3033 : Index := 0#32
  ![v3744.toNat, 0, 0]
def k0_dev11 (d0 : Dev nD) : Nat :=
  let c0_i32_1061 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1060 : BitVec 32 := 1#32
  let v1347 : BitVec 32 := Scalar.muli v10 c1_i32_1060
  let v1348 : BitVec 32 := Scalar.addi c0_i32_1061 v1347
  v1348.toNat
def k0_dev12 (d0 : Dev nD) : Nat :=
  let c0_i32_1071 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1070 : BitVec 32 := 1#32
  let v1357 : BitVec 32 := Scalar.muli v10 c1_i32_1070
  let v1358 : BitVec 32 := Scalar.addi c0_i32_1071 v1357
  v1358.toNat
def k0_dev13 (d0 : Dev nD) : Nat :=
  let c0_i32_1081 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1080 : BitVec 32 := 1#32
  let v1367 : BitVec 32 := Scalar.muli v16 c1_i32_1080
  let v1368 : BitVec 32 := Scalar.addi c0_i32_1081 v1367
  v1368.toNat
def k0_dev14 (d0 : Dev nD) : Nat :=
  let c0_i32_1091 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1090 : BitVec 32 := 1#32
  let v1377 : BitVec 32 := Scalar.muli v16 c1_i32_1090
  let v1378 : BitVec 32 := Scalar.addi c0_i32_1091 v1377
  v1378.toNat
@[reducible] def k0_t3_loop : Scf.Loop 32 :=
  let c0_i32_1112 : BitVec 32 := 0#32
  let c16_i32_1113 : BitVec 32 := 16#32
  let v1432 : BitVec 32 := Scalar.addi c0_i32_1112 c16_i32_1113
  let c1_i32_1114 : BitVec 32 := 1#32
  ⟨c0_i32_1112, v1432, c1_i32_1114⟩
def k0_off16 (k0_t3 : Fin k0_t3_loop.trips) : Fin 3 → Nat :=
  let c0_i32_1112 : BitVec 32 := 0#32
  let c1_i32_1114 : BitVec 32 := 1#32
  let arg21 : BitVec 32 := Scf.iv c0_i32_1112 c1_i32_1114 k0_t3
  let v3720 : Index := Scalar.indexCast arg21
  let c0_3019 : Index := 0#32
  let c0_3020 : Index := 0#32
  ![v3720.toNat, 0, 0]
def k0_off17 (k0_t3 : Fin k0_t3_loop.trips) : Fin 3 → Nat :=
  let c0_i32_1112 : BitVec 32 := 0#32
  let c1_i32_1114 : BitVec 32 := 1#32
  let arg21 : BitVec 32 := Scf.iv c0_i32_1112 c1_i32_1114 k0_t3
  let v3729 : Index := Scalar.indexCast arg21
  let c0_3024 : Index := 0#32
  let c0_3025 : Index := 0#32
  ![v3729.toNat, 0, 0]
def k0_off18 (k0_t3 : Fin k0_t3_loop.trips) : Fin 3 → Nat :=
  let c0_i32_1112 : BitVec 32 := 0#32
  let c1_i32_1114 : BitVec 32 := 1#32
  let arg21 : BitVec 32 := Scf.iv c0_i32_1112 c1_i32_1114 k0_t3
  let v3744 : Index := Scalar.indexCast arg21
  let c0_3032 : Index := 0#32
  let c0_3033 : Index := 0#32
  ![v3744.toNat, 0, 0]
def k0_dev15 (d0 : Dev nD) : Nat :=
  let c0_i32_1431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1430 : BitVec 32 := 1#32
  let v1793 : BitVec 32 := Scalar.muli v10 c1_i32_1430
  let v1794 : BitVec 32 := Scalar.addi c0_i32_1431 v1793
  v1794.toNat
def k0_dev16 (d0 : Dev nD) : Nat :=
  let c0_i32_1441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1440 : BitVec 32 := 1#32
  let v1803 : BitVec 32 := Scalar.muli v10 c1_i32_1440
  let v1804 : BitVec 32 := Scalar.addi c0_i32_1441 v1803
  v1804.toNat
def k0_dev17 (d0 : Dev nD) : Nat :=
  let c0_i32_1451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1450 : BitVec 32 := 1#32
  let v1813 : BitVec 32 := Scalar.muli v16 c1_i32_1450
  let v1814 : BitVec 32 := Scalar.addi c0_i32_1451 v1813
  v1814.toNat
def k0_dev18 (d0 : Dev nD) : Nat :=
  let c0_i32_1461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1460 : BitVec 32 := 1#32
  let v1823 : BitVec 32 := Scalar.muli v16 c1_i32_1460
  let v1824 : BitVec 32 := Scalar.addi c0_i32_1461 v1823
  v1824.toNat
@[reducible] def k0_t4_loop : Scf.Loop 32 :=
  let c0_i32_1482 : BitVec 32 := 0#32
  let c16_i32_1483 : BitVec 32 := 16#32
  let v1878 : BitVec 32 := Scalar.addi c0_i32_1482 c16_i32_1483
  let c1_i32_1484 : BitVec 32 := 1#32
  ⟨c0_i32_1482, v1878, c1_i32_1484⟩
def k0_off19 (k0_t4 : Fin k0_t4_loop.trips) : Fin 3 → Nat :=
  let c0_i32_1482 : BitVec 32 := 0#32
  let c1_i32_1484 : BitVec 32 := 1#32
  let arg21 : BitVec 32 := Scf.iv c0_i32_1482 c1_i32_1484 k0_t4
  let v3720 : Index := Scalar.indexCast arg21
  let c0_3019 : Index := 0#32
  let c0_3020 : Index := 0#32
  ![v3720.toNat, 0, 0]
def k0_off20 (k0_t4 : Fin k0_t4_loop.trips) : Fin 3 → Nat :=
  let c0_i32_1482 : BitVec 32 := 0#32
  let c1_i32_1484 : BitVec 32 := 1#32
  let arg21 : BitVec 32 := Scf.iv c0_i32_1482 c1_i32_1484 k0_t4
  let v3729 : Index := Scalar.indexCast arg21
  let c0_3024 : Index := 0#32
  let c0_3025 : Index := 0#32
  ![v3729.toNat, 0, 0]
def k0_off21 (k0_t4 : Fin k0_t4_loop.trips) : Fin 3 → Nat :=
  let c0_i32_1482 : BitVec 32 := 0#32
  let c1_i32_1484 : BitVec 32 := 1#32
  let arg21 : BitVec 32 := Scf.iv c0_i32_1482 c1_i32_1484 k0_t4
  let v3744 : Index := Scalar.indexCast arg21
  let c0_3032 : Index := 0#32
  let c0_3033 : Index := 0#32
  ![v3744.toNat, 0, 0]
def k0_dev19 (d0 : Dev nD) : Nat :=
  let c0_i32_1801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1800 : BitVec 32 := 1#32
  let v2239 : BitVec 32 := Scalar.muli v10 c1_i32_1800
  let v2240 : BitVec 32 := Scalar.addi c0_i32_1801 v2239
  v2240.toNat
def k0_dev20 (d0 : Dev nD) : Nat :=
  let c0_i32_1811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1810 : BitVec 32 := 1#32
  let v2249 : BitVec 32 := Scalar.muli v10 c1_i32_1810
  let v2250 : BitVec 32 := Scalar.addi c0_i32_1811 v2249
  v2250.toNat
def k0_dev21 (d0 : Dev nD) : Nat :=
  let c0_i32_1821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1820 : BitVec 32 := 1#32
  let v2259 : BitVec 32 := Scalar.muli v16 c1_i32_1820
  let v2260 : BitVec 32 := Scalar.addi c0_i32_1821 v2259
  v2260.toNat
def k0_dev22 (d0 : Dev nD) : Nat :=
  let c0_i32_1831 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1830 : BitVec 32 := 1#32
  let v2269 : BitVec 32 := Scalar.muli v16 c1_i32_1830
  let v2270 : BitVec 32 := Scalar.addi c0_i32_1831 v2269
  v2270.toNat
@[reducible] def k0_t5_loop : Scf.Loop 32 :=
  let c0_i32_1852 : BitVec 32 := 0#32
  let c16_i32_1853 : BitVec 32 := 16#32
  let v2324 : BitVec 32 := Scalar.addi c0_i32_1852 c16_i32_1853
  let c1_i32_1854 : BitVec 32 := 1#32
  ⟨c0_i32_1852, v2324, c1_i32_1854⟩
def k0_off22 (k0_t5 : Fin k0_t5_loop.trips) : Fin 3 → Nat :=
  let c0_i32_1852 : BitVec 32 := 0#32
  let c1_i32_1854 : BitVec 32 := 1#32
  let arg21 : BitVec 32 := Scf.iv c0_i32_1852 c1_i32_1854 k0_t5
  let v3720 : Index := Scalar.indexCast arg21
  let c0_3019 : Index := 0#32
  let c0_3020 : Index := 0#32
  ![v3720.toNat, 0, 0]
def k0_off23 (k0_t5 : Fin k0_t5_loop.trips) : Fin 3 → Nat :=
  let c0_i32_1852 : BitVec 32 := 0#32
  let c1_i32_1854 : BitVec 32 := 1#32
  let arg21 : BitVec 32 := Scf.iv c0_i32_1852 c1_i32_1854 k0_t5
  let v3729 : Index := Scalar.indexCast arg21
  let c0_3024 : Index := 0#32
  let c0_3025 : Index := 0#32
  ![v3729.toNat, 0, 0]
def k0_off24 (k0_t5 : Fin k0_t5_loop.trips) : Fin 3 → Nat :=
  let c0_i32_1852 : BitVec 32 := 0#32
  let c1_i32_1854 : BitVec 32 := 1#32
  let arg21 : BitVec 32 := Scf.iv c0_i32_1852 c1_i32_1854 k0_t5
  let v3744 : Index := Scalar.indexCast arg21
  let c0_3032 : Index := 0#32
  let c0_3033 : Index := 0#32
  ![v3744.toNat, 0, 0]
def k0_dev23 (d0 : Dev nD) : Nat :=
  let c0_i32_2170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2169 : BitVec 32 := 1#32
  let v2685 : BitVec 32 := Scalar.muli v10 c1_i32_2169
  let v2686 : BitVec 32 := Scalar.addi c0_i32_2170 v2685
  v2686.toNat
def k0_dev24 (d0 : Dev nD) : Nat :=
  let c0_i32_2180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2179 : BitVec 32 := 1#32
  let v2695 : BitVec 32 := Scalar.muli v10 c1_i32_2179
  let v2696 : BitVec 32 := Scalar.addi c0_i32_2180 v2695
  v2696.toNat
def k0_dev25 (d0 : Dev nD) : Nat :=
  let c0_i32_2190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2189 : BitVec 32 := 1#32
  let v2705 : BitVec 32 := Scalar.muli v16 c1_i32_2189
  let v2706 : BitVec 32 := Scalar.addi c0_i32_2190 v2705
  v2706.toNat
def k0_dev26 (d0 : Dev nD) : Nat :=
  let c0_i32_2200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2199 : BitVec 32 := 1#32
  let v2715 : BitVec 32 := Scalar.muli v16 c1_i32_2199
  let v2716 : BitVec 32 := Scalar.addi c0_i32_2200 v2715
  v2716.toNat
@[reducible] def k0_t6_loop : Scf.Loop 32 :=
  let c0_i32_2221 : BitVec 32 := 0#32
  let c16_i32_2222 : BitVec 32 := 16#32
  let v2770 : BitVec 32 := Scalar.addi c0_i32_2221 c16_i32_2222
  let c1_i32_2223 : BitVec 32 := 1#32
  ⟨c0_i32_2221, v2770, c1_i32_2223⟩
def k0_off25 (k0_t6 : Fin k0_t6_loop.trips) : Fin 3 → Nat :=
  let c0_i32_2221 : BitVec 32 := 0#32
  let c1_i32_2223 : BitVec 32 := 1#32
  let arg21 : BitVec 32 := Scf.iv c0_i32_2221 c1_i32_2223 k0_t6
  let v3720 : Index := Scalar.indexCast arg21
  let c0_3019 : Index := 0#32
  let c0_3020 : Index := 0#32
  ![v3720.toNat, 0, 0]
def k0_off26 (k0_t6 : Fin k0_t6_loop.trips) : Fin 3 → Nat :=
  let c0_i32_2221 : BitVec 32 := 0#32
  let c1_i32_2223 : BitVec 32 := 1#32
  let arg21 : BitVec 32 := Scf.iv c0_i32_2221 c1_i32_2223 k0_t6
  let v3729 : Index := Scalar.indexCast arg21
  let c0_3024 : Index := 0#32
  let c0_3025 : Index := 0#32
  ![v3729.toNat, 0, 0]
def k0_off27 (k0_t6 : Fin k0_t6_loop.trips) : Fin 3 → Nat :=
  let c0_i32_2221 : BitVec 32 := 0#32
  let c1_i32_2223 : BitVec 32 := 1#32
  let arg21 : BitVec 32 := Scf.iv c0_i32_2221 c1_i32_2223 k0_t6
  let v3744 : Index := Scalar.indexCast arg21
  let c0_3032 : Index := 0#32
  let c0_3033 : Index := 0#32
  ![v3744.toNat, 0, 0]
def k0_dev27 (d0 : Dev nD) : Nat :=
  let c0_i32_2539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2538 : BitVec 32 := 1#32
  let v3131 : BitVec 32 := Scalar.muli v10 c1_i32_2538
  let v3132 : BitVec 32 := Scalar.addi c0_i32_2539 v3131
  v3132.toNat
def k0_dev28 (d0 : Dev nD) : Nat :=
  let c0_i32_2549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_2548 : BitVec 32 := 1#32
  let v3141 : BitVec 32 := Scalar.muli v10 c1_i32_2548
  let v3142 : BitVec 32 := Scalar.addi c0_i32_2549 v3141
  v3142.toNat
def k0_dev29 (d0 : Dev nD) : Nat :=
  let c0_i32_2559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2558 : BitVec 32 := 1#32
  let v3151 : BitVec 32 := Scalar.muli v16 c1_i32_2558
  let v3152 : BitVec 32 := Scalar.addi c0_i32_2559 v3151
  v3152.toNat
def k0_dev30 (d0 : Dev nD) : Nat :=
  let c0_i32_2569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2568 : BitVec 32 := 1#32
  let v3161 : BitVec 32 := Scalar.muli v16 c1_i32_2568
  let v3162 : BitVec 32 := Scalar.addi c0_i32_2569 v3161
  v3162.toNat
@[reducible] def k0_t7_loop : Scf.Loop 32 :=
  let c0_i32_2590 : BitVec 32 := 0#32
  let c16_i32_2591 : BitVec 32 := 16#32
  let v3216 : BitVec 32 := Scalar.addi c0_i32_2590 c16_i32_2591
  let c1_i32_2592 : BitVec 32 := 1#32
  ⟨c0_i32_2590, v3216, c1_i32_2592⟩
def k0_off28 (k0_t7 : Fin k0_t7_loop.trips) : Fin 3 → Nat :=
  let c0_i32_2590 : BitVec 32 := 0#32
  let c1_i32_2592 : BitVec 32 := 1#32
  let arg21 : BitVec 32 := Scf.iv c0_i32_2590 c1_i32_2592 k0_t7
  let v3720 : Index := Scalar.indexCast arg21
  let c0_3019 : Index := 0#32
  let c0_3020 : Index := 0#32
  ![v3720.toNat, 0, 0]
def k0_off29 (k0_t7 : Fin k0_t7_loop.trips) : Fin 3 → Nat :=
  let c0_i32_2590 : BitVec 32 := 0#32
  let c1_i32_2592 : BitVec 32 := 1#32
  let arg21 : BitVec 32 := Scf.iv c0_i32_2590 c1_i32_2592 k0_t7
  let v3729 : Index := Scalar.indexCast arg21
  let c0_3024 : Index := 0#32
  let c0_3025 : Index := 0#32
  ![v3729.toNat, 0, 0]
def k0_off30 (k0_t7 : Fin k0_t7_loop.trips) : Fin 3 → Nat :=
  let c0_i32_2590 : BitVec 32 := 0#32
  let c1_i32_2592 : BitVec 32 := 1#32
  let arg21 : BitVec 32 := Scf.iv c0_i32_2590 c1_i32_2592 k0_t7
  let v3744 : Index := Scalar.indexCast arg21
  let c0_3032 : Index := 0#32
  let c0_3033 : Index := 0#32
  ![v3744.toNat, 0, 0]
@[reducible] def k0_t8_loop : Scf.Loop 32 :=
  let c0_i32_2909 : BitVec 32 := 0#32
  let c16_i32_2910 : BitVec 32 := 16#32
  let v3609 : BitVec 32 := Scalar.addi c0_i32_2909 c16_i32_2910
  let c1_i32_2911 : BitVec 32 := 1#32
  ⟨c0_i32_2909, v3609, c1_i32_2911⟩
def k0_off31 (k0_t8 : Fin k0_t8_loop.trips) : Fin 3 → Nat :=
  let c0_i32_2909 : BitVec 32 := 0#32
  let c1_i32_2911 : BitVec 32 := 1#32
  let arg21 : BitVec 32 := Scf.iv c0_i32_2909 c1_i32_2911 k0_t8
  let v3720 : Index := Scalar.indexCast arg21
  let c0_3019 : Index := 0#32
  let c0_3020 : Index := 0#32
  ![v3720.toNat, 0, 0]
def k0_off32 (k0_t8 : Fin k0_t8_loop.trips) : Fin 3 → Nat :=
  let c0_i32_2909 : BitVec 32 := 0#32
  let c1_i32_2911 : BitVec 32 := 1#32
  let arg21 : BitVec 32 := Scf.iv c0_i32_2909 c1_i32_2911 k0_t8
  let v3729 : Index := Scalar.indexCast arg21
  let c0_3024 : Index := 0#32
  let c0_3025 : Index := 0#32
  ![v3729.toNat, 0, 0]
def k0_off33 (k0_t8 : Fin k0_t8_loop.trips) : Fin 3 → Nat :=
  let c0_i32_2909 : BitVec 32 := 0#32
  let c1_i32_2911 : BitVec 32 := 1#32
  let arg21 : BitVec 32 := Scf.iv c0_i32_2909 c1_i32_2911 k0_t8
  let v3744 : Index := Scalar.indexCast arg21
  let c0_3032 : Index := 0#32
  let c0_3033 : Index := 0#32
  ![v3744.toNat, 0, 0]
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "qscale" => some (((1 / 8) * (Real.log 2)⁻¹ : ℝ) : EReal)
  | _ => none
-- ==== ReferenceIdeal.lean ====
abbrev S2x4096x768 : Shape := ⟨3, ![2, 4096, 768]⟩
abbrev S768x512 : Shape := ⟨2, ![768, 512]⟩
abbrev S2x4096x8x64 : Shape := ⟨4, ![2, 4096, 8, 64]⟩
abbrev S512x768 : Shape := ⟨2, ![512, 768]⟩
abbrev S2x4096x512 : Shape := ⟨3, ![2, 4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2x8x4096x4096 : Shape := ⟨4, ![2, 8, 4096, 4096]⟩
abbrev S1x1x4096x4096 : Shape := ⟨4, ![1, 1, 4096, 4096]⟩
abbrev S2x8x4096 : Shape := ⟨3, ![2, 8, 4096]⟩
abbrev S2x8x4096x1 : Shape := ⟨4, ![2, 8, 4096, 1]⟩
abbrev S1x1x4096x1 : Shape := ⟨4, ![1, 1, 4096, 1]⟩
abbrev S2x8x64x4096 : Shape := ⟨4, ![2, 8, 64, 4096]⟩

abbrev nBuf : Space → Nat
  | .hbm => 128
  | .vmem => 0
  | .smem => 0
  | _ => 0

abbrev bufTy : (tb : Table) → Fin (tcTables nBuf tb) → BufTy
  | .hbm, ⟨0, _⟩ => ⟨S2x4096x768, .bf16⟩
  | .hbm, ⟨1, _⟩ => ⟨S768x512, .bf16⟩
  | .hbm, ⟨2, _⟩ => ⟨S2x4096x8x64, .bf16⟩
  | .hbm, ⟨3, _⟩ => ⟨S2x4096x8x64, .bf16⟩
  | .hbm, ⟨4, _⟩ => ⟨S512x768, .bf16⟩
  | .hbm, ⟨5, _⟩ => ⟨S2x4096x768, .f32⟩
  | .hbm, ⟨6, _⟩ => ⟨S768x512, .f32⟩
  | .hbm, ⟨7, _⟩ => ⟨S2x4096x8x64, .f32⟩
  | .hbm, ⟨8, _⟩ => ⟨S2x4096x8x64, .f32⟩
  | .hbm, ⟨9, _⟩ => ⟨S512x768, .f32⟩
  | .hbm, ⟨10, _⟩ => ⟨S2x4096x512, .f32⟩
  | .hbm, ⟨11, _⟩ => ⟨S2x4096x8x64, .f32⟩
  | .hbm, ⟨12, _⟩ => ⟨S4096, .i32⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096, .i32⟩
  | .hbm, ⟨33, _⟩ => ⟨S_, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S1x4096, .i32⟩
  | .hbm, ⟨52, _⟩ => ⟨S4096x4096, .i32⟩
  | .hbm, ⟨53, _⟩ => ⟨S4096x4096, .i32⟩
  | .hbm, ⟨54, _⟩ => ⟨S4096x4096, .i1⟩
  | .hbm, ⟨55, _⟩ => ⟨S_, .i32⟩
  | .hbm, ⟨56, _⟩ => ⟨S1x4096, .i32⟩
  | .hbm, ⟨57, _⟩ => ⟨S1x4096, .i1⟩
  | .hbm, ⟨58, _⟩ => ⟨S4096x4096, .i1⟩
  | .hbm, ⟨59, _⟩ => ⟨S4096x4096, .i1⟩
  | .hbm, ⟨60, _⟩ => ⟨S4096x4096, .i32⟩
  | .hbm, ⟨61, _⟩ => ⟨S4096x4096, .i32⟩
  | .hbm, ⟨62, _⟩ => ⟨S4096x4096, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S4096x4096, .i32⟩
  | .hbm, ⟨70, _⟩ => ⟨S4096x4096, .i32⟩
  | .hbm, ⟨71, _⟩ => ⟨S_, .i32⟩
  | .hbm, ⟨72, _⟩ => ⟨S4096x4096, .i32⟩
  | .hbm, ⟨73, _⟩ => ⟨S4096x4096, .i1⟩
  | .hbm, ⟨74, _⟩ => ⟨S_, .i32⟩
  | .hbm, ⟨75, _⟩ => ⟨S4096x4096, .i32⟩
  | .hbm, ⟨76, _⟩ => ⟨S4096x4096, .i1⟩
  | .hbm, ⟨77, _⟩ => ⟨S_, .i32⟩
  | .hbm, ⟨78, _⟩ => ⟨S_, .i1⟩
  | .hbm, ⟨79, _⟩ => ⟨S4096x4096, .i1⟩
  | .hbm, ⟨80, _⟩ => ⟨S4096x4096, .i1⟩
  | .hbm, ⟨81, _⟩ => ⟨S4096x4096, .i1⟩
  | .hbm, ⟨82, _⟩ => ⟨S4096x4096, .i32⟩
  | .hbm, ⟨83, _⟩ => ⟨S4096x4096, .i32⟩
  | .hbm, ⟨84, _⟩ => ⟨S4096x4096, .i32⟩
  | .hbm, ⟨85, _⟩ => ⟨S_, .i32⟩
  | .hbm, ⟨86, _⟩ => ⟨S4096x4096, .i32⟩
  | .hbm, ⟨87, _⟩ => ⟨S4096x4096, .i1⟩
  | .hbm, ⟨88, _⟩ => ⟨S4096x4096, .i1⟩
  | .hbm, ⟨89, _⟩ => ⟨S2x8x4096x4096, .f32⟩
  | .hbm, ⟨90, _⟩ => ⟨S_, .f32⟩
  | .hbm, ⟨91, _⟩ => ⟨S2x8x4096x4096, .f32⟩
  | .hbm, ⟨92, _⟩ => ⟨S2x8x4096x4096, .f32⟩
  | .hbm, ⟨93, _⟩ => ⟨S1x1x4096x4096, .i1⟩
  | .hbm, ⟨94, _⟩ => ⟨S_, .f32⟩
  | .hbm, ⟨95, _⟩ => ⟨S_, .f32⟩
  | .hbm, ⟨96, _⟩ => ⟨S2x8x4096x4096, .i1⟩
  | .hbm, ⟨97, _⟩ => ⟨S2x8x4096x4096, .f32⟩
  | .hbm, ⟨98, _⟩ => ⟨S2x8x4096x4096, .f32⟩
  | .hbm, ⟨99, _⟩ => ⟨S_, .f32⟩
  | .hbm, ⟨100, _⟩ => ⟨S2x8x4096, .f32⟩
  | .hbm, ⟨101, _⟩ => ⟨S2x8x4096x1, .f32⟩
  | .hbm, ⟨102, _⟩ => ⟨S2x8x4096x4096, .f32⟩
  | .hbm, ⟨103, _⟩ => ⟨S2x8x4096x4096, .f32⟩
  | .hbm, ⟨104, _⟩ => ⟨S2x8x4096x4096, .f32⟩
  | .hbm, ⟨105, _⟩ => ⟨S_, .i1⟩
  | .hbm, ⟨106, _⟩ => ⟨S4096, .i1⟩
  | .hbm, ⟨107, _⟩ => ⟨S1x1x4096x1, .i1⟩
  | .hbm, ⟨108, _⟩ => ⟨S_, .f32⟩
  | .hbm, ⟨109, _⟩ => ⟨S2x8x4096, .f32⟩
  | .hbm, ⟨110, _⟩ => ⟨S2x8x4096x1, .f32⟩
  | .hbm, ⟨111, _⟩ => ⟨S_, .f32⟩
  | .hbm, ⟨112, _⟩ => ⟨S_, .f32⟩
  | .hbm, ⟨113, _⟩ => ⟨S2x8x4096x1, .i1⟩
  | .hbm, ⟨114, _⟩ => ⟨S2x8x4096x1, .f32⟩
  | .hbm, ⟨115, _⟩ => ⟨S2x8x4096x1, .f32⟩
  | .hbm, ⟨116, _⟩ => ⟨S2x8x4096x4096, .f32⟩
  | .hbm, ⟨117, _⟩ => ⟨S2x8x4096x4096, .f32⟩
  | .hbm, ⟨118, _⟩ => ⟨S1x1x4096x1, .i1⟩
  | .hbm, ⟨119, _⟩ => ⟨S_, .f32⟩
  | .hbm, ⟨120, _⟩ => ⟨S_, .f32⟩
  | .hbm, ⟨121, _⟩ => ⟨S2x8x4096x4096, .i1⟩
  | .hbm, ⟨122, _⟩ => ⟨S2x8x4096x4096, .f32⟩
  | .hbm, ⟨123, _⟩ => ⟨S2x8x4096x4096, .f32⟩
  | .hbm, ⟨124, _⟩ => ⟨S2x8x64x4096, .f32⟩
  | .hbm, ⟨125, _⟩ => ⟨S2x4096x8x64, .f32⟩
  | .hbm, ⟨126, _⟩ => ⟨S2x4096x512, .f32⟩
  | .hbm, ⟨127, _⟩ => ⟨S2x4096x768, .f32⟩
  | _, _ => ⟨S2x4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Prog.lean ====
/-
# The kernel's body as a structured program

The printed body is one long sequence of statements. This module writes the same sequence as nested steps —
the prelude, the projection, the hops, each head of each unpacking, the fold over the heads, the epilogue —,
each taking the program that follows it. `body_eq` states that the two are the same program.
-/
module

public import proofs.«01_k».proof.Proof.Gen.KernelIdeal
public import proofs.«01_k».proof.Proof.Gen.KernelIdeal.Launch

@[expose] public section

noncomputable section

namespace Cert.KernelIdeal.Attn

open Cert.KernelIdeal Cert.KernelIdeal.Gen
open Idealize.ShloMosaic Idealize.SL.Sem

variable {F : FTy → Type} [FloatOps F] [Named F]

/-- The scale of the queries, one eighth of the binary logarithm of e. -/
def qscaleC : F .f32 := Named.named κ "qscale" 0x3E38AA3B#32
/-- The bias of a key that the block mask leaves out. -/
def maskC : F .f32 := Named.named κ "mask" 0xCE6E6B28#32

/-! ## The buffers and the semaphores -/

abbrev mX : Memref sig .tc .vmem S2x512x768 .bf16 := Memref.whole cc0_stg0_0
abbrev mWq : Memref sig .tc .vmem S768x512 .bf16 := Memref.whole cc0_stg1_0
abbrev mK : Memref sig .tc .vmem S2x512x8x64 .bf16 := Memref.whole cc0_stg2_0
abbrev mV : Memref sig .tc .vmem S2x512x8x64 .bf16 := Memref.whole cc0_stg3_0
abbrev mWo : Memref sig .tc .vmem S512x768 .bf16 := Memref.whole cc0_stg4_0
abbrev mOut : Memref sig .tc .vmem S2x512x768 .f32 := Memref.whole cc0_stg5_0
abbrev mQh : Memref sig .tc .vmem S16x512x64 .bf16 := Memref.whole cc0_scratch0
abbrev mKf : Memref sig .tc .vmem S8x2x512x512 .bf16 := Memref.whole cc0_scratch1
abbrev mVf : Memref sig .tc .vmem S8x2x512x512 .bf16 := Memref.whole cc0_scratch2
abbrev mKh : Memref sig .tc .vmem S16x512x64 .bf16 := Memref.whole cc0_scratch3
abbrev mVh : Memref sig .tc .vmem S16x512x64 .bf16 := Memref.whole cc0_scratch4
abbrev mAcc : Memref sig .tc .vmem S16x64x512 .f32 := Memref.whole cc0_scratch5
abbrev mL : Memref sig .tc .vmem S16x1x512 .f32 := Memref.whole cc0_scratch6

theorem inb7 : ∀ hp : Fin 7, ∀ a, (![hp.val] : Fin 1 → Nat) a + S1.size a ≤ S7.size a := by decide

/-- Semaphore `hp` of an array of seven. -/
abbrev sm (A : DmaSems sig S7) (hp : Fin 7) : DmaSem sig :=
  ((A.slice (Rect.unit (s := S7) ![hp.val] S1.size (inb7 hp))).squeeze S_ squeezes_S1_S_).sem

/-- The half slab of a stage of K or V a hop copies, as a view of two by 256 by 512. -/
abbrev cp (m : Memref sig .tc .vmem S8x2x512x512 .bf16) (off : Fin 4 → Nat)
    (inb : ∀ a, off a + S1x2x256x512.size a ≤ S8x2x512x512.size a) : Memref sig .tc .vmem S2x256x512 .bf16 :=
  (m.slice (Rect.unit (s := S8x2x512x512) off S1x2x256x512.size inb) (fun _ => rfl)).squeeze S2x256x512
    squeezes_S1x2x256x512_S2x256x512

/-! ## The words -/

/-- The ring order's permutation, on words. -/
def prW (w : BitVec 32) : BitVec 32 := Scalar.select (Scalar.cmpi .slt w 4#32) w (Scalar.subi 11#32 w)
/-- The device's own number as the kernel computes it. -/
def myW (d0 : Dev nD) : BitVec 32 := Scalar.remsi (Scalar.divsi (Dev.word d0) 1#32) 8#32
/-- The device's position along the ring. -/
def rkW (d0 : Dev nD) : BitVec 32 := prW (myW d0)
/-- The origin of the first halves folded at hop `hp`. -/
def orgA (d0 : Dev nD) (hp : BitVec 32) : BitVec 32 :=
  prW (Scalar.remsi (Scalar.addi (Scalar.subi (rkW d0) hp) 16#32) 8#32)
/-- The origin of the second halves folded at hop `hp`. -/
def orgB (d0 : Dev nD) (hp : BitVec 32) : BitVec 32 :=
  prW (Scalar.remsi (Scalar.addi (rkW d0) hp) 8#32)
/-- The origin of the second halves of the last fold. -/
def orgZ (d0 : Dev nD) : BitVec 32 :=
  prW (Scalar.remsi (Scalar.addi (Scalar.subi (rkW d0) 1#32) 8#32) 8#32)

/-- The index along an axis of a square, divided by 64 rounding down, as the kernel computes it. -/
def div64 (v : IVec S512x512 32) : IVec S512x512 32 :=
  select
    (andi
      (cmpi .ne
        (subi (extui 32 (cmpi .sgt v (broadcast S512x512 0#32)) natLt_1_32)
          (extui 32 (cmpi .slt v (broadcast S512x512 0#32)) natLt_1_32))
        (broadcast S512x512
          (Scalar.subi (Scalar.extui (Scalar.cmpi .sgt 64#32 0#32)) (Scalar.extui (Scalar.cmpi .slt 64#32 0#32)))))
      (cmpi .ne (remsi v (broadcast S512x512 64#32)) (broadcast S512x512 0#32)))
    (subi (divsi v (broadcast S512x512 64#32)) (broadcast S512x512 1#32))
    (divsi v (broadcast S512x512 64#32))

/-- The row of an element of a square. -/
def rowV : IVec S512x512 32 := iota .tc S512x512 32 [0] iota_S512x512_d0_w32
/-- The block of the query at each column. -/
def qbV (d0 : Dev nD) : IVec S512x512 32 :=
  addi (broadcast S512x512 (Scalar.muli (myW d0) 8#32)) (div64 (iota .tc S512x512 32 [1] iota_S512x512_d1_w32))
/-- The block of the key at each row, the upper half of origin `wA`, the lower of `wB`. -/
def kbV (wA wB : BitVec 32) : IVec S512x512 32 :=
  addi
    (muli
      (select (cmpi .slt rowV (broadcast S512x512 256#32)) (broadcast S512x512 wA) (broadcast S512x512 wB))
      (broadcast S512x512 8#32))
    (div64 rowV)
/-- The bias of a tile: zero where the block mask keeps the pair, the mask constant elsewhere. -/
def biasV (d0 : Dev nD) (wA wB : BitVec 32) : FVec F S512x512 .f32 :=
  select
    (ori (ori (cmpi .eq (qbV d0) (kbV wA wB)) (cmpi .eq (kbV wA wB) (broadcast S512x512 0#32)))
      (cmpi .eq (remsi (addi (qbV d0) (kbV wA wB)) (broadcast S512x512 3#32)) (broadcast S512x512 0#32)))
    (broadcast S512x512 (Scalar.ofBits .f32 0x00000000#32)) (broadcast S512x512 maskC)

/-! ## The steps -/

/-- The programs of the body. -/
abbrev Pg (F : FTy → Type) : Type 1 := Prog (TpuEff nD τ sig (Elt F) Λ₀ .tc) PUnit

theorem inbHead : ∀ (b : Fin 2) (h : Fin 8), ∀ a,
    (![8 * b.val + h.val, 0, 0] : Fin 3 → Nat) a + S1x512x64.size a ≤ S16x512x64.size a := by decide
theorem inbHalf : ∀ (b : Fin 2) (h : Fin 8) (z : Fin 2), ∀ a,
    (![8 * b.val + h.val, 256 * z.val, 0] : Fin 3 → Nat) a + S1x256x64.size a ≤ S16x512x64.size a := by decide
theorem inbAcc : ∀ (b : Fin 2) (h : Fin 8), ∀ a,
    (![8 * b.val + h.val, 0, 0] : Fin 3 → Nat) a + S1x64x512.size a ≤ S16x64x512.size a := by decide
theorem inbL : ∀ (b : Fin 2) (h : Fin 8), ∀ a,
    (![8 * b.val + h.val, 0, 0] : Fin 3 → Nat) a + S1x1x512.size a ≤ S16x1x512.size a := by decide
theorem inbX : ∀ (b : Fin 2), ∀ a,
    (![b.val, 0, 0] : Fin 3 → Nat) a + S1x512x768.size a ≤ S2x512x768.size a := by decide
theorem slicesHead : ∀ (h : Fin 8), S512x512.Slices ![0, 64 * h.val] S512x64 := by decide
theorem slicesHalf : ∀ (h : Fin 8) (z : Fin 2), S512x512.Slices ![256 * z.val, 64 * h.val] S256x64 := by decide
theorem packedHead : ∀ (b : Fin 2) (h : Fin 8),
    (Rect.unit (s := S16x512x64) ![8 * b.val + h.val, 0, 0] S1x512x64.size (inbHead b h)).PackedRows
      (EltTy.packing .bf16) := by decide
theorem packedHalf : ∀ (b : Fin 2) (h : Fin 8) (z : Fin 2),
    (Rect.unit (s := S16x512x64) ![8 * b.val + h.val, 256 * z.val, 0] S1x256x64.size (inbHalf b h z)).PackedRows
      (EltTy.packing .bf16) := by decide

/-- The two barrier signals and the wait for both neighbours' signals. -/
def barrierK (d0 : Dev nD) (k : Pg F) : Pg F :=
  .op (.semSignal ((⟨k0_dev1 d0, k0_dev1_lt d0⟩ : Dev nD), Proc.tc) barrier0 (1#32 : BitVec 32).toInt) fun _ =>
  .op (.semSignal ((⟨k0_dev2 d0, k0_dev2_lt d0⟩ : Dev nD), Proc.tc) barrier0 (1#32 : BitVec 32).toInt) fun _ =>
  .op (.semWait barrier0 (2#32 : BitVec 32).toInt) fun _ => k

/-- The device's own slab of K or V, as its store takes it. -/
def ownV (v : Vec F S2x512x8x64 .bf16) : FVec F S1x2x512x512 .bf16 :=
  shapeCast S1x2x512x512
    (shapeCast S2x512x512 (shapeCast S2x512x8x64 v shapeCasts_S2x512x8x64_S2x512x8x64) shapeCasts_S2x512x8x64_S2x512x512)
    shapeCasts_S2x512x512_S1x2x512x512

/-- One of K and V from its window into the device's own stage of the full buffer. -/
def ownK (d0 : Dev nD) (m : Memref sig .tc .vmem S2x512x8x64 .bf16) (mf : Memref sig .tc .vmem S8x2x512x512 .bf16)
    (hf : mf.IsWhole) (k : Pg F) : Pg F :=
  .op (.load m (Rect.unit (s := S2x512x8x64) ![0, 0, 0, 0] S2x512x8x64.size inb_S2x512x8x64_S2x512x8x64_0_0_0_0).toLoadRect
    (View.loadsAt_vmem h_S2x512x8x64)) fun (v : Vec F S2x512x8x64 .bf16) =>
  .op (.load mf (Rect.unit (s := S8x2x512x512) (k0_off1 d0) S1x2x512x512.size (k0_off1_inb d0)).toLoadRect
    (View.loadsAt_vmem h_S1x2x512x512)) fun _ =>
  .op (.store mf (Rect.unit (s := S8x2x512x512) (k0_off1 d0) S1x2x512x512.size (k0_off1_inb d0)) (ownV v) Finset.univ
    (View.stores_vmem h_S1x2x512x512 (hf.storeExact_slice rfl _ (k0_off1_packedbf16 d0)) (fun _ => rfl)) (.inl rfl))
    fun _ => k

/-- The scaled queries of one batch element, all heads side by side. -/
def projV (wq : Vec F S768x512 .bf16) (x : Vec F S1x512x768 .bf16) : FVec F S512x512 .bf16 :=
  truncf .bf16
    (mulf
      (matmul dot_S512x768_S768x512_S512x512_1_0_0_1_n_n none (shapeCast S512x768 x shapeCasts_S1x512x768_S512x768)
        (shapeCast S768x512 wq shapeCasts_S768x512_S768x512) (constant S512x512 .f32 0x00000000#32))
      (broadcast S512x512 qscaleC))
    bitsLt_bf16_f32

/-- The queries of head `h`, as their store takes them. -/
def qHeadV (q : FVec F S512x512 .bf16) (h : Fin 8) : FVec F S1x512x64 .bf16 :=
  shapeCast S1x512x64 (extractStridedSlice S512x64 ![0, 64 * h.val] q (slicesHead h)) shapeCasts_S512x64_S1x512x64

/-- The store of one head's queries. -/
def qHeadK (b : Fin 2) (q : FVec F S512x512 .bf16) (h : Fin 8) (k : Pg F) : Pg F :=
  .op (.load mQh (Rect.unit (s := S16x512x64) ![8 * b.val + h.val, 0, 0] S1x512x64.size (inbHead b h)).toLoadRect
    (View.loadsAt_vmem h_S1x512x64)) fun _ =>
  .op (.store mQh (Rect.unit (s := S16x512x64) ![8 * b.val + h.val, 0, 0] S1x512x64.size (inbHead b h)) (qHeadV q h)
    Finset.univ (View.stores_vmem h_S1x512x64 ((Memref.isWhole_whole _).storeExact_slice rfl _ (packedHead b h)) (fun _ => rfl))
    (.inl rfl)) fun _ => k

/-- The heads of a batch element. -/
abbrev heads : List (Fin 8) := [0, 1, 2, 3, 4, 5, 6, 7]

/-- A step for each head of a list, in order. -/
def each (f : Fin 8 → Pg F → Pg F) : List (Fin 8) → Pg F → Pg F
  | [], k => k
  | h :: hs, k => f h (each f hs k)

/-- The queries of one batch element: the product, then a store for each head. -/
def projK (b : Fin 2) (wq : Vec F S768x512 .bf16) (k : Pg F) : Pg F :=
  .op (.load mX (Rect.unit (s := S2x512x768) ![b.val, 0, 0] S1x512x768.size (inbX b)).toLoadRect
    (View.loadsAt_vmem h_S1x512x768)) fun (x : Vec F S1x512x768 .bf16) =>
  each (qHeadK b (projV wq x)) heads k

/-- The zeros both accumulators start from. -/
def zeroK (k : Pg F) : Pg F :=
  .op (.load mL (Rect.unit (s := S16x1x512) ![0, 0, 0] S16x1x512.size inb_S16x1x512_S16x1x512_0_0_0).toLoadRect
    (View.loadsAt_vmem h_S16x1x512)) fun _ =>
  .op (.store mL (Rect.unit (s := S16x1x512) ![0, 0, 0] S16x1x512.size inb_S16x1x512_S16x1x512_0_0_0)
    (shapeCast S16x1x512 (broadcast S16x1x512 (Scalar.ofBits .f32 0x00000000#32 : F .f32)) shapeCasts_S16x1x512_S16x1x512)
    Finset.univ (View.stores_vmem_bits_univ h_S16x1x512 rfl) (.inl rfl)) fun _ =>
  .op (.load mAcc (Rect.unit (s := S16x64x512) ![0, 0, 0] S16x64x512.size inb_S16x64x512_S16x64x512_0_0_0).toLoadRect
    (View.loadsAt_vmem h_S16x64x512)) fun _ =>
  .op (.store mAcc (Rect.unit (s := S16x64x512) ![0, 0, 0] S16x64x512.size inb_S16x64x512_S16x64x512_0_0_0)
    (shapeCast S16x64x512 (broadcast S16x64x512 (Scalar.ofBits .f32 0x00000000#32 : F .f32)) shapeCasts_S16x64x512_S16x64x512)
    Finset.univ (View.stores_vmem_bits_univ h_S16x64x512 rfl) (.inl rfl)) fun _ => k

/-! ### The unpacking of a slab into heads -/

/-- One head's half rows of a slab, as their store takes them. -/
def halfV (v : Vec F S1x1x512x512 .bf16) (h : Fin 8) (z : Fin 2) : FVec F S1x256x64 .bf16 :=
  shapeCast S1x256x64
    (extractStridedSlice S256x64 ![256 * z.val, 64 * h.val] (shapeCast S512x512 v shapeCasts_S1x1x512x512_S512x512)
      (slicesHalf h z))
    shapeCasts_S256x64_S1x256x64

/-- The store of one half of one head. -/
def halfK (m : Memref sig .tc .vmem S16x512x64 .bf16) (hm : m.IsWhole) (b : Fin 2) (v : Vec F S1x1x512x512 .bf16)
    (z : Fin 2) (h : Fin 8) (k : Pg F) : Pg F :=
  .op (.load m (Rect.unit (s := S16x512x64) ![8 * b.val + h.val, 256 * z.val, 0] S1x256x64.size (inbHalf b h z)).toLoadRect
    (View.loadsAt_vmem h_S1x256x64)) fun _ =>
  .op (.store m (Rect.unit (s := S16x512x64) ![8 * b.val + h.val, 256 * z.val, 0] S1x256x64.size (inbHalf b h z))
    (halfV v h z) Finset.univ
    (View.stores_vmem h_S1x256x64 (hm.storeExact_slice rfl _ (packedHalf b h z)) (fun _ => rfl)) (.inl rfl)) fun _ => k

/-- The four stores of one head: K and V, the upper halves and the lower. -/
def headK (b : Fin 2) (ka va kb vb : Vec F S1x1x512x512 .bf16) (h : Fin 8) (k : Pg F) : Pg F :=
  halfK mKh (Memref.isWhole_whole _) b ka 0 h (halfK mVh (Memref.isWhole_whole _) b va 0 h
    (halfK mKh (Memref.isWhole_whole _) b kb 1 h (halfK mVh (Memref.isWhole_whole _) b vb 1 h k)))

/-- The unpacking of one batch element: the slabs at offsets `oA` and `oB`, then the heads. -/
def unpackK (b : Fin 2) (oA oB : Fin 4 → Nat) (iA : ∀ a, oA a + S1x1x512x512.size a ≤ S8x2x512x512.size a)
    (iB : ∀ a, oB a + S1x1x512x512.size a ≤ S8x2x512x512.size a) (k : Pg F) : Pg F :=
  .op (.load mKf (Rect.unit (s := S8x2x512x512) oA S1x1x512x512.size iA).toLoadRect
    (View.loadsAt_vmem h_S1x1x512x512)) fun (ka : Vec F S1x1x512x512 .bf16) =>
  .op (.load mVf (Rect.unit (s := S8x2x512x512) oA S1x1x512x512.size iA).toLoadRect
    (View.loadsAt_vmem h_S1x1x512x512)) fun (va : Vec F S1x1x512x512 .bf16) =>
  .op (.load mKf (Rect.unit (s := S8x2x512x512) oB S1x1x512x512.size iB).toLoadRect
    (View.loadsAt_vmem h_S1x1x512x512)) fun (kb : Vec F S1x1x512x512 .bf16) =>
  .op (.load mVf (Rect.unit (s := S8x2x512x512) oB S1x1x512x512.size iB).toLoadRect
    (View.loadsAt_vmem h_S1x1x512x512)) fun (vb : Vec F S1x1x512x512 .bf16) =>
  each (headK b ka va kb vb) heads k

/-! ### The fold -/

/-- The weights of a tile of one head. -/
def pV (bias : FVec F S512x512 .f32) (q kh : Vec F S1x512x64 .bf16) : FVec F S512x512 .f32 :=
  exp2 (addf
    (matmul dot_S512x64_S512x64_S512x512_1_1_0_0_n_n none (shapeCast S512x64 kh shapeCasts_S1x512x64_S512x64)
      (shapeCast S512x64 q shapeCasts_S1x512x64_S512x64) (constant S512x512 .f32 0x00000000#32))
    bias)

/-- The row sums after a tile. -/
def lV (p : FVec F S512x512 .f32) (l : Vec F S1x1x512 .f32) : FVec F S1x1x512 .f32 :=
  shapeCast S1x1x512
    (addf (shapeCast S1x512 l shapeCasts_S1x1x512_S1x512)
      (shapeCast S1x512 (multiReduction .add [0] S512 p 0x00000000#32 reduces_S512x512_S512 (.inl rfl) rfl)
        shapeCasts_S512_S1x512))
    shapeCasts_S1x512_S1x1x512

/-- The weighted sums after a tile. -/
def accV (p : FVec F S512x512 .f32) (v : Vec F S1x512x64 .bf16) (a : Vec F S1x64x512 .f32) : FVec F S1x64x512 .f32 :=
  shapeCast S1x64x512
    (addf (shapeCast S64x512 a shapeCasts_S1x64x512_S64x512)
      (matmul dot_S512x64_S512x512_S64x512_0_0_1_1_n_n none (shapeCast S512x64 v shapeCasts_S1x512x64_S512x64)
        (truncf .bf16 p bitsLt_bf16_f32) (constant S64x512 .f32 0x00000000#32)))
    shapeCasts_S64x512_S1x64x512

/-- The fold of one head. -/
def foldStep (bias : FVec F S512x512 .f32) (t : Fin k0_t1_loop.trips) : Pg F :=
  .op (.load mQh (Rect.unit (s := S16x512x64) (k0_off6 t) S1x512x64.size (k0_off6_inb t)).toLoadRect
    (View.loadsAt_vmem h_S1x512x64)) fun (q : Vec F S1x512x64 .bf16) =>
  .op (.load mKh (Rect.unit (s := S16x512x64) (k0_off6 t) S1x512x64.size (k0_off6_inb t)).toLoadRect
    (View.loadsAt_vmem h_S1x512x64)) fun (kh : Vec F S1x512x64 .bf16) =>
  .op (.load mL (Rect.unit (s := S16x1x512) (k0_off7 t) S1x1x512.size (k0_off7_inb t)).toLoadRect
    (View.loadsAt_vmem h_S1x1x512)) fun (l : Vec F S1x1x512 .f32) =>
  .op (.load mL (Rect.unit (s := S16x1x512) (k0_off7 t) S1x1x512.size (k0_off7_inb t)).toLoadRect
    (View.loadsAt_vmem h_S1x1x512)) fun _ =>
  .op (.store mL (Rect.unit (s := S16x1x512) (k0_off7 t) S1x1x512.size (k0_off7_inb t)) (lV (pV bias q kh) l) Finset.univ
    (View.stores_vmem_bits_univ h_S1x1x512 rfl) (.inl rfl)) fun _ =>
  .op (.load mVh (Rect.unit (s := S16x512x64) (k0_off6 t) S1x512x64.size (k0_off6_inb t)).toLoadRect
    (View.loadsAt_vmem h_S1x512x64)) fun (v : Vec F S1x512x64 .bf16) =>
  .op (.load mAcc (Rect.unit (s := S16x64x512) (k0_off8 t) S1x64x512.size (k0_off8_inb t)).toLoadRect
    (View.loadsAt_vmem h_S1x64x512)) fun (a : Vec F S1x64x512 .f32) =>
  .op (.load mAcc (Rect.unit (s := S16x64x512) (k0_off8 t) S1x64x512.size (k0_off8_inb t)).toLoadRect
    (View.loadsAt_vmem h_S1x64x512)) fun _ =>
  .op (.store mAcc (Rect.unit (s := S16x64x512) (k0_off8 t) S1x64x512.size (k0_off8_inb t)) (accV (pV bias q kh) v a)
    Finset.univ (View.stores_vmem_bits_univ h_S1x64x512 rfl) (.inl rfl)) fun _ => .ret ⟨⟩

/-- The fold of the sixteen heads. -/
def foldK (bias : FVec F S512x512 .f32) (k : Pg F) : Pg F :=
  (Scf.Loop.for k0_t1_loop k0_t1_ok ⟨⟩ fun t _ => foldStep bias t).bind fun _ => k

/-! ### A hop -/

/-- The start of a remote copy of a half slab of `m`. -/
def sendK (m : Memref sig .tc .vmem S8x2x512x512 .bf16) (hm : m.IsWhole) (off : Fin 4 → Nat)
    (inb : ∀ a, off a + S1x2x256x512.size a ≤ S8x2x512x512.size a)
    (wd : (Rect.unit (s := S8x2x512x512) off S1x2x256x512.size inb).WholeWords (EltTy.packing .bf16))
    (dev : Dev nD) (sS sR : DmaSem sig) (k : Pg F) : Pg F :=
  .op (.enqueueDma (cp m off inb) (.remote (Dev.tc dev) (cp m off inb) (.dma sS)) (.dma sR)
    ((hm.wordExact_slice rfl _ wd).reshape _ _) ((hm.wordExact_slice rfl _ wd).reshape _ _) ⟨⟨rfl, Or.inl rfl⟩, trivial⟩)
    fun _ => k

/-- The wait for a copy of a half slab of `m`. -/
def waitK (m : Memref sig .tc .vmem S8x2x512x512 .bf16) (hm : m.IsWhole) (off : Fin 4 → Nat)
    (inb : ∀ a, off a + S1x2x256x512.size a ≤ S8x2x512x512.size a)
    (wd : (Rect.unit (s := S8x2x512x512) off S1x2x256x512.size inb).WholeWords (EltTy.packing .bf16))
    (sem : DmaSem sig) (k : Pg F) : Pg F :=
  .op (.waitDma2 sem (cp m off inb) (cp m off inb)
    ((hm.wordExact_slice rfl _ wd).reshape _ _) ((hm.wordExact_slice rfl _ wd).reshape _ _)) fun _ => k

/-- The device's right neighbour along the ring. -/
abbrev dR (d0 : Dev nD) : Dev nD := ⟨k0_dev3 d0, k0_dev3_lt d0⟩
/-- The device's left neighbour along the ring. -/
abbrev dL (d0 : Dev nD) : Dev nD := ⟨k0_dev5 d0, k0_dev5_lt d0⟩
/-- A hop's number as the kernel's word. -/
abbrev hW (hp : Fin 7) : BitVec 32 := BitVec.ofNat 32 hp.val

/-- The start of a hop's four copies. -/
def sendsK (d0 : Dev nD) (hp : Fin 7) (k : Pg F) : Pg F :=
  sendK mKf (Memref.isWhole_whole _) (k0_off4 d0 (hW hp)) (k0_off4_inb d0 hp) (k0_off4_wordsbf16 d0 hp) (dR d0) (sm cc0_scratch7 hp) (sm cc0_scratch8 hp) <|
  sendK mVf (Memref.isWhole_whole _) (k0_off4 d0 (hW hp)) (k0_off4_inb d0 hp) (k0_off4_wordsbf16 d0 hp) (dR d0) (sm cc0_scratch9 hp) (sm cc0_scratch10 hp) <|
  sendK mKf (Memref.isWhole_whole _) (k0_off5 d0 (hW hp)) (k0_off5_inb d0 hp) (k0_off5_wordsbf16 d0 hp) (dL d0) (sm cc0_scratch11 hp) (sm cc0_scratch12 hp) <|
  sendK mVf (Memref.isWhole_whole _) (k0_off5 d0 (hW hp)) (k0_off5_inb d0 hp) (k0_off5_wordsbf16 d0 hp) (dL d0) (sm cc0_scratch13 hp) (sm cc0_scratch14 hp) k

/-- The eight waits of a hop. -/
def waitsK (d0 : Dev nD) (hp : Fin 7) (k : Pg F) : Pg F :=
  waitK mKf (Memref.isWhole_whole _) (k0_off4 d0 (hW hp)) (k0_off4_inb d0 hp) (k0_off4_wordsbf16 d0 hp) (sm cc0_scratch7 hp) <|
  waitK mKf (Memref.isWhole_whole _) (k0_off4 d0 (hW hp)) (k0_off4_inb d0 hp) (k0_off4_wordsbf16 d0 hp) (sm cc0_scratch8 hp) <|
  waitK mVf (Memref.isWhole_whole _) (k0_off4 d0 (hW hp)) (k0_off4_inb d0 hp) (k0_off4_wordsbf16 d0 hp) (sm cc0_scratch9 hp) <|
  waitK mVf (Memref.isWhole_whole _) (k0_off4 d0 (hW hp)) (k0_off4_inb d0 hp) (k0_off4_wordsbf16 d0 hp) (sm cc0_scratch10 hp) <|
  waitK mKf (Memref.isWhole_whole _) (k0_off5 d0 (hW hp)) (k0_off5_inb d0 hp) (k0_off5_wordsbf16 d0 hp) (sm cc0_scratch11 hp) <|
  waitK mKf (Memref.isWhole_whole _) (k0_off5 d0 (hW hp)) (k0_off5_inb d0 hp) (k0_off5_wordsbf16 d0 hp) (sm cc0_scratch12 hp) <|
  waitK mVf (Memref.isWhole_whole _) (k0_off5 d0 (hW hp)) (k0_off5_inb d0 hp) (k0_off5_wordsbf16 d0 hp) (sm cc0_scratch13 hp) <|
  waitK mVf (Memref.isWhole_whole _) (k0_off5 d0 (hW hp)) (k0_off5_inb d0 hp) (k0_off5_wordsbf16 d0 hp) (sm cc0_scratch14 hp) k

/-- The unpacking of what a hop received. -/
def unpacksK (d0 : Dev nD) (hp : Fin 7) (k : Pg F) : Pg F :=
  unpackK 0 (k0_off9 d0 (hW hp)) (k0_off10 d0 (hW hp)) (k0_off9_inb d0 hp) (k0_off10_inb d0 hp) <|
  unpackK 1 (k0_off11 d0 (hW hp)) (k0_off12 d0 (hW hp)) (k0_off11_inb d0 hp) (k0_off12_inb d0 hp) k

/-- The hop: four copies started, the fold, the eight waits, the unpacking of what landed. -/
def hopK (d0 : Dev nD) (hp : Fin 7) (k : Pg F) : Pg F :=
  sendsK d0 hp <| foldK (biasV d0 (orgA d0 (hW hp)) (orgB d0 (hW hp))) <| waitsK d0 hp <| unpacksK d0 hp k

/-! ### The epilogue -/

/-- One head's context. -/
def ctxV (a : Vec F S1x64x512 .f32) (l : Vec F S1x1x512 .f32) : FVec F S64x512 .f32 :=
  divf (shapeCast S64x512 a shapeCasts_S1x64x512_S64x512)
    (broadcastTo S64x512 (shapeCast S1x512 l shapeCasts_S1x1x512_S1x512) broadcasts_S1x512_S64x512)

/-- The two loads of one head's context. -/
def ctxK (b : Fin 2) (h : Fin 8) (k : FVec F S64x512 .f32 → Pg F) : Pg F :=
  .op (.load mAcc (Rect.unit (s := S16x64x512) ![8 * b.val + h.val, 0, 0] S1x64x512.size (inbAcc b h)).toLoadRect
    (View.loadsAt_vmem h_S1x64x512)) fun (a : Vec F S1x64x512 .f32) =>
  .op (.load mL (Rect.unit (s := S16x1x512) ![8 * b.val + h.val, 0, 0] S1x1x512.size (inbL b h)).toLoadRect
    (View.loadsAt_vmem h_S1x1x512)) fun (l : Vec F S1x1x512 .f32) => k (ctxV a l)

/-- The output rows of one batch element, from its eight contexts. -/
def outV (wo : Vec F S512x768 .bf16) (u : Fin 8 → FVec F S64x512 .f32) : FVec F S1x512x768 .f32 :=
  shapeCast S1x512x768
    (matmul dot_S512x512_S512x768_S512x768_0_0_1_1_n_n none
      (truncf .bf16
        (concatenate S512x512 0
          [⟨S64x512, u 0⟩, ⟨S64x512, u 1⟩, ⟨S64x512, u 2⟩, ⟨S64x512, u 3⟩, ⟨S64x512, u 4⟩, ⟨S64x512, u 5⟩, ⟨S64x512, u 6⟩,
            ⟨S64x512, u 7⟩]
          concatenates_S64x512_S64x512_S64x512_S64x512_S64x512_S64x512_S64x512_S64x512_S512x512_d0)
        bitsLt_bf16_f32)
      (shapeCast S512x768 wo shapeCasts_S512x768_S512x768) (constant S512x768 .f32 0x00000000#32))
    shapeCasts_S512x768_S1x512x768

/-- The output of one batch element. -/
def outK (b : Fin 2) (wo : Vec F S512x768 .bf16) (k : Pg F) : Pg F :=
  ctxK b 0 fun u0 => ctxK b 1 fun u1 => ctxK b 2 fun u2 => ctxK b 3 fun u3 =>
  ctxK b 4 fun u4 => ctxK b 5 fun u5 => ctxK b 6 fun u6 => ctxK b 7 fun u7 =>
  .op (.load mOut (Rect.unit (s := S2x512x768) ![b.val, 0, 0] S1x512x768.size (inbX b)).toLoadRect
    (View.loadsAt_vmem h_S1x512x768)) fun _ =>
  .op (.store mOut (Rect.unit (s := S2x512x768) ![b.val, 0, 0] S1x512x768.size (inbX b))
    (outV wo ![u0, u1, u2, u3, u4, u5, u6, u7]) Finset.univ (View.stores_vmem_bits_univ h_S1x512x768 rfl) (.inl rfl)) fun _ => k

/-! ## The body -/

/-- From the start to the first hop. -/
def preK (d0 : Dev nD) (k : Pg F) : Pg F :=
  barrierK d0 <|
  ownK d0 mK mKf (Memref.isWhole_whole _) <|
  ownK d0 mV mVf (Memref.isWhole_whole _) <|
  .op (.load mWq (Rect.unit (s := S768x512) ![0, 0] S768x512.size inb_S768x512_S768x512_0_0).toLoadRect
    (View.loadsAt_vmem h_S768x512)) fun (wq : Vec F S768x512 .bf16) =>
  projK 0 wq <| projK 1 wq <| zeroK <|
  unpackK 0 (k0_off2 d0) (k0_off2 d0) (k0_off2_inb d0) (k0_off2_inb d0) <|
  unpackK 1 (k0_off3 d0) (k0_off3 d0) (k0_off3_inb d0) (k0_off3_inb d0) k

/-- The output. -/
def epiK : Pg F :=
  .op (.load mWo (Rect.unit (s := S512x768) ![0, 0] S512x768.size inb_S512x768_S512x768_0_0).toLoadRect
    (View.loadsAt_vmem h_S512x768)) fun (wo : Vec F S512x768 .bf16) =>
  outK 0 wo <| outK 1 wo <| .ret ⟨⟩

/-- From the last hop to the end. -/
def postK (d0 : Dev nD) : Pg F :=
  foldK (biasV d0 (orgB d0 1#32) (orgZ d0)) epiK

/-- The hops of a list, in order. -/
def hopsK (d0 : Dev nD) : List (Fin 7) → Pg F → Pg F
  | [], k => k
  | hp :: hs, k => hopK d0 hp (hopsK d0 hs k)

/-- The whole body. -/
def bodyK : Pg F :=
  .op .deviceId fun (d0 : Dev nD) => preK d0 <| hopsK d0 [0, 1, 2, 3, 4, 5, 6] <| postK d0

end Cert.KernelIdeal.Attn
-- ==== Proof.Geom.lean ====
/-
# The ring's geometry

Where the eight devices stand on the ring, which device's keys a half slab holds after how many hops, and the
elements of the gathered buffers that each half slab is.
-/
module

public import proofs.«01_k».proof.Proof.Prog

@[expose] public section

noncomputable section

namespace Cert.KernelIdeal.Attn

open Cert.KernelIdeal Cert.KernelIdeal.Gen
open Idealize.ShloMosaic Idealize.SL.Sem

/-! ## Devices -/

/-- Position on the ring to device number, and back: it is its own inverse below eight. -/
def pr (t : Nat) : Nat := if t < 4 then t else 11 - t

theorem pr_lt {t : Nat} (h : t < 8) : pr t < 8 := by unfold pr; split <;> omega

/-- The device `j` places before (`d = false`) or after (`d = true`) device `c` on the ring. -/
def org (d : Bool) (c : Dev nD) (j : Nat) : Dev nD :=
  ⟨pr ((pr c.val + bif d then j else 16 - j) % 8), pr_lt (Nat.mod_lt _ (by decide))⟩

/-- Where device `c` sends to: the first halves go to the next device, the second to the one before. -/
abbrev tgt (d : Bool) (c : Dev nD) : Dev nD := org (!d) c 1
/-- Where device `c` receives from. -/
abbrev src (d : Bool) (c : Dev nD) : Dev nD := org d c 1

theorem org_zero (d : Bool) (c : Dev nD) : org d c 0 = c := by revert d c; decide
theorem tgt_src (d : Bool) (c : Dev nD) : tgt d (src d c) = c := by revert d c; decide
theorem src_tgt (d : Bool) (c : Dev nD) : src d (tgt d c) = c := by revert d c; decide
theorem org_tgt (d : Bool) (c : Dev nD) (j : Fin 8) : org d (tgt d c) (j.val + 1) = org d c j.val := by
  revert d c j; decide
theorem org_src (d : Bool) (c : Dev nD) (j : Fin 8) : org (!d) (src d c) (j.val + 1) = org (!d) c j.val := by
  revert d c j; decide
theorem org_flip (d : Bool) (c : Dev nD) (j : Fin 9) : org (!d) c (8 - j.val) = org d c j.val := by
  revert d c j; decide
theorem org_inj (d : Bool) (c : Dev nD) : Function.Injective fun j : Fin 8 => org d c j.val := by
  revert d c; decide
theorem org_surj (d : Bool) (c o : Dev nD) : ∃ j : Fin 8, org d c j.val = o := by revert d c o; decide
theorem src_ne (d : Bool) (c : Dev nD) : src d c ≠ src (!d) c := by revert d c; decide

/-- The neighbours' equivalence. -/
def ring (d : Bool) : Dev nD ≃ Dev nD := ⟨tgt d, src d, src_tgt d, tgt_src d⟩

theorem dev1_eq (c : Dev nD) : (⟨k0_dev1 c, k0_dev1_lt c⟩ : Dev nD) = src false c := by revert c; decide +kernel
theorem dev2_eq (c : Dev nD) : (⟨k0_dev2 c, k0_dev2_lt c⟩ : Dev nD) = src true c := by revert c; decide +kernel
theorem dR_eq (c : Dev nD) : dR c = tgt false c := by revert c; decide +kernel
theorem dL_eq (c : Dev nD) : dL c = tgt true c := by revert c; decide +kernel

theorem off1_eq (c : Dev nD) : k0_off1 c = ![(org false c 0).val, 0, 0, 0] := by revert c; decide +kernel
theorem off2_eq (d : Bool) (c : Dev nD) : k0_off2 c = ![(org d c 0).val, 0, 0, 0] := by revert d c; decide +kernel
theorem off3_eq (d : Bool) (c : Dev nD) : k0_off3 c = ![(org d c 0).val, 1, 0, 0] := by revert d c; decide +kernel
theorem off4_eq (c : Dev nD) (hp : Fin 7) : k0_off4 c (hW hp) = ![(org false c hp.val).val, 0, 0, 0] := by
  revert c hp; decide +kernel
theorem off5_eq (c : Dev nD) (hp : Fin 7) : k0_off5 c (hW hp) = ![(org true c hp.val).val, 0, 256, 0] := by
  revert c hp; decide +kernel
theorem off9_eq (c : Dev nD) (hp : Fin 7) : k0_off9 c (hW hp) = ![(org false c (hp.val + 1)).val, 0, 0, 0] := by
  revert c hp; decide +kernel
theorem off10_eq (c : Dev nD) (hp : Fin 7) : k0_off10 c (hW hp) = ![(org true c (hp.val + 1)).val, 0, 0, 0] := by
  revert c hp; decide +kernel
theorem off11_eq (c : Dev nD) (hp : Fin 7) : k0_off11 c (hW hp) = ![(org false c (hp.val + 1)).val, 1, 0, 0] := by
  revert c hp; decide +kernel
theorem off12_eq (c : Dev nD) (hp : Fin 7) : k0_off12 c (hW hp) = ![(org true c (hp.val + 1)).val, 1, 0, 0] := by
  revert c hp; decide +kernel

/-! ## Half slabs -/

/-- The elements of a gathered buffer that one copy moves: device `o`'s slab, its first rows (`d = false`) or its
    last. -/
def half (d : Bool) (o : Dev nD) : Finset S8x2x512x512.Idx :=
  Finset.univ.filter fun i => (i 0).val = o.val ∧ ((i 2).val < 256 ↔ d = false)

/-- A whole slab. -/
def slab (o : Dev nD) : Finset S8x2x512x512.Idx := Finset.univ.filter fun i => (i 0).val = o.val

theorem mem_half {d : Bool} {o : Dev nD} {i : S8x2x512x512.Idx} :
    i ∈ half d o ↔ (i 0).val = o.val ∧ ((i 2).val < 256 ↔ d = false) := by simp [half]
theorem mem_slab {o : Dev nD} {i : S8x2x512x512.Idx} : i ∈ slab o ↔ (i 0).val = o.val := by simp [slab]

theorem slab_eq (d : Bool) (o : Dev nD) : slab o = half d o ∪ half (!d) o := by
  ext i; simp only [Finset.mem_union, mem_half, mem_slab]; cases d <;> simp <;> omega

theorem half_disj_dir (d : Bool) (o o' : Dev nD) : Disjoint (half d o) (half (!d) o') := by
  rw [Finset.disjoint_left]; intro i h h'
  rw [mem_half] at h h'; cases d <;> simp at h h' <;> omega

theorem half_disj_org (d d' : Bool) {o o' : Dev nD} (h : o ≠ o') : Disjoint (half d o) (half d' o') := by
  rw [Finset.disjoint_left]; intro i h1 h2
  rw [mem_half] at h1 h2; exact h (Fin.ext (h1.1.symm.trans h2.1))

theorem half_disj {x y : Bool × Fin 8} (c : Dev nD) (h : x ≠ y) :
    Disjoint (half x.1 (org x.1 c x.2.val)) (half y.1 (org y.1 c y.2.val)) := by
  obtain ⟨d, j⟩ := x; obtain ⟨d', j'⟩ := y
  by_cases hd : d' = d
  · subst hd; exact half_disj_org _ _ fun he => h (by have hj : j = j' := org_inj d' c he; rw [hj])
  · have : d' = !d := by cases d <;> cases d' <;> simp_all
    subst this; exact half_disj_dir d _ _

theorem half_cover (c : Dev nD) :
    (Finset.univ : Finset (Bool × Fin 8)).biUnion (fun x => half x.1 (org x.1 c x.2.val)) = Finset.univ := by
  refine Finset.eq_univ_iff_forall.2 fun i => ?_
  rw [Finset.mem_biUnion]
  by_cases h : (i 2).val < 256
  · obtain ⟨j, hj⟩ := org_surj false c ⟨(i 0).val, (i 0).isLt⟩
    exact ⟨(false, j), Finset.mem_univ _, mem_half.2 ⟨by rw [hj], by simp [h]⟩⟩
  · obtain ⟨j, hj⟩ := org_surj true c ⟨(i 0).val, (i 0).isLt⟩
    exact ⟨(true, j), Finset.mem_univ _, mem_half.2 ⟨by rw [hj], by simp [h]⟩⟩

/-- The gathered buffers. -/
abbrev mF : Bool → Memref sig .tc .vmem S8x2x512x512 .bf16
  | false => mKf
  | true => mVf
theorem mF_whole : ∀ b, (mF b).IsWhole
  | false => Memref.isWhole_whole _
  | true => Memref.isWhole_whole _

theorem rect_half (d : Bool) (o : Dev nD) (off : Fin 4 → Nat)
    (inb : ∀ a, off a + S1x2x256x512.size a ≤ S8x2x512x512.size a)
    (h : off = ![o.val, 0, bif d then 256 else 0, 0]) :
    (Rect.unit (s := S8x2x512x512) off S1x2x256x512.size inb).set = half d o := by
  subst h
  ext i
  rw [Rect.mem_set_unit, mem_half]
  constructor
  · intro hm
    have h0 := hm 0; have h2 := hm 2
    have hs0 : S1x2x256x512.size 0 = 1 := rfl
    have hs2 : S1x2x256x512.size 2 = 256 := rfl
    rw [hs0] at h0; rw [hs2] at h2
    cases d <;> simp at h0 h2 ⊢ <;> omega
  · rintro ⟨h0, h2⟩ a
    have i1 : (i 1).val < 2 := (i 1).isLt
    have i2 : (i 2).val < 512 := (i 2).isLt
    have i3 : (i 3).val < 512 := (i 3).isLt
    fin_cases a
    · refine ⟨h0.ge, ?_⟩; show (i 0).val < o.val + 1; omega
    · exact ⟨Nat.zero_le _, by show (i 1).val < 0 + 2; omega⟩
    · show (bif d then 256 else 0) ≤ (i 2).val ∧ (i 2).val < (bif d then 256 else 0) + 256
      cases d <;> simp at h2 ⊢ <;> omega
    · exact ⟨Nat.zero_le _, by show (i 3).val < 0 + 512; omega⟩

theorem rect_slab (o : Dev nD) (off : Fin 4 → Nat)
    (inb : ∀ a, off a + S1x2x512x512.size a ≤ S8x2x512x512.size a) (h : off = ![o.val, 0, 0, 0]) :
    (Rect.unit (s := S8x2x512x512) off S1x2x512x512.size inb).set = slab o := by
  subst h
  ext i
  rw [Rect.mem_set_unit, mem_slab]
  constructor
  · intro hm
    have h0 := hm 0
    have hs0 : S1x2x512x512.size 0 = 1 := rfl
    rw [hs0] at h0; simp at h0; omega
  · intro h0 a
    have i1 : (i 1).val < 2 := (i 1).isLt
    have i2 : (i 2).val < 512 := (i 2).isLt
    have i3 : (i 3).val < 512 := (i 3).isLt
    fin_cases a
    · refine ⟨h0.ge, ?_⟩; show (i 0).val < o.val + 1; omega
    · exact ⟨Nat.zero_le _, by show (i 1).val < 0 + 2; omega⟩
    · exact ⟨Nat.zero_le _, by show (i 2).val < 0 + 512; omega⟩
    · exact ⟨Nat.zero_le _, by show (i 3).val < 0 + 512; omega⟩

theorem rect_row (o : Dev nD) (b : Nat) (off : Fin 4 → Nat)
    (inb : ∀ a, off a + S1x1x512x512.size a ≤ S8x2x512x512.size a) (h : off = ![o.val, b, 0, 0]) :
    (Rect.unit (s := S8x2x512x512) off S1x1x512x512.size inb).set ⊆ slab o := by
  subst h
  intro i
  rw [Rect.mem_set_unit, mem_slab]
  intro hm
  have h0 := hm 0
  have hs0 : S1x1x512x512.size 0 = 1 := rfl
  rw [hs0] at h0; simp at h0; omega

theorem cp_set (d b : Bool) (o : Dev nD) (off : Fin 4 → Nat)
    (inb : ∀ a, off a + S1x2x256x512.size a ≤ S8x2x512x512.size a)
    (h : off = ![o.val, 0, bif d then 256 else 0, 0]) :
    (cp (mF false) off inb).view.set = half d o ∧ (cp (mF true) off inb).view.set = half d o := by
  constructor
  · refine Eq.trans ?_ (rect_half d o off inb h)
    refine (View.set_reshape _ _).trans ?_
    exact View.set_slice_whole _ _
  · refine Eq.trans ?_ (rect_half d o off inb h)
    refine (View.set_reshape _ _).trans ?_
    exact View.set_slice_whole _ _

end Cert.KernelIdeal.Attn
-- ==== Proof.Sched.lean ====
/-
# The schedule of the exchange

Every semaphore's single round: who adds to it, how much, and what the addition hands over. A device's barrier
semaphore gets one unit from each neighbour; the neighbour hands over those of its own half slabs that this device's
first four copies land in. A copy's completion on the receiving side hands over the landed half slab, holding the
rows of the device they come from; at the fourth copy the sender adds its own half slabs that the receiver's last
three copies of the other direction land in. A copy's completion on the sending side hands the source back.
-/
module

public import proofs.«01_k».proof.Proof.Geom
public import Idealize.ShloMosaic.Lib.Pipeline.Launch
public import Idealize.ShloMosaic.Lib.Pipeline.Kit
public import Idealize.ShloMosaic.Lib.Tactic

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The contents of a gathered buffer. -/
abbrev Gath (F : FTy → Type) : Type := S8x2x512x512.Idx → Elt F .bf16

/-! ## Semaphores -/

/-- A copy's semaphore: the side (`false` sending), the direction, the buffer, the hop. -/
abbrev Cx : Type := Bool × Bool × Bool × Fin 7

/-- The array a copy's semaphore lies in. -/
def semArr : Bool → Bool → Bool → DmaSems sig S7
  | false, false, false => cc0_scratch7
  | true, false, false => cc0_scratch8
  | false, false, true => cc0_scratch9
  | true, false, true => cc0_scratch10
  | false, true, false => cc0_scratch11
  | true, true, false => cc0_scratch12
  | false, true, true => cc0_scratch13
  | true, true, true => cc0_scratch14

/-- The semaphore. -/
def dsem (x : Cx) : DmaSem sig := sm (semArr x.1 x.2.1 x.2.2.1) x.2.2.2

/-- Which copy a semaphore belongs to. -/
def dec (q : DmaSem sig) : Option Cx :=
  if 6 ≤ q.val then
    some ((q.val - 6) / 7 % 2 = 1, (q.val - 6) / 28 = 1, (q.val - 6) / 14 % 2 = 1,
      ⟨(q.val - 6) % 7, Nat.mod_lt _ (by decide)⟩)
  else none

theorem dec_dsem (x : Cx) : dec (dsem x) = some x := by revert x; decide +kernel
theorem dsem_inj {x y : Cx} (h : dsem x = dsem y) : x = y := by
  have := congrArg dec h; rw [dec_dsem, dec_dsem] at this; exact Option.some.inj this
theorem dec_stage (w : Fin 6) (s : Fin (spec0 w).nbuf) : dec ((spec0 w).sem s) = none := by revert w s; decide +kernel

/-- All of a device's semaphores of the exchange: the barrier, and the copies'. -/
abbrev csem : Option Cx → SemLoc sig
  | none => .reg barrier0
  | some x => .dma (dsem x)

abbrev kcell (ck : Dev nD × Option Cx) : GSem nD τ sig := ((ck.1 : Thread nD τ), csem ck.2)
abbrev barCell (c : Dev nD) : GSem nD τ sig := kcell (c, none)
abbrev xCell (c : Dev nD) (x : Cx) : GSem nD τ sig := kcell (c, some x)

theorem csem_inj : Function.Injective csem := by
  rintro (_ | x) (_ | y) h
  · rfl
  · cases h
  · cases h
  · rw [dsem_inj (SemLoc.dma.inj h)]

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- The units a copy's completion adds. -/
abbrev N : ℕ := (cp mKf ![0, 0, 0, 0] (by decide)).view.dmaCredit
theorem N_pos : 0 < N := View.dmaCredit_pos _ (by decide)

/-! ## Half slabs held -/

/-- Device `c`'s half slab of device `o`'s rows, at contents `f`. -/
def slot (c : Dev nD) (d b : Bool) (o : Dev nD) (f : Gath F) : sProp 𝕄 :=
  match b with
  | false => ((c : Thread nD τ).loc cc0_scratch1) ↦[half d o]{fullShare} f
  | true => ((c : Thread nD τ).loc cc0_scratch2) ↦[half d o]{fullShare} f

instance slot_storable (c : Dev nD) (d b : Bool) (o : Dev nD) (f : Gath F) :
    BI.Storable (upEmb : UEmb _ 𝕄) (slot c d b o f) := by unfold slot; cases b <;> infer_instance

/-- The half slab at some contents. -/
def anySlot (c : Dev nD) (d b : Bool) (o : Dev nD) : sProp 𝕄 := iprop(∃ f : Gath F, slot c d b o f)

instance anySlot_storable (c : Dev nD) (d b : Bool) (o : Dev nD) :
    BI.Storable (upEmb : UEmb _ 𝕄) (anySlot (F := F) c d b o) := by unfold anySlot; infer_instance

theorem slot_congr {c : Dev nD} {d b : Bool} {o : Dev nD} {f g : Gath F} (h : ∀ i ∈ half d o, f i = g i) :
    slot c d b o f = slot c d b o g := by
  unfold slot; cases b <;> exact pointsTo_congr h

variable (G : Bool → Gath F)

/-! ## The payloads -/

/-- Device `c`'s own half slabs of direction `d` that the first four copies from `src d c` land in. -/
def near (c : Dev nD) (d : Bool) : sProp 𝕄 :=
  bigSep Finset.univ fun b : Bool => bigSep Finset.univ fun j : Fin 4 => anySlot c d b (org d c (j.val + 1))
/-- Those of one buffer that the last three copies land in. -/
def far (c : Dev nD) (d b : Bool) : sProp 𝕄 :=
  bigSep Finset.univ fun j : Fin 3 => anySlot c d b (org d c (j.val + 5))

/-- What a neighbour's signal hands device `c`. -/
def barPay (c : Dev nD) (d : Bool) : sProp 𝕄 := near (tgt d c) d
/-- What comes back when device `c`'s copy has left. -/
def sendPay (c : Dev nD) (d b : Bool) (hp : Fin 7) : sProp 𝕄 := slot c d b (org d c hp.val) (G b)
/-- What a landing hands device `c`. -/
def recvPay (c : Dev nD) (d b : Bool) (hp : Fin 7) : sProp 𝕄 :=
  iprop(slot c d b (org d c (hp.val + 1)) (G b) ∗ if hp = 3 then far (src d c) (!d) b else emp)

/-- A copy's payload on either side. -/
def dmaPay (c : Dev nD) : Cx → sProp 𝕄
  | (false, d, b, hp) => sendPay G c d b hp
  | (true, d, b, hp) => recvPay G c d b hp

instance near_storable (c : Dev nD) (d : Bool) : BI.Storable (upEmb : UEmb _ 𝕄) (near (F := F) c d) := by
  unfold near; infer_instance
instance far_storable (c : Dev nD) (d b : Bool) : BI.Storable (upEmb : UEmb _ 𝕄) (far (F := F) c d b) := by
  unfold far; infer_instance
instance dmaPay_storable (c : Dev nD) (x : Cx) : BI.Storable (upEmb : UEmb _ 𝕄) (dmaPay G c x) := by
  obtain ⟨s, d, b, hp⟩ := x
  cases s
  · show BI.Storable upEmb (sendPay G c d b hp); unfold sendPay; infer_instance
  · show BI.Storable upEmb (recvPay G c d b hp); unfold recvPay; split <;> infer_instance

/-- The schedule. -/
def Rd : Rounds.Schedule (GSem nD τ sig) Bool 𝕄 where
  duties g r := if r = 0 ∧ g.1.2 = .tc then
      (match g.2 with
      | .reg _ => Finset.univ
      | .dma q => if (dec q).isSome then {false} else ∅) else ∅
  unitless _ := False
  amount g _ _ := match g.2 with | .reg _ => 1 | .dma _ => N
  payload g _ d := match g.2 with
    | .reg _ => barPay g.1.1 d
    | .dma q => match dec q with
      | some x => dmaPay G g.1.1 x
      | none => iprop(emp)
  amount_pos g _ _ _ := by
    rcases g with ⟨t, s | q⟩
    · exact Nat.one_pos
    · exact N_pos

instance Rd_storable (g : GSem nD τ sig) (r : ℕ) (d : Bool) :
    BI.Storable (upEmb : UEmb _ 𝕄) ((Rd G).payload g r d) := by
  rcases g with ⟨t, s | q⟩
  · show BI.Storable upEmb (barPay t.1 d); unfold barPay; infer_instance
  · show BI.Storable upEmb (match dec q with | some x => dmaPay G t.1 x | none => iprop(emp))
    cases dec q <;> infer_instance

theorem duties_bar (c : Dev nD) : (Rd G).duties (barCell c) 0 = Finset.univ := by
  dsimp only [Rd]; exact if_pos ⟨rfl, rfl⟩
theorem duties_x (c : Dev nD) (x : Cx) : (Rd G).duties (xCell c x) 0 = {false} := by
  dsimp only [Rd]
  rw [if_pos ⟨rfl, rfl⟩, dec_dsem]; rfl
theorem duties_later (g : GSem nD τ sig) : ∀ r, 1 ≤ r → (Rd G).duties g r = ∅ :=
  fun r hr => by dsimp only [Rd]; exact if_neg fun h => by omega
theorem amount_bar (c : Dev nD) (d : Bool) : (Rd G).amount (barCell c) 0 d = 1 := rfl
theorem amount_x (c : Dev nD) (x : Cx) (d : Bool) : (Rd G).amount (xCell c x) 0 d = N := rfl
theorem expect_bar (c : Dev nD) : (Rd G).expect (barCell c) 0 = 2 := by
  unfold Schedule.expect Schedule.amountOf
  rw [duties_bar, Finset.sum_congr rfl fun d _ => amount_bar G c d, Finset.sum_const, Finset.card_univ,
    Fintype.card_bool, smul_eq_mul]
theorem expect_x (c : Dev nD) (x : Cx) : (Rd G).expect (xCell c x) 0 = N := by
  unfold Schedule.expect Schedule.amountOf; rw [duties_x, Finset.sum_singleton, amount_x]
theorem payload_bar (c : Dev nD) (d : Bool) : (Rd G).payload (barCell c) 0 d = barPay c d := rfl
theorem payload_x (c : Dev nD) (x : Cx) (d : Bool) : (Rd G).payload (xCell c x) 0 d = dmaPay G c x := by
  show (match dec (dsem x) with | some x => dmaPay G c x | none => iprop(emp)) = _
  rw [dec_dsem]

theorem rest_bar (c : Dev nD) :
    bigSep ((Rd G).duties (barCell c) 0 \ ∅) (fun d => (Rd G).payload (barCell c) 0 d)
      = iprop(barPay c false ∗ barPay c true) := by
  rw [Finset.sdiff_empty, duties_bar, bigSep_univ_eq_bigSepL [false, true] (by decide) (by decide),
    bigSepL_cons_cons, bigSepL_singleton]
  rfl
theorem rest_x (c : Dev nD) (x : Cx) :
    bigSep ((Rd G).duties (xCell c x) 0 \ ∅) (fun d => (Rd G).payload (xCell c x) 0 d) = dmaPay G c x := by
  rw [Finset.sdiff_empty, duties_x, bigSep_singleton, payload_x]

/-! ## Levels -/

/-- The barrier at 1, the landing of hop `hp` at `hp + 2`, everything else at 0. -/
def lv (g : GSem nD τ sig) (_ : Unit) : ℕ :=
  match g.2 with
  | .reg _ => 1
  | .dma q => match dec q with
    | some (true, _, _, hp) => hp.val + 2
    | _ => 0
def L (g : GSem nD τ sig) : Finset Unit := if g.1.2 = .tc then {()} else ∅

theorem L_of_ne (g : GSem nD τ sig) (h : g.1.2 ≠ .tc) : L g = ∅ := if_neg h
theorem L_tc (c : Dev nD) (s : SemLoc sig) : L ((c : Thread nD τ), s) = {()} := if_pos rfl
theorem lv_bar (c : Dev nD) (u : Unit) : lv (barCell c) u = 1 := rfl
theorem lv_send (c : Dev nD) (d b : Bool) (hp : Fin 7) (u : Unit) : lv (xCell c (false, d, b, hp)) u = 0 := by
  show (match dec (dsem (false, d, b, hp)) with | some (true, _, _, hp) => hp.val + 2 | _ => 0) = 0
  rw [dec_dsem]
theorem lv_recv (c : Dev nD) (d b : Bool) (hp : Fin 7) (u : Unit) : lv (xCell c (true, d, b, hp)) u = hp.val + 2 := by
  show (match dec (dsem (true, d, b, hp)) with | some (true, _, _, hp) => hp.val + 2 | _ => 0) = _
  rw [dec_dsem]

/-! ## What a device owes -/

/-- The landing of one copy of device `c`, owed to its target. -/
abbrev owe1 (c : Dev nD) (d b : Bool) (hp : Fin 7) : CellTallies nD τ sig Unit :=
  tallyAt (xCell (tgt d c) (true, d, b, hp)) () N

/-- The landings of the last `k` hops, the earlier hops' last. -/
def oweH (c : Dev nD) : ℕ → CellTallies nD τ sig Unit
  | 0 => 0
  | k + 1 => oweH c k + owe1 c true true (Fin.ofNat 7 (6 - k)) + owe1 c true false (Fin.ofNat 7 (6 - k))
      + owe1 c false true (Fin.ofNat 7 (6 - k)) + owe1 c false false (Fin.ofNat 7 (6 - k))

/-- All landings and the second signal. -/
def O₁ (c : Dev nD) : CellTallies nD τ sig Unit := oweH c 7 + tallyAt (barCell (src true c)) () 1
/-- All that a device owes at launch. -/
def O₀ (c : Dev nD) : CellTallies nD τ sig Unit := O₁ c + tallyAt (barCell (src false c)) () 1

theorem tally_pos {g g' : GSem nD τ sig} {u : Unit} {n : ℕ} (h : 0 < (tallyAt g' () n : CellTallies nD τ sig Unit) g u) :
    g = g' := by
  rw [tallyAt_apply] at h; by_contra hn; rw [if_neg fun h' => hn h'.1] at h; exact Nat.lt_irrefl 0 h

theorem add_pos_or {a b : CellTallies nD τ sig Unit} {g : GSem nD τ sig} {u : Unit} (h : 0 < (a + b) g u) :
    0 < a g u ∨ 0 < b g u := by
  rw [Pi.add_apply, Finsupp.add_apply] at h; omega

theorem oweH_pos {c : Dev nD} {g : GSem nD τ sig} {u : Unit} : ∀ {k : ℕ}, k ≤ 7 → 0 < oweH c k g u →
    ∃ d b, ∃ hp : Fin 7, 7 ≤ hp.val + k ∧ g = xCell (tgt d c) (true, d, b, hp)
  | 0, _, h => absurd h (Nat.lt_irrefl 0)
  | k + 1, hk, h => by
    have hv : (Fin.ofNat 7 (6 - k)).val = 6 - k := Nat.mod_eq_of_lt (by omega)
    rcases add_pos_or h with h | h
    · rcases add_pos_or h with h | h
      · rcases add_pos_or h with h | h
        · rcases add_pos_or h with h | h
          · obtain ⟨d, b, hp, h1, h2⟩ := oweH_pos (by omega) h
            exact ⟨d, b, hp, by omega, h2⟩
          · exact ⟨_, _, _, by omega, tally_pos h⟩
        · exact ⟨_, _, _, by omega, tally_pos h⟩
      · exact ⟨_, _, _, by omega, tally_pos h⟩
    · exact ⟨_, _, _, by omega, tally_pos h⟩

theorem mayWait_lt (c : Dev nD) (s : SemLoc sig) (n : ℕ) (hs : lv ((c : Thread nD τ), s) () ≤ n)
    (O : CellTallies nD τ sig Unit)
    (hO : ∀ g u, 0 < O g u → g.1.2 = .tc ∧ n < lv g u) :
    (levAts L lv : sProp 𝕄) ⊢ MayWait (c : Thread nD τ) s () O :=
  MayOwe.of_cut (L := L) (lev := lv) n
    (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hs)
    (fun g u hg => (hO g u hg).2)

theorem mayWait_oweH (c : Dev nD) (s : SemLoc sig) (k n : ℕ) (hk : k ≤ 7) (hs : lv ((c : Thread nD τ), s) () ≤ n)
    (hn : n + k ≤ 8) : (levAts L lv : sProp 𝕄) ⊢ MayWait (c : Thread nD τ) s () (oweH c k) :=
  mayWait_lt c s n hs _ fun g u hg => by
    obtain ⟨d, b, hp, h1, rfl⟩ := oweH_pos hk hg
    refine ⟨rfl, ?_⟩
    rw [lv_recv]; omega

theorem mayWait_O₀ (c : Dev nD) (s : SemLoc sig) (hs : lv ((c : Thread nD τ), s) () = 0) :
    (levAts L lv : sProp 𝕄) ⊢ MayWait (c : Thread nD τ) s () (O₀ c) :=
  mayWait_lt c s 0 hs.le _ fun g u hg => by
    rcases add_pos_or hg with hg | hg
    · rcases add_pos_or hg with hg | hg
      · obtain ⟨d, b, hp, h1, rfl⟩ := oweH_pos le_rfl hg
        exact ⟨rfl, by rw [lv_recv]; omega⟩
      · rw [tally_pos hg]; exact ⟨rfl, Nat.one_pos⟩
    · rw [tally_pos hg]; exact ⟨rfl, Nat.one_pos⟩

end Cert.KernelIdeal.Attn
-- ==== Proof.Comm.lean ====
/-
# The steps that talk to the other devices

The barrier, the start of a copy, the wait for one: each as a rule that says what it takes and what it leaves.
-/
module

public import proofs.«01_k».proof.Proof.Sched

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev 𝒱₀ : Variants := Variants.none

/-- The weakest precondition of a program on device `c`. -/
abbrev wpc (c : Dev nD) (p : Pg F) (Q : PUnit → sProp 𝕄) : sProp 𝕄 :=
  wp frame (wpE (defs₀ (F := F)) 𝒱₀ (c : Thread nD τ) none) Set.univ p Q

/-- The step `f` takes `P` and leaves `R`, whatever program follows. -/
def Step (c : Dev nD) (f : Pg F → Pg F) (P R : sProp 𝕄) : Prop :=
  ∀ (k : Pg F) (Q : PUnit → sProp 𝕄), iprop(P ∗ (R -∗ wpc c k Q)) ⊢ wpc c (f k) Q

theorem Step.comp {c : Dev nD} {f g : Pg F → Pg F} {P R S : sProp 𝕄} (hf : Step c f P R) (hg : Step c g R S) :
    Step c (fun k => f (g k)) P S := fun k Q => by
  iintro ⟨HP, Hk⟩
  iapply (hf (g k) Q)
  isplitl [HP]; · iexact HP
  iintro HR
  iapply (hg k Q)
  isplitl [HR]; · iexact HR
  iexact Hk

theorem Step.mono {c : Dev nD} {f : Pg F → Pg F} {P P' R R' : sProp 𝕄} (hf : Step c f P R) (hP : P' ⊢ P) (hR : R ⊢ R') :
    Step c f P' R' := fun k Q => by
  iintro ⟨HP, Hk⟩
  iapply (hf k Q)
  isplitl [HP]; · iapply hP; iexact HP
  iintro HR
  iapply Hk
  iapply hR; iexact HR

theorem Step.frame {c : Dev nD} {f : Pg F → Pg F} {P R : sProp 𝕄} (hf : Step c f P R) (X : sProp 𝕄) :
    Step c f iprop(P ∗ X) iprop(R ∗ X) := fun k Q => by
  iintro ⟨⟨HP, HX⟩, Hk⟩
  iapply (hf k Q)
  isplitl [HP]; · iexact HP
  iintro HR
  iapply Hk
  isplitl [HR] <;> iassumption

variable (G : Bool → Gath F) (K : Dev nD × Option Cx → ℕ)

/-- What every device knows: the cells' invariants, that each cell is at its round, and the levels. -/
def Rec : sProp 𝕄 :=
  iprop((bigSep Finset.univ fun ck : Dev nD × Option Cx => cellInv ER (Rd G) (K ck) (kcell ck))
    ∗ (bigSep Finset.univ fun ck : Dev nD × Option Cx => reached ER (kcell ck) 0) ∗ levAts L lv)

instance Rec_persistent : BI.Persistent (Rec G K) := by unfold Rec; infer_instance

theorem bigSep_at_inv (ck : Dev nD × Option Cx) :
    (bigSep Finset.univ fun ck : Dev nD × Option Cx => (cellInv ER (Rd G) (K ck) (kcell ck) : sProp 𝕄))
      ⊢ cellInv ER (Rd G) (K ck) (kcell ck) := bigSep_elim (Finset.mem_univ ck)
theorem bigSep_at_reached (ck : Dev nD × Option Cx) :
    (bigSep Finset.univ fun ck : Dev nD × Option Cx => (reached ER (kcell ck) 0 : sProp 𝕄))
      ⊢ reached ER (kcell ck) 0 := bigSep_elim (Finset.mem_univ ck)

theorem Rec_inv (ck : Dev nD × Option Cx) : Rec G K ⊢ cellInv ER (Rd G) (K ck) (kcell ck) := by
  unfold Rec
  iintro ⟨#H, -, -⟩
  iapply (bigSep_at_inv G K ck)
  iexact H
theorem Rec_reached (ck : Dev nD × Option Cx) : Rec G K ⊢ reached ER (kcell ck) 0 := by
  unfold Rec
  iintro ⟨-, #H, -⟩
  iapply (bigSep_at_reached ck)
  iexact H
theorem Rec_lev : Rec G K ⊢ levAts L lv := by
  unfold Rec
  iintro ⟨-, -, H⟩; iexact H

/-- What device `c` still owes. -/
def Ow (c : Dev nD) (O : CellTallies nD τ sig Unit) : sProp 𝕄 := iprop(∃ W, owes (c : Thread nD τ) O W)

/-! ## The barrier -/

theorem barrier_step (c : Dev nD) :
    Step c (barrierK (F := F) c)
      iprop(Rec G K ∗ near c false ∗ near c true ∗ dutyTok ER (barCell (src false c)) 0 false
        ∗ dutyTok ER (barCell (src true c)) 0 true ∗ atPos ER (barCell c) 0 ∅ 0 ∗ cred (tallyAt (barCell c) () 2)
        ∗ Ow c (O₀ c))
      iprop(semVal (barCell c) 0 ∗ near (tgt false c) false ∗ near (tgt true c) true ∗ Ow c (oweH c 7)) := fun k Q => by
  unfold barrierK wpc Ow
  simp only [dev1_eq c, dev2_eq c]
  iintro ⟨⟨#HR, Hn0, Hn1, Ht0, Ht1, Hat, Hc, %W, HO⟩, Hk⟩
  unfold O₀
  iapply (Rounds.wp_signal 𝒱₀ ER (Rd G) (c : Thread nD τ) none (dst := (src false c : Thread nD τ)) (κ := K (src false c, none))
      (d := false) (by rw [duties_bar]; exact Finset.mem_univ _) ((amount_bar G (src false c) false).trans (by decide)) () (O₁ c) rfl)
    $$ [HO Ht0 Hn0]
  · isplitr; · iapply (Rec_inv G K (src false c, none)); iexact HR
    isplitl [HO]; · iexact HO
    isplitl [Ht0]; · iexact Ht0
    isplitl [Hn0]
    · rw [payload_bar]; unfold barPay; rw [tgt_src]; iexact Hn0
    iapply (Rec_reached G K (src false c, none)); iexact HR
  iintro HO
  unfold O₁
  iapply (Rounds.wp_signal 𝒱₀ ER (Rd G) (c : Thread nD τ) none (dst := (src true c : Thread nD τ)) (κ := K (src true c, none))
      (d := true) (by rw [duties_bar]; exact Finset.mem_univ _) ((amount_bar G (src true c) true).trans (by decide)) () (oweH c 7) rfl)
    $$ [HO Ht1 Hn1]
  · isplitr; · iapply (Rec_inv G K (src true c, none)); iexact HR
    isplitl [HO]; · iexact HO
    isplitl [Ht1]; · iexact Ht1
    isplitl [Hn1]
    · rw [payload_bar]; unfold barPay; rw [tgt_src]; iexact Hn1
    iapply (Rec_reached G K (src true c, none)); iexact HR
  iintro HO
  iapply (Rounds.wp_wait_rest_token 𝒱₀ ER (Rd G) (c : Thread nD τ) none (κ := K (c, none))
      (wpE_semWait_eq 𝒱₀ (c : Thread nD τ) none Set.univ) (Set.mem_univ _) () (O := oweH c 7) (W := W) (R := 0) (m := 0) (T := ∅)
      (by rw [expect_bar]; decide)) $$ [Hc HO Hat]
  · isplitr; · iapply (Rec_inv G K (c, none)); iexact HR
    isplitl [Hc]; · iexact Hc
    isplitl [HO]; · iexact HO
    isplitr; · iapply (mayWait_oweH c (.reg barrier0) 7 1 le_rfl le_rfl le_rfl); iapply (Rec_lev G K); iexact HR
    iexact Hat
  iintro ⟨HO, Hat, -, Hpay⟩
  ihave Hp := (Entails.of_eq (rest_bar G c)) $$ Hpay
  unfold barPay
  icases Hp with ⟨H0, H1⟩
  imod (Rounds.cell_close ER (Rd G) (Set.mem_univ (K (c, none))) (fun h => h) (R := 0 + 1) (duties_later G (barCell c))) $$ [Hat] with Hz
  · isplitr; · iapply (Rec_inv G K (c, none)); iexact HR
    iexact Hat
  iapply Hk
  isplitl [Hz]; · iexact Hz
  isplitl [H0]; · iexact H0
  isplitl [H1]; · iexact H1
  iexists _; iexact HO

/-! ## A copy -/

theorem landed_eq {d : Bool} (m : Memref sig .tc .vmem S8x2x512x512 .bf16) (off : Fin 4 → Nat)
    (inb : ∀ a, off a + S1x2x256x512.size a ≤ S8x2x512x512.size a)
    (f g : (cp m off inb).view.ty.Contents (Elt F)) : ∀ i ∈ (cp m off inb).view.set,
    (cp m off inb).view.write (Elt F) f ((cp m off inb).view.read (Elt F) g) Finset.univ i = g i := by
  intro i hi
  rw [View.write_read_eq_piecewise, View.setOn_univ]
  exact Finset.piecewise_eq_of_mem _ _ _ hi

/-- The start of a copy of device `c`'s half slab. -/
theorem send_step (c : Dev nD) (d b : Bool) (hp : Fin 7) (off : Fin 4 → Nat)
    (inb : ∀ a, off a + S1x2x256x512.size a ≤ S8x2x512x512.size a)
    (wd : (Rect.unit (s := S8x2x512x512) off S1x2x256x512.size inb).WholeWords (EltTy.packing .bf16))
    (dev : Dev nD) (sS sR : DmaSem sig)
    (hoff : off = ![(org d c hp.val).val, 0, bif d then 256 else 0, 0]) (hdev : dev = tgt d c)
    (hS : sS = dsem (false, d, b, hp)) (hR : sR = dsem (true, d, b, hp)) (O : CellTallies nD τ sig Unit) :
    Step c (sendK (F := F) (mF b) (mF_whole b) off inb wd dev sS sR)
      iprop(Rec G K ∗ slot c d b (org d c hp.val) (G b) ∗ anySlot (tgt d c) d b (org d c hp.val)
        ∗ (if hp = 3 then far c (!d) b else emp)
        ∗ dutyTok ER (xCell c (false, d, b, hp)) 0 false ∗ dutyTok ER (xCell (tgt d c) (true, d, b, hp)) 0 false
        ∗ Ow c (O + owe1 c d b hp))
      iprop(cred (tallyAt (xCell c (false, d, b, hp)) () N) ∗ Ow c O) := fun k Q => by
  subst hdev hS hR
  have hpay : dmaPay G (tgt d c) (true, d, b, hp)
      = iprop(slot (tgt d c) d b (org d c hp.val) (G b) ∗ if hp = 3 then far c (!d) b else emp) := by
    show recvPay G (tgt d c) d b hp = _
    unfold recvPay
    rw [org_tgt d c ⟨hp.val, by omega⟩, src_tgt]
  unfold sendK wpc Ow anySlot
  iintro ⟨⟨#HR, Hs, ⟨%f, Hd⟩, HF, Ht0, Ht1, %W, HO⟩, Hk⟩
  have hset := cp_set d b (org d c hp.val) off inb hoff
  cases b
  · have hs : ∀ (c' : Dev nD) (f : Gath F), slot c' d false (org d c hp.val) f
        = ((cp (mF false) off inb).view.loc (c' : Thread nD τ) ↦[(cp (mF false) off inb).view.set]{fullShare} f : sProp 𝕄) := by
      intro c' f; rw [hset.1]; rfl
    iapply (Rounds.wp_send_pointsTo_with 𝒱₀ ER (Rd G) (c : Thread nD τ) none (c' := (tgt d c : Thread nD τ))
      (src := cp (mF false) off inb) (dst := cp (mF false) off inb)
      (κ₁ := K (c, some (false, d, false, hp))) (κ₂ := K (tgt d c, some (true, d, false, hp)))
      (r₁ := 0) (r₂ := 0) (d₁ := false) (d₂ := false) (q := fullShare) (fs := G false) (fd := f)
      (F := iprop(if hp = 3 then far c (!d) false else emp))
      (by rw [duties_x]; exact Finset.mem_singleton_self _) (by rw [duties_x]; exact Finset.mem_singleton_self _)
      () () N rfl (amount_x G c _ false) (amount_x G (tgt d c) _ false) O rfl (W := W)
      (by rw [payload_x]; exact Entails.of_eq (hs c (G false)).symm)
      (by
        rw [payload_x, hpay]
        refine sep_mono_left ?_
        rw [hs]
        exact Entails.of_eq (pointsTo_congr (landed_eq (d := d) (mF false) off inb _ _)))) $$ [Hs Hd HF Ht0 Ht1 HO]
    · isplitr; · iapply (Rec_inv G K (c, some (false, d, false, hp))); iexact HR
      isplitr; · iapply (Rec_inv G K (tgt d c, some (true, d, false, hp))); iexact HR
      isplitl [Hs]; · iapply (Entails.of_eq (hs c (G false))); iexact Hs
      isplitl [Hd HF]
      · isplitl [Hd]; · iapply (Entails.of_eq (hs (tgt d c) f)); iexact Hd
        iexact HF
      isplitl [HO]; · iexact HO
      isplitl [Ht0]; · iexact Ht0
      isplitr; · iapply (Rec_reached G K (c, some (false, d, false, hp))); iexact HR
      isplitl [Ht1]; · iexact Ht1
      iapply (Rec_reached G K (tgt d c, some (true, d, false, hp))); iexact HR
    iintro ⟨Hc, HO⟩
    iapply Hk
    isplitl [Hc]; · iexact Hc
    iexists W; iexact HO
  · have hs : ∀ (c' : Dev nD) (f : Gath F), slot c' d true (org d c hp.val) f
        = ((cp (mF true) off inb).view.loc (c' : Thread nD τ) ↦[(cp (mF true) off inb).view.set]{fullShare} f : sProp 𝕄) := by
      intro c' f; rw [hset.2]; rfl
    iapply (Rounds.wp_send_pointsTo_with 𝒱₀ ER (Rd G) (c : Thread nD τ) none (c' := (tgt d c : Thread nD τ))
      (src := cp (mF true) off inb) (dst := cp (mF true) off inb)
      (κ₁ := K (c, some (false, d, true, hp))) (κ₂ := K (tgt d c, some (true, d, true, hp)))
      (r₁ := 0) (r₂ := 0) (d₁ := false) (d₂ := false) (q := fullShare) (fs := G true) (fd := f)
      (F := iprop(if hp = 3 then far c (!d) true else emp))
      (by rw [duties_x]; exact Finset.mem_singleton_self _) (by rw [duties_x]; exact Finset.mem_singleton_self _)
      () () N rfl (amount_x G c _ false) (amount_x G (tgt d c) _ false) O rfl (W := W)
      (by rw [payload_x]; exact Entails.of_eq (hs c (G true)).symm)
      (by
        rw [payload_x, hpay]
        refine sep_mono_left ?_
        rw [hs]
        exact Entails.of_eq (pointsTo_congr (landed_eq (d := d) (mF true) off inb _ _)))) $$ [Hs Hd HF Ht0 Ht1 HO]
    · isplitr; · iapply (Rec_inv G K (c, some (false, d, true, hp))); iexact HR
      isplitr; · iapply (Rec_inv G K (tgt d c, some (true, d, true, hp))); iexact HR
      isplitl [Hs]; · iapply (Entails.of_eq (hs c (G true))); iexact Hs
      isplitl [Hd HF]
      · isplitl [Hd]; · iapply (Entails.of_eq (hs (tgt d c) f)); iexact Hd
        iexact HF
      isplitl [HO]; · iexact HO
      isplitl [Ht0]; · iexact Ht0
      isplitr; · iapply (Rec_reached G K (c, some (false, d, true, hp))); iexact HR
      isplitl [Ht1]; · iexact Ht1
      iapply (Rec_reached G K (tgt d c, some (true, d, true, hp))); iexact HR
    iintro ⟨Hc, HO⟩
    iapply Hk
    isplitl [Hc]; · iexact Hc
    iexists W; iexact HO

/-- The wait for one of a copy's two completions. -/
theorem wait_step (c : Dev nD) (x : Cx) (m : Memref sig .tc .vmem S8x2x512x512 .bf16) (hm : m.IsWhole) (off : Fin 4 → Nat)
    (inb : ∀ a, off a + S1x2x256x512.size a ≤ S8x2x512x512.size a)
    (wd : (Rect.unit (s := S8x2x512x512) off S1x2x256x512.size inb).WholeWords (EltTy.packing .bf16))
    (sem : DmaSem sig) (hsem : sem = dsem x) (k₀ : ℕ) (hk : x.2.2.2.val + k₀ ≤ 6) :
    Step c (waitK (F := F) m hm off inb wd sem)
      iprop(Rec G K ∗ cred (tallyAt (xCell c x) () N) ∗ atPos ER (xCell c x) 0 ∅ 0 ∗ Ow c (oweH c k₀))
      iprop(semVal (xCell c x) 0 ∗ dmaPay G c x ∗ Ow c (oweH c k₀)) := fun k Q => by
  subst hsem
  unfold waitK wpc Ow
  have hlv : lv (xCell c x) () ≤ x.2.2.2.val + 2 := by
    obtain ⟨s, d, b, hp⟩ := x
    cases s
    · rw [lv_send]; exact Nat.zero_le _
    · rw [lv_recv]
  iintro ⟨⟨#HR, Hc, Hat, %W, HO⟩, Hk⟩
  iapply (Rounds.wp_wait_rest_token 𝒱₀ ER (Rd G) (c : Thread nD τ) none (κ := K (c, some x))
      (wpE_waitDma2_eq 𝒱₀ (c : Thread nD τ) none Set.univ) (Set.mem_univ _) () (O := oweH c k₀) (W := W) (R := 0) (m := 0) (T := ∅)
      (by rw [Nat.zero_add, expect_x])) $$ [Hc HO Hat]
  · isplitr; · iapply (Rec_inv G K (c, some x)); iexact HR
    isplitl [Hc]; · iexact Hc
    isplitl [HO]; · iexact HO
    isplitr
    · iapply (mayWait_oweH c (.dma (dsem x)) k₀ (x.2.2.2.val + 2) (by omega) hlv (by omega)); iapply (Rec_lev G K); iexact HR
    iexact Hat
  iintro ⟨HO, Hat, -, Hpay⟩
  ihave Hp := (Entails.of_eq (rest_x G c x)) $$ Hpay
  imod (Rounds.cell_close ER (Rd G) (Set.mem_univ (K (c, some x))) (fun h => h) (R := 0 + 1) (duties_later G (xCell c x))) $$ [Hat] with Hz
  · isplitr; · iapply (Rec_inv G K (c, some x)); iexact HR
    iexact Hat
  iapply Hk
  isplitl [Hz]; · iexact Hz
  isplitl [Hp]; · iexact Hp
  iexists _; iexact HO

end Cert.KernelIdeal.Attn
-- ==== Proof.State.lean ====
/-
# What a device holds between hops

Per direction and buffer: the half slabs that have landed, those of the neighbour's the device may still write, and the
semaphores' tokens; with the rules that start a hop's copies, wait for them, and read a slab.
-/
module

public import proofs.«01_k».proof.Proof.Comm

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## One summand of many -/

theorem bigSep_take {I : Type} [Fintype I] [DecidableEq I] (i : I) {f g : I → sProp 𝕄} (h : ∀ j, j ≠ i → f j = g j) :
    (bigSep Finset.univ f : sProp 𝕄) ⊢ iprop(f i ∗ (g i -∗ bigSep Finset.univ g)) := by
  rw [bigSep_univ_at f i, bigSep_univ_at g i]
  rw [bigSep_congr (s := Finset.univ.erase i) (fun j hj => h j (Finset.ne_of_mem_erase hj))]
  iintro ⟨H, Hr⟩
  isplitl [H]; · iexact H
  iintro Hg
  isplitl [Hg] <;> iassumption

/-- A summand taken from the first family and given to the second, when the families agree but for a summand that
    starts empty. -/
theorem bigSep_give {I : Type} [Fintype I] [DecidableEq I] (i : I) {f g : I → sProp 𝕄} (h : ∀ j, j ≠ i → f j = g j)
    (he : f i = iprop(emp)) : iprop((bigSep Finset.univ f : sProp 𝕄) ∗ g i) ⊢ bigSep Finset.univ g := by
  refine (sep_mono_left (bigSep_take i h)).trans ?_
  iintro ⟨⟨-, Hw⟩, Hg⟩
  iapply Hw; iexact Hg

theorem bigSep_seven (f : Fin 7 → sProp 𝕄) :
    (bigSep Finset.univ f : sProp 𝕄) = iprop(f 0 ∗ f 1 ∗ f 2 ∗ f 3 ∗ f 4 ∗ f 5 ∗ f 6) := by
  rw [bigSep_univ_eq_bigSepL [0, 1, 2, 3, 4, 5, 6] (by decide) (by decide)]
  simp only [bigSepL_cons_cons, bigSepL_singleton]
  rfl
theorem bigSep_three (f : Fin 3 → sProp 𝕄) : (bigSep Finset.univ f : sProp 𝕄) = iprop(f 0 ∗ f 1 ∗ f 2) := by
  rw [bigSep_univ_eq_bigSepL [0, 1, 2] (by decide) (by decide)]
  simp only [bigSepL_cons_cons, bigSepL_singleton]
  rfl

variable (G : Bool → Gath F) (K : Dev nD × Option Cx → ℕ)

/-! ## The states -/

/-- The half slabs landed after `n` hops. -/
def own (c : Dev nD) (d b : Bool) (n : ℕ) : sProp 𝕄 :=
  bigSep Finset.univ fun j : Fin 8 => if j.val ≤ n then slot c d b (org d c j.val) (G b) else iprop(emp)
/-- The target's half slabs the device may still write. -/
def tg (c : Dev nD) (d b : Bool) (n : ℕ) : sProp 𝕄 :=
  bigSep Finset.univ fun j : Fin 7 =>
    if n ≤ j.val ∧ (j.val ≤ 3 ∨ 4 ≤ n) then anySlot (tgt d c) d b (org d c j.val) else iprop(emp)
/-- A hop's tokens before it. -/
def Tok (c : Dev nD) (d b : Bool) (j : Fin 7) : sProp 𝕄 :=
  iprop(dutyTok ER (xCell c (false, d, b, j)) 0 false ∗ dutyTok ER (xCell (tgt d c) (true, d, b, j)) 0 false
    ∗ atPos ER (xCell c (false, d, b, j)) 0 ∅ 0 ∗ atPos ER (xCell c (true, d, b, j)) 0 ∅ 0
    ∗ cred (tallyAt (xCell c (true, d, b, j)) () N))
/-- A hop's semaphores after it. -/
def Zero (c : Dev nD) (d b : Bool) (j : Fin 7) : sProp 𝕄 :=
  iprop(semVal (xCell c (false, d, b, j)) 0 ∗ semVal (xCell c (true, d, b, j)) 0)
def hs (c : Dev nD) (d b : Bool) (n : ℕ) : sProp 𝕄 :=
  bigSep Finset.univ fun j : Fin 7 => if n ≤ j.val then Tok c d b j else Zero c d b j
/-- The half slabs the last three copies land in, until the device gives them away at hop 3. -/
def farIf (c : Dev nD) (d b : Bool) (n : ℕ) : sProp 𝕄 := if n ≤ 3 then far c d b else iprop(emp)

theorem own_take (c : Dev nD) (d b : Bool) (n : ℕ) (j : Fin 8) (hj : j.val ≤ n) :
    own G c d b n ⊢ iprop(slot c d b (org d c j.val) (G b) ∗ (slot c d b (org d c j.val) (G b) -∗ own G c d b n)) := by
  have h := bigSep_take (F := F) j (f := fun j : Fin 8 => if j.val ≤ n then slot c d b (org d c j.val) (G b) else iprop(emp))
    (g := fun j : Fin 8 => if j.val ≤ n then slot c d b (org d c j.val) (G b) else iprop(emp)) (fun _ _ => rfl)
  beta_reduce at h
  rw [if_pos hj] at h
  exact h

theorem own_give (c : Dev nD) (d b : Bool) (hp : Fin 7) :
    iprop(own G c d b hp.val ∗ slot c d b (org d c (hp.val + 1)) (G b)) ⊢ own G c d b (hp.val + 1) := by
  have h := bigSep_give (F := F) (⟨hp.val + 1, by omega⟩ : Fin 8)
    (f := fun j : Fin 8 => if j.val ≤ hp.val then slot c d b (org d c j.val) (G b) else iprop(emp))
    (g := fun j : Fin 8 => if j.val ≤ hp.val + 1 then slot c d b (org d c j.val) (G b) else iprop(emp))
    (fun j hj => by
      have : j.val ≠ hp.val + 1 := fun e => hj (Fin.ext e)
      by_cases hl : j.val ≤ hp.val
      · rw [if_pos hl, if_pos (by omega)]
      · rw [if_neg hl, if_neg (by omega)])
    (if_neg (by show ¬ (hp.val + 1 ≤ hp.val); omega))
  beta_reduce at h
  rw [if_pos le_rfl] at h
  exact h

theorem hs_take (c : Dev nD) (d b : Bool) (hp : Fin 7) :
    hs c d b hp.val ⊢ iprop(Tok c d b hp ∗ (Zero c d b hp -∗ hs (F := F) c d b (hp.val + 1))) := by
  have h := bigSep_take (F := F) hp (f := fun j : Fin 7 => if hp.val ≤ j.val then Tok c d b j else Zero c d b j)
    (g := fun j : Fin 7 => if hp.val + 1 ≤ j.val then Tok c d b j else Zero c d b j)
    (fun j hj => by
      have : j.val ≠ hp.val := fun e => hj (Fin.ext e)
      by_cases hl : hp.val ≤ j.val
      · rw [if_pos hl, if_pos (by omega)]
      · rw [if_neg hl, if_neg (by omega)])
  beta_reduce at h
  rw [if_pos le_rfl, if_neg (by omega)] at h
  exact h

/-- What is left of the target's half slabs once the hop's own is given up. -/
def tgRest (c : Dev nD) (d b : Bool) (hp : Fin 7) : sProp 𝕄 := if hp = 3 then iprop(emp) else tg c d b (hp.val + 1)

theorem tg_take (c : Dev nD) (d b : Bool) (hp : Fin 7) :
    tg c d b hp.val ⊢ iprop(anySlot (tgt d c) d b (org d c hp.val) ∗ tgRest (F := F) c d b hp) := by
  by_cases h3 : hp = 3
  · subst h3
    unfold tgRest tg
    rw [if_pos rfl]
    rw [bigSep_seven]
    rw [if_neg (by decide), if_neg (by decide), if_neg (by decide), if_pos (by decide), if_neg (by decide), if_neg (by decide),
      if_neg (by decide)]
    iintro ⟨-, -, -, H, -⟩
    isplitl [H]; · iexact H
    iempintro
  · have hv : hp.val ≠ 3 := fun e => h3 (Fin.ext e)
    unfold tgRest
    rw [if_neg h3]
    have h := bigSep_take (F := F) hp
      (f := fun j : Fin 7 => if hp.val ≤ j.val ∧ (j.val ≤ 3 ∨ 4 ≤ hp.val) then anySlot (tgt d c) d b (org d c j.val) else iprop(emp))
      (g := fun j : Fin 7 => if hp.val + 1 ≤ j.val ∧ (j.val ≤ 3 ∨ 4 ≤ hp.val + 1) then anySlot (tgt d c) d b (org d c j.val) else iprop(emp))
      (fun j hj => by
        have : j.val ≠ hp.val := fun e => hj (Fin.ext e)
        by_cases hl : hp.val ≤ j.val ∧ (j.val ≤ 3 ∨ 4 ≤ hp.val)
        · rw [if_pos hl, if_pos (by omega)]
        · rw [if_neg hl, if_neg (by omega)])
    beta_reduce at h
    rw [if_pos (by omega), if_neg (by omega)] at h
    refine h.trans ?_
    unfold tg
    iintro ⟨H, Hw⟩
    isplitl [H]; · iexact H
    iapply Hw; iempintro

theorem tg_give (c : Dev nD) (d b : Bool) (hp : Fin 7) :
    iprop(tgRest c d b hp ∗ if hp = 3 then far (tgt d c) d b else emp) ⊢ tg (F := F) c d b (hp.val + 1) := by
  unfold tgRest
  by_cases h3 : hp = 3
  · subst h3
    rw [if_pos rfl, if_pos rfl]
    unfold tg far
    rw [bigSep_seven, bigSep_three]
    rw [if_neg (by decide), if_neg (by decide), if_neg (by decide), if_neg (by decide), if_pos (by decide), if_pos (by decide),
      if_pos (by decide)]
    have e4 : org d (tgt d c) ((0 : Fin 3).val + 5) = org d c (4 : Fin 7).val := org_tgt d c 4
    have e5 : org d (tgt d c) ((1 : Fin 3).val + 5) = org d c (5 : Fin 7).val := org_tgt d c 5
    have e6 : org d (tgt d c) ((2 : Fin 3).val + 5) = org d c (6 : Fin 7).val := org_tgt d c 6
    rw [e4, e5, e6]
    iintro ⟨-, H4, H5, H6⟩
    isplitr; · iempintro
    isplitr; · iempintro
    isplitr; · iempintro
    isplitr; · iempintro
    isplitl [H4]; · iexact H4
    isplitl [H5] <;> iassumption
  · rw [if_neg h3, if_neg h3]
    iintro ⟨H, -⟩; iexact H

theorem far_take (c : Dev nD) (d b : Bool) (n : ℕ) (j : Fin 3) (hn : n ≤ 3) :
    farIf c d b n ⊢ iprop((∃ f : Gath F, slot c d b (org d c (j.val + 5)) f)
      ∗ ((∃ f : Gath F, slot c d b (org d c (j.val + 5)) f) -∗ farIf c d b n)) := by
  unfold farIf
  rw [if_pos hn]
  exact bigSep_take (F := F) j (f := fun j : Fin 3 => anySlot c d b (org d c (j.val + 5)))
    (g := fun j : Fin 3 => anySlot c d b (org d c (j.val + 5))) fun _ _ => rfl

theorem farIf_take (c : Dev nD) (d b : Bool) (hp : Fin 7) :
    farIf c d b hp.val ⊢ iprop((if hp = 3 then far c d b else emp) ∗ farIf (F := F) c d b (hp.val + 1)) := by
  unfold farIf
  by_cases h3 : hp = 3
  · subst h3
    rw [if_pos (by decide), if_pos rfl, if_neg (by decide)]
    iintro H; isplitl [H]; · iexact H
    iempintro
  · have hv : hp.val ≠ 3 := fun e => h3 (Fin.ext e)
    rw [if_neg h3]
    by_cases hl : hp.val ≤ 3
    · rw [if_pos hl, if_pos (by omega)]
      iintro H; isplitr; · iempintro
      iexact H
    · rw [if_neg hl, if_neg (by omega)]
      iintro H; isplitr; · iempintro
      iempintro

/-! ## Channels -/

/-- A direction and buffer between hops. -/
def Ch (c : Dev nD) (d b : Bool) (n : ℕ) : sProp 𝕄 := iprop(own G c d b n ∗ tg c d b n ∗ hs c d b n)
/-- And while its hop's copy is under way. -/
def Mid (c : Dev nD) (d b : Bool) (hp : Fin 7) : sProp 𝕄 :=
  iprop((slot c d b (org d c hp.val) (G b) -∗ own G c d b hp.val) ∗ tgRest c d b hp
    ∗ (Zero c d b hp -∗ hs c d b (hp.val + 1)) ∗ cred (tallyAt (xCell c (false, d, b, hp)) () N)
    ∗ atPos ER (xCell c (false, d, b, hp)) 0 ∅ 0 ∗ atPos ER (xCell c (true, d, b, hp)) 0 ∅ 0
    ∗ cred (tallyAt (xCell c (true, d, b, hp)) () N))

theorem chan_send (c : Dev nD) (d b : Bool) (hp : Fin 7) (off : Fin 4 → Nat)
    (inb : ∀ a, off a + S1x2x256x512.size a ≤ S8x2x512x512.size a)
    (wd : (Rect.unit (s := S8x2x512x512) off S1x2x256x512.size inb).WholeWords (EltTy.packing .bf16))
    (dev : Dev nD) (sS sR : DmaSem sig)
    (hoff : off = ![(org d c hp.val).val, 0, bif d then 256 else 0, 0]) (hdev : dev = tgt d c)
    (hS : sS = dsem (false, d, b, hp)) (hR : sR = dsem (true, d, b, hp)) (O : CellTallies nD τ sig Unit) :
    Step c (sendK (F := F) (mF b) (mF_whole b) off inb wd dev sS sR)
      iprop(Rec G K ∗ Ch G c d b hp.val ∗ farIf c (!d) b hp.val ∗ Ow c (O + owe1 c d b hp))
      iprop(Mid G c d b hp ∗ farIf c (!d) b (hp.val + 1) ∗ Ow c O) := fun k Q => by
  unfold Ch Mid
  iintro ⟨⟨#HR, ⟨Ho, Ht, Hh⟩, Hf, HO⟩, Hk⟩
  ihave Ho2 := (own_take G c d b hp.val ⟨hp.val, by omega⟩ le_rfl) $$ Ho
  icases Ho2 with ⟨Hs, Hw⟩
  ihave Ht2 := (tg_take (F := F) c d b hp) $$ Ht
  icases Ht2 with ⟨Hd, Htr⟩
  ihave Hh2 := (hs_take (F := F) c d b hp) $$ Hh
  unfold Tok
  icases Hh2 with ⟨⟨H1, H2, H3, H4, H5⟩, Hhw⟩
  ihave Hf2 := (farIf_take (F := F) c (!d) b hp) $$ Hf
  icases Hf2 with ⟨Hf, Hf'⟩
  iapply (send_step G K c d b hp off inb wd dev sS sR hoff hdev hS hR O k Q)
  isplitl [Hs Hd Hf H1 H2 HO]
  · isplitr; · iexact HR
    isplitl [Hs]; · iexact Hs
    isplitl [Hd]; · iexact Hd
    isplitl [Hf]; · iexact Hf
    isplitl [H1]; · iexact H1
    isplitl [H2]; · iexact H2
    iexact HO
  iintro ⟨Hc, HO⟩
  iapply Hk
  isplitr [Hf' HO]
  · isplitl [Hw]; · iexact Hw
    isplitl [Htr]; · iexact Htr
    isplitl [Hhw]; · iexact Hhw
    isplitl [Hc]; · iexact Hc
    isplitl [H3]; · iexact H3
    isplitl [H4]; · iexact H4
    iexact H5
  isplitl [Hf'] <;> iassumption

theorem chan_wait (c : Dev nD) (d b : Bool) (hp : Fin 7) (m : Memref sig .tc .vmem S8x2x512x512 .bf16) (hm : m.IsWhole)
    (off : Fin 4 → Nat)
    (inb : ∀ a, off a + S1x2x256x512.size a ≤ S8x2x512x512.size a)
    (wd : (Rect.unit (s := S8x2x512x512) off S1x2x256x512.size inb).WholeWords (EltTy.packing .bf16))
    (sS sR : DmaSem sig)
    (hS : sS = dsem (false, d, b, hp)) (hR : sR = dsem (true, d, b, hp)) :
    Step c (fun k => waitK (F := F) m hm off inb wd sS (waitK m hm off inb wd sR k))
      iprop(Rec G K ∗ Mid G c d b hp ∗ Ow c (oweH c (6 - hp.val)))
      iprop(own G c d b (hp.val + 1) ∗ tgRest c d b hp ∗ hs c d b (hp.val + 1)
        ∗ (if hp = 3 then far (src d c) (!d) b else emp) ∗ Ow c (oweH c (6 - hp.val))) := fun k Q => by
  unfold Mid
  iintro ⟨⟨#HR, ⟨Hw, Htr, Hhw, Hc, H3, H4, H5⟩, HO⟩, Hk⟩
  iapply (wait_step G K c (false, d, b, hp) m hm off inb wd sS hS (6 - hp.val) (by show hp.val + _ ≤ 6; omega) _ Q)
  isplitl [Hc H3 HO]
  · isplitr; · iexact HR
    isplitl [Hc]; · iexact Hc
    isplitl [H3] <;> iassumption
  iintro ⟨Hz1, Hp1, HO⟩
  iapply (wait_step G K c (true, d, b, hp) m hm off inb wd sR hR (6 - hp.val) (by show hp.val + _ ≤ 6; omega) _ Q)
  isplitl [H4 H5 HO]
  · isplitr; · iexact HR
    isplitl [H5]; · iexact H5
    isplitl [H4] <;> iassumption
  iintro ⟨Hz2, Hp2, HO⟩
  ihave Hp1 := (show dmaPay G c (false, d, b, hp) ⊢ slot c d b (org d c hp.val) (G b) from Entails.of_eq rfl) $$ Hp1
  ihave Hp2 := (show dmaPay G c (true, d, b, hp)
    ⊢ iprop(slot c d b (org d c (hp.val + 1)) (G b) ∗ if hp = 3 then far (src d c) (!d) b else emp) from Entails.of_eq rfl) $$ Hp2
  icases Hp2 with ⟨Hs, Hf⟩
  ihave Ho := Hw $$ Hp1
  ihave Ho := (own_give G c d b hp) $$ [Ho Hs]
  · isplitl [Ho] <;> iassumption
  ihave Hh := Hhw $$ [Hz1 Hz2]
  · unfold Zero; isplitl [Hz1] <;> iassumption
  iapply Hk
  isplitl [Ho]; · iexact Ho
  isplitl [Htr]; · iexact Htr
  isplitl [Hh]; · iexact Hh
  isplitl [Hf] <;> iassumption

/-! ## All four -/

/-- What a device holds of the exchange after `n` hops. -/
def St (c : Dev nD) (n : ℕ) : sProp 𝕄 :=
  iprop((Ch G c false false n ∗ Ch G c false true n ∗ Ch G c true false n ∗ Ch G c true true n)
    ∗ farIf c false false n ∗ farIf c false true n ∗ farIf c true false n ∗ farIf c true true n)
/-- And during a hop. -/
def StMid (c : Dev nD) (hp : Fin 7) : sProp 𝕄 :=
  iprop((Mid G c false false hp ∗ Mid G c false true hp ∗ Mid G c true false hp ∗ Mid G c true true hp)
    ∗ farIf c false false (hp.val + 1) ∗ farIf c false true (hp.val + 1) ∗ farIf c true false (hp.val + 1)
    ∗ farIf c true true (hp.val + 1))

theorem oweH_hop (c : Dev nD) (hp : Fin 7) : oweH c (7 - hp.val)
    = oweH c (6 - hp.val) + owe1 c true true hp + owe1 c true false hp + owe1 c false true hp + owe1 c false false hp := by
  have h : 7 - hp.val = (6 - hp.val) + 1 := by omega
  have h' : Fin.ofNat 7 (6 - (6 - hp.val)) = hp := Fin.ext (by rw [Fin.val_ofNat]; omega)
  rw [h, oweH, h']

theorem sends_step (c : Dev nD) (hp : Fin 7) :
    Step c (sendsK (F := F) c hp) iprop(Rec G K ∗ St G c hp.val ∗ Ow c (oweH c (7 - hp.val)))
      iprop(StMid G c hp ∗ Ow c (oweH c (6 - hp.val))) := fun k Q => by
  unfold sendsK St StMid
  rw [oweH_hop]
  iintro ⟨⟨#HR, ⟨⟨C0, C1, C2, C3⟩, F0, F1, F2, F3⟩, HO⟩, Hk⟩
  iapply (chan_send G K c false false hp _ _ _ _ _ _ (off4_eq c hp) (dR_eq c) rfl rfl _ _ Q)
  isplitl [C0 F2 HO]
  · isplitr; · iexact HR
    isplitl [C0]; · iexact C0
    isplitl [F2]; · iexact F2
    iexact HO
  iintro ⟨M0, F2, HO⟩
  iapply (chan_send G K c false true hp _ _ _ _ _ _ (off4_eq c hp) (dR_eq c) rfl rfl _ _ Q)
  isplitl [C1 F3 HO]
  · isplitr; · iexact HR
    isplitl [C1]; · iexact C1
    isplitl [F3]; · iexact F3
    iexact HO
  iintro ⟨M1, F3, HO⟩
  iapply (chan_send G K c true false hp _ _ _ _ _ _ (off5_eq c hp) (dL_eq c) rfl rfl _ _ Q)
  isplitl [C2 F0 HO]
  · isplitr; · iexact HR
    isplitl [C2]; · iexact C2
    isplitl [F0]; · iexact F0
    iexact HO
  iintro ⟨M2, F0, HO⟩
  iapply (chan_send G K c true true hp _ _ _ _ _ _ (off5_eq c hp) (dL_eq c) rfl rfl _ _ Q)
  isplitl [C3 F1 HO]
  · isplitr; · iexact HR
    isplitl [C3]; · iexact C3
    isplitl [F1]; · iexact F1
    iexact HO
  iintro ⟨M3, F1, HO⟩
  iapply Hk
  isplitr [HO]
  · isplitl [M0 M1 M2 M3]
    · isplitl [M0]; · iexact M0
      isplitl [M1]; · iexact M1
      isplitl [M2] <;> iassumption
    isplitl [F0]; · iexact F0
    isplitl [F1]; · iexact F1
    isplitl [F2]; · iexact F2
    iexact F3
  iexact HO

theorem waits_step (c : Dev nD) (hp : Fin 7) :
    Step c (waitsK (F := F) c hp) iprop(Rec G K ∗ StMid G c hp ∗ Ow c (oweH c (6 - hp.val)))
      iprop(St G c (hp.val + 1) ∗ Ow c (oweH c (6 - hp.val))) := fun k Q => by
  unfold waitsK St StMid Ch
  iintro ⟨⟨#HR, ⟨⟨M0, M1, M2, M3⟩, FF⟩, HO⟩, Hk⟩
  iapply (chan_wait G K c false false hp _ _ _ _ _ _ _ rfl rfl _ Q)
  isplitl [M0 HO]
  · isplitr; · iexact HR
    isplitl [M0] <;> iassumption
  iintro ⟨O0, T0, H0, E0, HO⟩
  iapply (chan_wait G K c false true hp _ _ _ _ _ _ _ rfl rfl _ Q)
  isplitl [M1 HO]
  · isplitr; · iexact HR
    isplitl [M1] <;> iassumption
  iintro ⟨O1, T1, H1, E1, HO⟩
  iapply (chan_wait G K c true false hp _ _ _ _ _ _ _ rfl rfl _ Q)
  isplitl [M2 HO]
  · isplitr; · iexact HR
    isplitl [M2] <;> iassumption
  iintro ⟨O2, T2, H2, E2, HO⟩
  iapply (chan_wait G K c true true hp _ _ _ _ _ _ _ rfl rfl _ Q)
  isplitl [M3 HO]
  · isplitr; · iexact HR
    isplitl [M3] <;> iassumption
  iintro ⟨O3, T3, H3, E3, HO⟩
  iapply Hk
  ihave T0 := (tg_give (F := F) c false false hp) $$ [T0 E2]
  · isplitl [T0]; · iexact T0
    iexact E2
  ihave T1 := (tg_give (F := F) c false true hp) $$ [T1 E3]
  · isplitl [T1]; · iexact T1
    iexact E3
  ihave T2 := (tg_give (F := F) c true false hp) $$ [T2 E0]
  · isplitl [T2]; · iexact T2
    iexact E0
  ihave T3 := (tg_give (F := F) c true true hp) $$ [T3 E1]
  · isplitl [T3]; · iexact T3
    iexact E1
  isplitr [HO]
  · isplitr [FF]
    · isplitl [O0 T0 H0]
      · isplitl [O0]; · iexact O0
        isplitl [T0] <;> iassumption
      isplitl [O1 T1 H1]
      · isplitl [O1]; · iexact O1
        isplitl [T1] <;> iassumption
      isplitl [O2 T2 H2]
      · isplitl [O2]; · iexact O2
        isplitl [T2] <;> iassumption
      isplitl [O3]; · iexact O3
      isplitl [T3] <;> iassumption
    iexact FF
  iexact HO

/-! ## A slab to read -/

/-- Device `c`'s whole slab of device `o`'s rows. -/
def slabAt (c : Dev nD) (b : Bool) (o : Dev nD) (f : Gath F) : sProp 𝕄 :=
  match b with
  | false => ((c : Thread nD τ).loc cc0_scratch1) ↦[slab o]{fullShare} f
  | true => ((c : Thread nD τ).loc cc0_scratch2) ↦[slab o]{fullShare} f

theorem slab_join (c : Dev nD) (d b : Bool) (o : Dev nD) (f g : Gath F) :
    iprop(slot c d b o f ∗ slot c (!d) b o g) ⊢ (∃ h : Gath F, ⌜∀ i ∈ half d o, h i = f i⌝ ∗ slabAt c b o h
      ∗ (slabAt c b o h -∗ slot c d b o f ∗ slot c (!d) b o g)) := by
  have hd : ∀ i ∈ half (!d) o, i ∉ half d o := fun i hi hi' => Finset.disjoint_left.1 (half_disj_dir d o o) hi' hi
  have key : iprop(slot c d b o f ∗ slot c (!d) b o g) = slabAt c b o ((half d o).piecewise f g) := by
    have e1 : slot c d b o f = slot c d b o ((half d o).piecewise f g) :=
      slot_congr fun i hi => (Finset.piecewise_eq_of_mem _ _ _ hi).symm
    have e2 : slot c (!d) b o g = slot c (!d) b o ((half d o).piecewise f g) :=
      slot_congr fun i hi => (Finset.piecewise_eq_of_notMem _ _ _ (hd i hi)).symm
    rw [e1, e2]
    unfold slot slabAt
    cases b
    · dsimp only; rw [slab_eq d o]; exact (BI.equiv_iff.mp ⟨(pointsTo_union (half_disj_dir d o o)).1, (pointsTo_union (half_disj_dir d o o)).2⟩).symm
    · dsimp only; rw [slab_eq d o]; exact (BI.equiv_iff.mp ⟨(pointsTo_union (half_disj_dir d o o)).1, (pointsTo_union (half_disj_dir d o o)).2⟩).symm
  rw [key]
  iintro H
  iexists ((half d o).piecewise f g)
  isplitr
  · ipureintro; exact fun i hi => Finset.piecewise_eq_of_mem _ _ _ hi
  isplitl [H]; · iexact H
  iintro H; iexact H

/-- After `n` hops, the slab whose half `d` landed last. -/
theorem slab_take (c : Dev nD) (d b : Bool) (n : ℕ) (hn : n ≤ 7) :
    iprop(own G c d b n ∗ own G c (!d) b n ∗ farIf c (!d) b n)
      ⊢ (∃ h : Gath F, ⌜∀ i ∈ half d (org d c n), h i = G b i⌝ ∗ slabAt c b (org d c n) h
        ∗ (slabAt c b (org d c n) h -∗ own G c d b n ∗ own G c (!d) b n ∗ farIf c (!d) b n)) := by
  have hflip := org_flip d c ⟨n, by omega⟩
  iintro ⟨H1, H2, H3⟩
  ihave H1 := (own_take G c d b n ⟨n, by omega⟩ le_rfl) $$ H1
  icases H1 with ⟨S1, W1⟩
  by_cases h4 : 4 ≤ n ∨ n = 0
  · obtain ⟨j, hj, hjo⟩ : ∃ j : Fin 8, j.val ≤ n ∧ org (!d) c j.val = org d c n := by
      rcases h4 with h4 | h0
      · exact ⟨⟨8 - n, by omega⟩, by show 8 - n ≤ n; omega, hflip⟩
      · subst h0; exact ⟨0, le_rfl, by show org (!d) c 0 = _; rw [org_zero, org_zero]⟩
    ihave H2 := (own_take G c (!d) b n j hj) $$ H2
    rw [hjo]
    icases H2 with ⟨S2, W2⟩
    ihave HJ := (slab_join c d b (org d c n) (G b) (G b)) $$ [S1 S2]
    · isplitl [S1] <;> iassumption
    icases HJ with ⟨%h, %hh, Hs, Hw⟩
    iexists h
    isplitr; · ipureintro; exact hh
    isplitl [Hs]; · iexact Hs
    iintro Hs
    ihave HS := Hw $$ Hs
    icases HS with ⟨S1, S2⟩
    isplitl [W1 S1]; · iapply W1; iexact S1
    isplitl [W2 S2]; · iapply W2; iexact S2
    iexact H3
  · have h3 : n ≤ 3 := by omega
    obtain ⟨j, hj⟩ : ∃ j : Fin 3, org (!d) c (j.val + 5) = org d c n :=
      ⟨⟨3 - n, by omega⟩, by rw [← hflip]; congr 1; show 3 - n + 5 = 8 - n; omega⟩
    ihave H3 := (far_take (F := F) c (!d) b n j h3) $$ H3
    rw [hj]
    icases H3 with ⟨⟨%g, S2⟩, W2⟩
    ihave HJ := (slab_join c d b (org d c n) (G b) g) $$ [S1 S2]
    · isplitl [S1] <;> iassumption
    icases HJ with ⟨%h, %hh, Hs, Hw⟩
    iexists h
    isplitr; · ipureintro; exact hh
    isplitl [Hs]; · iexact Hs
    iintro Hs
    ihave HS := Hw $$ Hs
    icases HS with ⟨S1, S2⟩
    isplitl [W1 S1]; · iapply W1; iexact S1
    isplitl [H2]; · iexact H2
    iapply W2; iexists g; iexact S2

end Cert.KernelIdeal.Attn
-- ==== Proof.Vals.lean ====
/-
# What the buffers hold

The contents of the per-head buffers, and of the accumulators before and after a fold, as functions of their indices.
-/
module

public import proofs.«01_k».proof.Proof.Geom
public import Idealize.ShloMosaic.Lib.ValueIdxCore
public import Idealize.ShloMosaic.Lib.Pipeline.Value

@[expose] public section

noncomputable section

namespace Cert.KernelIdeal.Attn

open Cert.KernelIdeal Cert.KernelIdeal.Gen
open Idealize.ShloMosaic Idealize.ShloMosaic.ValueIdx Idealize.SL.Sem

variable {F : FTy → Type} [FloatOps F] [Named F]

/-- Head `t` of a buffer of sixteen. -/
def hd {n m : Nat} {α : Type} (f : (⟨3, ![16, n, m]⟩ : Shape).Idx → α) (t : Fin 16) : (⟨3, ![1, n, m]⟩ : Shape).Idx → α :=
  fun i => f (ix3 t (i 1) (i 2))

/-- Batch element `b` of the queries' input. -/
def xrow (x : Vec F S2x512x768 .bf16) (b : Fin 2) : Vec F S1x512x768 .bf16 := fun i => x (ix3 b (i 1) (i 2))

/-- The batch element of a head's number. -/
def bOf (t : Fin 16) : Fin 2 := ⟨t.val / 8, by omega⟩
/-- A column of a slab: head `t mod 8`'s coordinate `j`. -/
def colOf (t : Fin 16) (j : Fin 64) : Fin 512 := ⟨64 * (t.val % 8) + j.val, by omega⟩

/-- The scaled queries, by head. -/
def QT (wq : Vec F S768x512 .bf16) (x : Vec F S2x512x768 .bf16) : Vec F S16x512x64 .bf16 := fun i =>
  projV wq (xrow x (bOf (i 0))) (ix2 (i 1) (colOf (i 0) (i 2)))

/-- The keys or values unpacked after `n` hops, by head. -/
def HT (g : S8x2x512x512.Idx → Elt F .bf16) (c : Dev nD) (n : ℕ) : Vec F S16x512x64 .bf16 := fun i =>
  g (ix4 (org (decide (256 ≤ (i 1).val)) c n) (bOf (i 0)) (i 1) (colOf (i 0) (i 2)))

/-- The gathered buffer that holds every device's `v`. -/
def GT (v : Dev nD → Vec F S2x512x8x64 .bf16) : S8x2x512x512.Idx → Elt F .bf16 := fun i =>
  v ⟨(i 0).val, (i 0).isLt⟩ (ix4 (i 1) (i 2) ⟨(i 3).val / 64, by have := (i 3).isLt; change _ < 512 at this; omega⟩
    ⟨(i 3).val % 64, Nat.mod_lt _ (by decide)⟩)

/-- The row sums after a fold. -/
def foldL (bias : FVec F S512x512 .f32) (q k : Vec F S16x512x64 .bf16) (l : Vec F S16x1x512 .f32) : Vec F S16x1x512 .f32 :=
  fun i => lV (pV bias (hd q (i 0)) (hd k (i 0))) (hd l (i 0)) (ix3 0 (i 1) (i 2))
/-- The weighted sums after a fold. -/
def foldA (bias : FVec F S512x512 .f32) (q k v : Vec F S16x512x64 .bf16) (a : Vec F S16x64x512 .f32) : Vec F S16x64x512 .f32 :=
  fun i => accV (pV bias (hd q (i 0)) (hd k (i 0))) (hd v (i 0)) (hd a (i 0)) (ix3 0 (i 1) (i 2))

/-- Head `h` of batch element `b`. -/
def tOf (b : Fin 2) (h : Fin 8) : Fin 16 := ⟨8 * b.val + h.val, by omega⟩

/-- The output from the accumulators. -/
def OT (wo : Vec F S512x768 .bf16) (a : Vec F S16x64x512 .f32) (l : Vec F S16x1x512 .f32) : Vec F S2x512x768 .f32 := fun i =>
  outV wo (fun h => ctxV (hd a (tOf (i 0) h)) (hd l (tOf (i 0) h))) (ix3 0 (i 1) (i 2))

/-- Zero everywhere. -/
def zero (s : Shape) : Vec F s .f32 := fun _ => Scalar.ofBits .f32 0x00000000#32

/-- The bias of the fold after `n` hops. -/
def biasAt (c : Dev nD) (n : ℕ) : FVec F S512x512 .f32 :=
  if n < 7 then biasV c (orgA c (BitVec.ofNat 32 n)) (orgB c (BitVec.ofNat 32 n)) else biasV c (orgB c 1#32) (orgZ c)

section
variable (q : Vec F S16x512x64 .bf16) (gk gv : S8x2x512x512.Idx → Elt F .bf16) (c : Dev nD)

/-- The row sums after `n` folds. -/
def Ls : ℕ → Vec F S16x1x512 .f32
  | 0 => zero _
  | n + 1 => foldL (biasAt c n) q (HT gk c n) (Ls n)
/-- The weighted sums after `n` folds. -/
def As : ℕ → Vec F S16x64x512 .f32
  | 0 => zero _
  | n + 1 => foldA (biasAt c n) q (HT gk c n) (HT gv c n) (As n)
end

/-- A device's output. -/
def outT (x : Vec F S2x512x768 .bf16) (wq : Vec F S768x512 .bf16) (kk vv : Dev nD → Vec F S2x512x8x64 .bf16)
    (wo : Vec F S512x768 .bf16) (c : Dev nD) : Vec F S2x512x768 .f32 :=
  OT wo (As (QT wq x) (GT kk) (GT vv) c 8) (Ls (QT wq x) (GT kk) c 8)

/-! ## The stores' values at an index -/

theorem qHeadV_at (q : FVec F S512x512 .bf16) (h : Fin 8) (i : Fin 512) (j : Fin 64) (u : Fin 1) :
    qHeadV q h (ix3 u i j) = q (ix2 i ⟨64 * h.val + j.val, by omega⟩) := by
  unfold qHeadV
  rw [shapeCast_apply _ _ _ (ix2 i j : S512x64.Idx) (by
    rw [Shape.rowMajor_val_two, Shape.rowMajor_val_three]
    show i.val * 64 + j.val = (u.val * 512 + i.val) * 64 + j.val
    omega)]
  exact extractStridedSlice_apply _ _ _ _ _ (by
    intro a; fin_cases a
    · show i.val = 0 + i.val; omega
    · rfl)

theorem halfV_at (v : Vec F S1x1x512x512 .bf16) (h : Fin 8) (z : Fin 2) (i : Fin 256) (j : Fin 64) (u : Fin 1) :
    halfV v h z (ix3 u i j) = v (ix4 0 0 ⟨256 * z.val + i.val, by omega⟩ ⟨64 * h.val + j.val, by omega⟩) := by
  unfold halfV
  rw [shapeCast_apply _ _ _ (ix2 i j : S256x64.Idx) (by
    rw [Shape.rowMajor_val_two, Shape.rowMajor_val_three]
    show i.val * 64 + j.val = (u.val * 256 + i.val) * 64 + j.val
    omega)]
  rw [extractStridedSlice_apply _ _ _ _ (ix2 ⟨256 * z.val + i.val, by omega⟩ ⟨64 * h.val + j.val, by omega⟩ : S512x512.Idx) (by
    intro a; fin_cases a <;> rfl)]
  exact shapeCast_apply _ _ _ _ (by
    rw [Shape.rowMajor_val_two, Shape.rowMajor_val_four]
    show ((0 * 1 + 0) * 512 + (256 * z.val + i.val)) * 512 + (64 * h.val + j.val) = (256 * z.val + i.val) * 512 + (64 * h.val + j.val)
    omega)

theorem ownV_at (v : Vec F S2x512x8x64 .bf16) (u : Fin 1) (b : Fin 2) (i j : Fin 512) :
    ownV v (ix4 u b i j) = v (ix4 b i ⟨j.val / 64, by omega⟩ ⟨j.val % 64, Nat.mod_lt _ (by decide)⟩) := by
  unfold ownV
  rw [shapeCast_apply _ _ _ (ix3 b i j : S2x512x512.Idx) (by
    rw [Shape.rowMajor_val_three, Shape.rowMajor_val_four]
    show (b.val * 512 + i.val) * 512 + j.val = ((u.val * 2 + b.val) * 512 + i.val) * 512 + j.val
    omega)]
  rw [shapeCast_apply _ _ _ (ix4 b i ⟨j.val / 64, by omega⟩ ⟨j.val % 64, Nat.mod_lt _ (by decide)⟩ : S2x512x8x64.Idx) (by
    rw [Shape.rowMajor_val_three, Shape.rowMajor_val_four]
    show ((b.val * 512 + i.val) * 8 + j.val / 64) * 64 + j.val % 64 = (b.val * 512 + i.val) * 512 + j.val
    omega)]
  rw [shapeCast_self]

end Cert.KernelIdeal.Attn
-- ==== Proof.Local.lean ====
/-
# The steps on a device's own buffers

The stores of the queries and of the unpacked keys and values, the fold of a tile, the output: each as a rule that says
what the buffers hold before and after.
-/
module

public import proofs.«01_k».proof.Proof.State
public import proofs.«01_k».proof.Proof.Vals

@[expose] public section

noncomputable section

namespace Cert.KernelIdeal.Attn

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- Device `c` holds the whole buffer `B` at contents `f`. -/
abbrev pt (c : Dev nD) (B : Ref sig .tc) (f : B.ty.Contents (Elt F)) : sProp 𝕄 := ((c : Thread nD τ).loc B) ↦{fullShare} f

/-- The buffer agrees with `T` on the elements of position below `n`. -/
def upto (c : Dev nD) (B : Ref sig .tc) (pos : B.ty.Idx → ℕ) (n : ℕ) (T : B.ty.Contents (Elt F)) : sProp 𝕄 :=
  iprop(∃ f : B.ty.Contents (Elt F), ⌜∀ i, pos i < n → f i = T i⌝ ∗ pt c B f)

theorem upto_zero (c : Dev nD) (B : Ref sig .tc) (pos : B.ty.Idx → ℕ) (T f : B.ty.Contents (Elt F)) :
    pt c B f ⊢ upto c B pos 0 T := by
  unfold upto
  iintro H; iexists f
  isplitr; · ipureintro; exact fun i hi => absurd hi (Nat.not_lt_zero _)
  iexact H

theorem upto_all (c : Dev nD) (B : Ref sig .tc) (pos : B.ty.Idx → ℕ) (n : ℕ) (T : B.ty.Contents (Elt F))
    (h : ∀ i, pos i < n) : upto c B pos n T ⊢ pt c B T := by
  unfold upto
  iintro ⟨%f, %hf, H⟩
  have e : f = T := funext fun i => hf i (h i)
  subst e; iexact H

theorem mem_rect {s : Shape} (r : Rect s) (i : s.Idx) : i ∈ r.set ↔ ∃ x, r.emb x = i := by
  rw [← Rect.map_emb_univ]; simp

theorem forall3 {n0 n1 n2 : Nat} {p : (⟨3, ![n0, n1, n2]⟩ : Shape).Idx → Prop}
    (h : ∀ (a : Fin n0) (b : Fin n1) (d : Fin n2), p (ix3 a b d)) : ∀ y, p y := fun y => by rw [eq_ix3 y]; exact h _ _ _
theorem forall4 {n0 n1 n2 n3 : Nat} {p : (⟨4, ![n0, n1, n2, n3]⟩ : Shape).Idx → Prop}
    (h : ∀ (a : Fin n0) (b : Fin n1) (d : Fin n2) (e : Fin n3), p (ix4 a b d e)) : ∀ y, p y := fun y => by
  rw [eq_ix4 y]; exact h _ _ _ _

/-- What a store through a rectangle of a whole buffer leaves. -/
theorem store_at (B : Ref sig .tc) (r : Rect B.ty.shape) (f : B.ty.Contents (Elt F)) (w : r.shape.Idx → Elt F B.ty.elt)
    (x : r.shape.Idx) : ((Memref.whole B).access r).write (Elt F) f w Finset.univ (r.emb x) = w x :=
  View.write_emb_of_mem (Val := Elt F) (v := (Memref.whole B).access r) f w (Finset.mem_univ x)
theorem store_off (B : Ref sig .tc) (r : Rect B.ty.shape) (f : B.ty.Contents (Elt F)) (w : r.shape.Idx → Elt F B.ty.elt)
    (i : B.ty.Idx) (h : i ∉ r.set) : ((Memref.whole B).access r).write (Elt F) f w Finset.univ i = f i :=
  View.write_of_not_mem (Val := Elt F) (v := (Memref.whole B).access r) f w Finset.univ (by
    rw [View.setOn_univ]; rw [show ((Memref.whole B).access r).set = r.set from View.set_slice_whole _ _]; exact h)

/-- A store that extends the agreement: it covers the elements at position `n`, with `T`'s values. -/
theorem upto_store (c : Dev nD) (B : Ref sig .tc) (pos : B.ty.Idx → ℕ) (n : ℕ) (T f : B.ty.Contents (Elt F))
    (r : Rect B.ty.shape) (w : r.shape.Idx → Elt F B.ty.elt) (hf : ∀ i, pos i < n → f i = T i)
    (hr : ∀ i, pos i = n → i ∈ r.set) (hw : ∀ x, w x = T (r.emb x)) :
    ∀ i, pos i < n + 1 → ((Memref.whole B).access r).write (Elt F) f w Finset.univ i = T i := by
  intro i hi
  by_cases hm : i ∈ r.set
  · obtain ⟨x, rfl⟩ := (mem_rect r i).1 hm
    rw [store_at, hw]
  · rw [store_off _ _ _ _ _ hm]
    exact hf i (lt_of_le_of_ne (Nat.lt_succ_iff.1 hi) fun e => hm (hr i e))

/-! ## The queries -/

abbrev pos3 {n m : Nat} (i : (⟨3, ![16, n, m]⟩ : Shape).Idx) : ℕ := (i 0).val

theorem mem_head (n m t : Nat) (inb : ∀ a, (![t, 0, 0] : Fin 3 → Nat) a + (⟨3, ![1, n, m]⟩ : Shape).size a ≤ (⟨3, ![16, n, m]⟩ : Shape).size a)
    (i : (⟨3, ![16, n, m]⟩ : Shape).Idx) :
    i ∈ (Rect.unit (s := ⟨3, ![16, n, m]⟩) ![t, 0, 0] (⟨3, ![1, n, m]⟩ : Shape).size inb).set ↔ (i 0).val = t := by
  rw [Rect.mem_set_unit]
  constructor
  · intro h
    have h0 := h 0
    change t ≤ (i 0).val ∧ (i 0).val < t + 1 at h0
    omega
  · intro h a
    fin_cases a
    · show t ≤ (i 0).val ∧ (i 0).val < t + 1
      omega
    · exact ⟨Nat.zero_le _, by show (i 1).val < 0 + n; have := (i 1).isLt; change _ < n at this; omega⟩
    · exact ⟨Nat.zero_le _, by show (i 2).val < 0 + m; have := (i 2).isLt; change _ < m at this; omega⟩

theorem each_step {c : Dev nD} {f : Fin 8 → Pg F → Pg F} {I : ℕ → sProp 𝕄}
    (h : ∀ j : Fin 8, Step c (f j) (I j.val) (I (j.val + 1))) : Step c (each f heads) (I 0) (I 8) :=
  (h 0).comp <| (h 1).comp <| (h 2).comp <| (h 3).comp <| (h 4).comp <| (h 5).comp <| (h 6).comp (h 7)

theorem qHead_step (c : Dev nD) (b : Fin 2) (h : Fin 8) (wq : Vec F S768x512 .bf16) (x : Vec F S2x512x768 .bf16) :
    Step c (qHeadK b (projV wq (xrow x b)) h) (upto c cc0_scratch0 pos3 (8 * b.val + h.val) (QT wq x))
      (upto c cc0_scratch0 pos3 (8 * b.val + (h.val + 1)) (QT wq x)) := fun k Q => by
  unfold qHeadK wpc
  have hu : ∀ n, upto c cc0_scratch0 pos3 n (QT wq x)
      = iprop(∃ f : Vec F S16x512x64 .bf16, ⌜∀ i, pos3 i < n → f i = QT wq x i⌝ ∗ pt c cc0_scratch0 f) := fun n => rfl
  rw [hu, hu]
  iintro ⟨⟨%f, %hf, H⟩, Hk⟩
  iapply (wp_load 𝒱₀ (c : Thread nD τ) none Set.univ (m := mQh) (Finset.subset_univ _)) $$ H; iintro H
  iapply (wp_store 𝒱₀ (c : Thread nD τ) none Set.univ (m := mQh)
    (r := Rect.unit (s := S16x512x64) ![8 * b.val + h.val, 0, 0] S1x512x64.size (inbHead b h)) (Mk := Finset.univ)
    (Finset.subset_univ _)) $$ H; iintro H
  iapply Hk
  iexists _
  isplitr
  rotate_left
  · iexact H
  ipureintro
  refine upto_store c cc0_scratch0 pos3 (8 * b.val + h.val) (QT wq x) f _ _ hf (fun i hi => (mem_head 512 64 _ _ i).2 hi) ?_
  have hb := b.isLt
  have hh := h.isLt
  refine forall3 (n0 := 1) (n1 := 512) (n2 := 64) (p := fun y => qHeadV (projV wq (xrow x b)) h y
    = QT wq x ((Rect.unit (s := S16x512x64) ![8 * b.val + h.val, 0, 0] S1x512x64.size (inbHead b h)).emb y)) fun u i j => ?_
  rw [qHeadV_at]
  have hu0 : u.val = 0 := by omega
  unfold QT
  have e1 : bOf ((Rect.unit (s := S16x512x64) ![8 * b.val + h.val, 0, 0] S1x512x64.size (inbHead b h)).emb (ix3 u i j) 0) = b :=
    Fin.ext (by show (8 * b.val + h.val + 1 * u.val) / 8 = b.val; omega)
  rw [e1]
  congr 1
  funext a; fin_cases a
  · exact Fin.ext (by show i.val = 0 + 1 * i.val; omega)
  · exact Fin.ext (by
      show 64 * h.val + j.val = 64 * ((8 * b.val + h.val + 1 * u.val) % 8) + (0 + 1 * j.val)
      omega)

theorem xrow_read (x : Vec F S2x512x768 .bf16) (b : Fin 2) :
    mX.view.readAt (Elt F) (Rect.unit (s := S2x512x768) ![b.val, 0, 0] S1x512x768.size (inbX b)).toLoadRect x = xrow x b := by
  funext i
  rw [View.readAt_apply]
  show x _ = x _
  congr 1
  funext a; fin_cases a
  · exact Fin.ext (by show b.val + 1 * (i 0).val = b.val; have : (i 0).val < 1 := (i 0).isLt; omega)
  · exact Fin.ext (by show 0 + 1 * (i 1).val = (i 1).val; omega)
  · exact Fin.ext (by show 0 + 1 * (i 2).val = (i 2).val; omega)

theorem proj_step (c : Dev nD) (b : Fin 2) (wq : Vec F S768x512 .bf16) (x : Vec F S2x512x768 .bf16) :
    Step c (projK b wq) iprop(upto c cc0_scratch0 pos3 (8 * b.val) (QT wq x) ∗ pt c cc0_stg0_0 x)
      iprop(upto c cc0_scratch0 pos3 (8 * b.val + 8) (QT wq x) ∗ pt c cc0_stg0_0 x) := fun k Q => by
  unfold projK wpc
  iintro ⟨⟨Hu, Hx⟩, Hk⟩
  iapply (wp_load 𝒱₀ (c : Thread nD τ) none Set.univ (m := mX) (Finset.subset_univ _)) $$ Hx; iintro Hx
  rw [xrow_read]
  iapply (each_step (I := fun n => upto c cc0_scratch0 pos3 (8 * b.val + n) (QT wq x)) (fun h => qHead_step c b h wq x) k Q)
  isplitl [Hu]; · iexact Hu
  iintro Hu
  iapply Hk
  isplitl [Hu] <;> iassumption

/-! ## The accumulators' zeros -/

theorem off3_zero : (![0, 0, 0] : Fin 3 → Nat) = fun _ => 0 := by funext a; fin_cases a <;> rfl

theorem zero_step (c : Dev nD) (f5 : Vec F S16x64x512 .f32) (f6 : Vec F S16x1x512 .f32) :
    Step c (zeroK (F := F)) iprop(pt c cc0_scratch5 f5 ∗ pt c cc0_scratch6 f6)
      iprop(pt c cc0_scratch5 (zero S16x64x512) ∗ pt c cc0_scratch6 (zero S16x1x512)) := fun k Q => by
  unfold zeroK wpc
  iintro ⟨⟨H5, H6⟩, Hk⟩
  iapply (wp_load 𝒱₀ (c : Thread nD τ) none Set.univ (m := mL) (Finset.subset_univ _)) $$ H6; iintro H6
  iapply (wp_store 𝒱₀ (c : Thread nD τ) none Set.univ (m := mL)
    (r := Rect.unit (s := S16x1x512) ![0, 0, 0] S16x1x512.size inb_S16x1x512_S16x1x512_0_0_0) (Mk := Finset.univ)
    (Finset.subset_univ _)) $$ H6; iintro H6
  iapply (wp_load 𝒱₀ (c : Thread nD τ) none Set.univ (m := mAcc) (Finset.subset_univ _)) $$ H5; iintro H5
  iapply (wp_store 𝒱₀ (c : Thread nD τ) none Set.univ (m := mAcc)
    (r := Rect.unit (s := S16x64x512) ![0, 0, 0] S16x64x512.size inb_S16x64x512_S16x64x512_0_0_0) (Mk := Finset.univ)
    (Finset.subset_univ _)) $$ H5; iintro H5
  iapply Hk
  have e6 : (mL.access (Rect.unit (s := S16x1x512) ![0, 0, 0] S16x1x512.size inb_S16x1x512_S16x1x512_0_0_0)).write (Elt F) f6
      (shapeCast S16x1x512 (broadcast S16x1x512 (Scalar.ofBits .f32 0x00000000#32 : F .f32)) shapeCasts_S16x1x512_S16x1x512)
      Finset.univ = zero S16x1x512 :=
    (Memref.write_access_unit_zero_univ (Elt F) cc0_scratch6 off3_zero _ _ _).trans (shapeCast_self _ _)
  have e5 : (mAcc.access (Rect.unit (s := S16x64x512) ![0, 0, 0] S16x64x512.size inb_S16x64x512_S16x64x512_0_0_0)).write (Elt F) f5
      (shapeCast S16x64x512 (broadcast S16x64x512 (Scalar.ofBits .f32 0x00000000#32 : F .f32)) shapeCasts_S16x64x512_S16x64x512)
      Finset.univ = zero S16x64x512 :=
    (Memref.write_access_unit_zero_univ (Elt F) cc0_scratch5 off3_zero _ _ _).trans (shapeCast_self _ _)
  rw [e6, e5]
  isplitl [H5] <;> iassumption

/-! ## The unpacking of a slab -/

/-- The order the halves of the heads are stored in. -/
abbrev posH (i : (⟨3, ![16, 512, 64]⟩ : Shape).Idx) : ℕ := 2 * (i 0).val + (i 1).val / 256

/-- The keys' or the values' heads, those stored so far. -/
def hU (c : Dev nD) (b : Bool) (n : ℕ) (T : Vec F S16x512x64 .bf16) : sProp 𝕄 :=
  match b with
  | false => upto c cc0_scratch3 posH n T
  | true => upto c cc0_scratch4 posH n T
/-- The keys' or the values' heads, all. -/
def hP (c : Dev nD) (b : Bool) (f : Vec F S16x512x64 .bf16) : sProp 𝕄 :=
  match b with
  | false => pt c cc0_scratch3 f
  | true => pt c cc0_scratch4 f

theorem hU_zero (c : Dev nD) (b : Bool) (T f : Vec F S16x512x64 .bf16) : hP c b f ⊢ hU c b 0 T := by
  cases b
  · exact upto_zero c cc0_scratch3 posH T f
  · exact upto_zero c cc0_scratch4 posH T f

theorem posH_lt (i : (⟨3, ![16, 512, 64]⟩ : Shape).Idx) : posH i < 32 := by
  have h0 : (i 0).val < 16 := (i 0).isLt
  have h1 : (i 1).val < 512 := (i 1).isLt
  show 2 * (i 0).val + (i 1).val / 256 < 32
  omega

theorem hU_all (c : Dev nD) (b : Bool) (T : Vec F S16x512x64 .bf16) : hU c b 32 T ⊢ hP c b T := by
  cases b
  · exact upto_all c cc0_scratch3 posH 32 T posH_lt
  · exact upto_all c cc0_scratch4 posH 32 T posH_lt

abbrev mH : Bool → Memref sig .tc .vmem S16x512x64 .bf16
  | false => mKh
  | true => mVh
theorem mH_whole : ∀ b, (mH b).IsWhole
  | false => Memref.isWhole_whole _
  | true => Memref.isWhole_whole _

theorem half_store (b : Fin 2) (h : Fin 8) (z : Fin 2) (i : (⟨3, ![16, 512, 64]⟩ : Shape).Idx)
    (hi : posH i = 2 * (8 * b.val + h.val) + z.val) :
    i ∈ (Rect.unit (s := S16x512x64) ![8 * b.val + h.val, 256 * z.val, 0] S1x256x64.size (inbHalf b h z)).set := by
  have h0 : (i 0).val < 16 := (i 0).isLt
  have h1 : (i 1).val < 512 := (i 1).isLt
  have h2 : (i 2).val < 64 := (i 2).isLt
  have hz := z.isLt
  change 2 * (i 0).val + (i 1).val / 256 = _ at hi
  rw [Rect.mem_set_unit]
  intro a; fin_cases a
  · show 8 * b.val + h.val ≤ (i 0).val ∧ (i 0).val < 8 * b.val + h.val + 1
    omega
  · show 256 * z.val ≤ (i 1).val ∧ (i 1).val < 256 * z.val + 256
    omega
  · exact ⟨Nat.zero_le _, by show (i 2).val < 0 + 64; omega⟩

theorem half_value (b : Fin 2) (h : Fin 8) (z : Fin 2) (v : Vec F S1x1x512x512 .bf16) (T : Vec F S16x512x64 .bf16)
    (hv : ∀ (i : Fin 256) (j : Fin 64), v (ix4 0 0 ⟨256 * z.val + i.val, by omega⟩ ⟨64 * h.val + j.val, by omega⟩)
      = T (ix3 (tOf b h) ⟨256 * z.val + i.val, by omega⟩ j)) :
    ∀ y, halfV v h z y = T ((Rect.unit (s := S16x512x64) ![8 * b.val + h.val, 256 * z.val, 0] S1x256x64.size (inbHalf b h z)).emb y) := by
  refine forall3 (n0 := 1) (n1 := 256) (n2 := 64) (p := fun y => halfV v h z y
    = T ((Rect.unit (s := S16x512x64) ![8 * b.val + h.val, 256 * z.val, 0] S1x256x64.size (inbHalf b h z)).emb y)) fun u i j => ?_
  have hu0 : u.val = 0 := by omega
  rw [halfV_at, hv]
  congr 1
  funext a; fin_cases a
  · exact Fin.ext (by show 8 * b.val + h.val = 8 * b.val + h.val + 1 * u.val; omega)
  · exact Fin.ext (by show 256 * z.val + i.val = 256 * z.val + 1 * i.val; omega)
  · exact Fin.ext (by show j.val = 0 + 1 * j.val; omega)

theorem half_step (c : Dev nD) (w : Bool) (b : Fin 2) (h : Fin 8) (z : Fin 2) (v : Vec F S1x1x512x512 .bf16)
    (T : Vec F S16x512x64 .bf16)
    (hv : ∀ (i : Fin 256) (j : Fin 64), v (ix4 0 0 ⟨256 * z.val + i.val, by omega⟩ ⟨64 * h.val + j.val, by omega⟩)
      = T (ix3 (tOf b h) ⟨256 * z.val + i.val, by omega⟩ j)) :
    Step c (halfK (mH w) (mH_whole w) b v z h) (hU c w (2 * (8 * b.val + h.val) + z.val) T)
      (hU c w (2 * (8 * b.val + h.val) + z.val + 1) T) := fun k Q => by
  unfold halfK wpc
  cases w
  · have hu : ∀ n, hU c false n T
        = iprop(∃ f : Vec F S16x512x64 .bf16, ⌜∀ i, posH i < n → f i = T i⌝ ∗ pt c cc0_scratch3 f) := fun n => rfl
    rw [hu, hu]
    iintro ⟨⟨%f, %hf, H⟩, Hk⟩
    iapply (wp_load 𝒱₀ (c : Thread nD τ) none Set.univ (m := mKh) (Finset.subset_univ _)) $$ H; iintro H
    iapply (wp_store 𝒱₀ (c : Thread nD τ) none Set.univ (m := mKh)
      (r := Rect.unit (s := S16x512x64) ![8 * b.val + h.val, 256 * z.val, 0] S1x256x64.size (inbHalf b h z)) (Mk := Finset.univ)
      (Finset.subset_univ _)) $$ H; iintro H
    iapply Hk
    iexists _
    isplitr
    rotate_left
    · iexact H
    ipureintro
    exact upto_store c cc0_scratch3 posH _ T f _ _ hf (half_store b h z) (half_value b h z v T hv)
  · have hu : ∀ n, hU c true n T
        = iprop(∃ f : Vec F S16x512x64 .bf16, ⌜∀ i, posH i < n → f i = T i⌝ ∗ pt c cc0_scratch4 f) := fun n => rfl
    rw [hu, hu]
    iintro ⟨⟨%f, %hf, H⟩, Hk⟩
    iapply (wp_load 𝒱₀ (c : Thread nD τ) none Set.univ (m := mVh) (Finset.subset_univ _)) $$ H; iintro H
    iapply (wp_store 𝒱₀ (c : Thread nD τ) none Set.univ (m := mVh)
      (r := Rect.unit (s := S16x512x64) ![8 * b.val + h.val, 256 * z.val, 0] S1x256x64.size (inbHalf b h z)) (Mk := Finset.univ)
      (Finset.subset_univ _)) $$ H; iintro H
    iapply Hk
    iexists _
    isplitr
    rotate_left
    · iexact H
    ipureintro
    exact upto_store c cc0_scratch4 posH _ T f _ _ hf (half_store b h z) (half_value b h z v T hv)

/-- The slab's row of batch element `b`, as its load reads it. -/
def rowOf (f : Gath F) (o : Dev nD) (b : Fin 2) : Vec F S1x1x512x512 .bf16 := fun i => f (ix4 o b (i 2) (i 3))

theorem row_read (w : Bool) (f : Gath F) (o : Dev nD) (b : Fin 2) (off : Fin 4 → Nat)
    (inb : ∀ a, off a + S1x1x512x512.size a ≤ S8x2x512x512.size a) (h : off = ![o.val, b.val, 0, 0]) :
    mKf.view.readAt (Elt F) (Rect.unit (s := S8x2x512x512) off S1x1x512x512.size inb).toLoadRect f = rowOf f o b
    ∧ mVf.view.readAt (Elt F) (Rect.unit (s := S8x2x512x512) off S1x1x512x512.size inb).toLoadRect f = rowOf f o b := by
  subst h
  constructor
  all_goals
    funext i
    rw [View.readAt_apply]
    show f _ = f _
    have h0 : (i 0).val < 1 := (i 0).isLt
    have h1 : (i 1).val < 1 := (i 1).isLt
    congr 1
    funext a; fin_cases a
    · exact Fin.ext (by show o.val + 1 * (i 0).val = o.val; omega)
    · exact Fin.ext (by show b.val + 1 * (i 1).val = b.val; omega)
    · exact Fin.ext (by show 0 + 1 * (i 2).val = (i 2).val; omega)
    · exact Fin.ext (by show 0 + 1 * (i 3).val = (i 3).val; omega)

theorem row_half (g f : Gath F) (c : Dev nD) (n : ℕ) (b : Fin 2) (h : Fin 8) (z : Fin 2)
    (hf : ∀ i ∈ half (decide (z = 1)) (org (decide (z = 1)) c n), f i = g i) (i : Fin 256) (j : Fin 64) :
    rowOf f (org (decide (z = 1)) c n) b (ix4 0 0 ⟨256 * z.val + i.val, by omega⟩ ⟨64 * h.val + j.val, by omega⟩)
      = HT g c n (ix3 (tOf b h) ⟨256 * z.val + i.val, by omega⟩ j) := by
  unfold rowOf HT
  have hz := z.isLt
  have hb := b.isLt
  have hh := h.isLt
  have hd : decide (256 ≤ 256 * z.val + i.val) = decide (z = 1) := by
    by_cases h1 : z = 1
    · subst h1; simp
    · have : z.val = 0 := by have : z.val ≠ 1 := fun e => h1 (Fin.ext e); omega
      rw [decide_eq_false h1, decide_eq_false (by omega)]
  rw [hf _ (mem_half.2 ⟨rfl, by
    show 256 * z.val + i.val < 256 ↔ _
    by_cases h1 : z = 1
    · subst h1; simp
    · have : z.val = 0 := by have : z.val ≠ 1 := fun e => h1 (Fin.ext e); omega
      simp [h1]; omega⟩)]
  congr 1
  funext a; fin_cases a
  · show org (decide (z = 1)) c n = org (decide (256 ≤ 256 * z.val + i.val)) c n
    rw [hd]
  · exact Fin.ext (by show b.val = (8 * b.val + h.val) / 8; omega)
  · rfl
  · exact Fin.ext (by show 64 * h.val + j.val = 64 * ((8 * b.val + h.val) % 8) + j.val; omega)

theorem head_step (c : Dev nD) (b : Fin 2) (ka va kb vb : Vec F S1x1x512x512 .bf16) (TK TV : Vec F S16x512x64 .bf16) (h : Fin 8)
    (h1 : ∀ (i : Fin 256) (j : Fin 64), ka (ix4 0 0 ⟨256 * (0 : Fin 2).val + i.val, by have := i.isLt; simp; omega⟩ ⟨64 * h.val + j.val, by omega⟩)
      = TK (ix3 (tOf b h) ⟨256 * (0 : Fin 2).val + i.val, by have := i.isLt; simp; omega⟩ j))
    (h2 : ∀ (i : Fin 256) (j : Fin 64), va (ix4 0 0 ⟨256 * (0 : Fin 2).val + i.val, by have := i.isLt; simp; omega⟩ ⟨64 * h.val + j.val, by omega⟩)
      = TV (ix3 (tOf b h) ⟨256 * (0 : Fin 2).val + i.val, by have := i.isLt; simp; omega⟩ j))
    (h3 : ∀ (i : Fin 256) (j : Fin 64), kb (ix4 0 0 ⟨256 * (1 : Fin 2).val + i.val, by have := i.isLt; simp; omega⟩ ⟨64 * h.val + j.val, by omega⟩)
      = TK (ix3 (tOf b h) ⟨256 * (1 : Fin 2).val + i.val, by have := i.isLt; simp; omega⟩ j))
    (h4 : ∀ (i : Fin 256) (j : Fin 64), vb (ix4 0 0 ⟨256 * (1 : Fin 2).val + i.val, by have := i.isLt; simp; omega⟩ ⟨64 * h.val + j.val, by omega⟩)
      = TV (ix3 (tOf b h) ⟨256 * (1 : Fin 2).val + i.val, by have := i.isLt; simp; omega⟩ j)) :
    Step c (headK b ka va kb vb h)
      iprop(hU c false (2 * (8 * b.val + h.val)) TK ∗ hU c true (2 * (8 * b.val + h.val)) TV)
      iprop(hU c false (2 * (8 * b.val + (h.val + 1))) TK ∗ hU c true (2 * (8 * b.val + (h.val + 1))) TV) := fun k Q => by
  unfold headK
  iintro ⟨⟨HK, HV⟩, Hk⟩
  iapply (half_step c false b h 0 ka TK h1 _ Q)
  isplitl [HK]; · iexact HK
  iintro HK
  iapply (half_step c true b h 0 va TV h2 _ Q)
  isplitl [HV]; · iexact HV
  iintro HV
  iapply (half_step c false b h 1 kb TK h3 _ Q)
  isplitl [HK]; · iexact HK
  iintro HK
  iapply (half_step c true b h 1 vb TV h4 _ Q)
  isplitl [HV]; · iexact HV
  iintro HV
  iapply Hk
  isplitl [HK] <;> iassumption

end Cert.KernelIdeal.Attn
-- ==== Proof.Unpack.lean ====
/-
# The unpacking of the slabs

A slab's load between hops, and the stores of its heads; the device's own slab, stored at the start.
-/
module

public import proofs.«01_k».proof.Proof.Local

@[expose] public section

noncomputable section

namespace Cert.KernelIdeal.Attn

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem setOn_whole (B : Ref sig .tc) (M : Finset B.ty.Idx) : (Memref.whole B).view.setOn M = M := Finset.map_refl

variable (G : Bool → Gath F)

/-- What of a gathered buffer is the device's after `n` hops. -/
def SP (c : Dev nD) (w : Bool) (n : ℕ) : sProp 𝕄 :=
  iprop(own G c false w n ∗ own G c true w n ∗ farIf c false w n ∗ farIf c true w n)

theorem SP_take (c : Dev nD) (d w : Bool) (n : ℕ) (hn : n ≤ 7) :
    SP G c w n ⊢ (∃ h : Gath F, ⌜∀ i ∈ half d (org d c n), h i = G w i⌝ ∗ slabAt c w (org d c n) h
      ∗ (slabAt c w (org d c n) h -∗ SP G c w n)) := by
  unfold SP
  cases d
  · iintro ⟨H1, H2, H3, H4⟩
    ihave H := (slab_take G c false w n hn) $$ [H1 H2 H4]
    · isplitl [H1]; · iexact H1
      isplitl [H2]; · iexact H2
      iexact H4
    icases H with ⟨%h, %hh, Hs, Hw⟩
    iexists h
    isplitr; · ipureintro; exact hh
    isplitl [Hs]; · iexact Hs
    iintro Hs
    ihave HH := Hw $$ Hs
    icases HH with ⟨H1, H2, H4⟩
    isplitl [H1]; · iexact H1
    isplitl [H2]; · iexact H2
    isplitl [H3]; · iexact H3
    iexact H4
  · iintro ⟨H1, H2, H3, H4⟩
    ihave H := (slab_take G c true w n hn) $$ [H1 H2 H3]
    · isplitl [H2]; · iexact H2
      isplitl [H1]; · iexact H1
      iexact H3
    icases H with ⟨%h, %hh, Hs, Hw⟩
    iexists h
    isplitr; · ipureintro; exact hh
    isplitl [Hs]; · iexact Hs
    iintro Hs
    ihave HH := Hw $$ Hs
    icases HH with ⟨H2, H1, H3⟩
    isplitl [H1]; · iexact H1
    isplitl [H2]; · iexact H2
    isplitl [H3]; · iexact H3
    iexact H4

theorem slab_load (c : Dev nD) (d w : Bool) (n : ℕ) (hn : n ≤ 7) (b : Fin 2) (off : Fin 4 → Nat)
    (inb : ∀ a, off a + S1x1x512x512.size a ≤ S8x2x512x512.size a) (h : off = ![(org d c n).val, b.val, 0, 0])
    (hl : (mF w).view.LoadsAt (Rect.unit (s := S8x2x512x512) off S1x1x512x512.size inb).toLoadRect)
    (k : Vec F S1x1x512x512 .bf16 → Pg F) (Q : PUnit → sProp 𝕄) :
    iprop(SP G c w n ∗ (∀ f : Gath F, ⌜∀ i ∈ half d (org d c n), f i = G w i⌝ -∗ SP G c w n
      -∗ wpc c (k (rowOf f (org d c n) b)) Q))
      ⊢ wpc c (.op (.load (mF w) (Rect.unit (s := S8x2x512x512) off S1x1x512x512.size inb).toLoadRect hl) k) Q := by
  have hset : ∀ o : Dev nD, off = ![o.val, b.val, 0, 0] →
      (Rect.unit (s := S8x2x512x512) off S1x1x512x512.size inb).set ⊆ slab o := fun o ho => rect_row o b.val off inb ho
  have hset := hset _ h
  unfold wpc
  iintro ⟨HS, Hk⟩
  ihave HS := (SP_take G c d w n hn) $$ HS
  icases HS with ⟨%f, %hf, Hs, Hw⟩
  have hr := row_read w f (org d c n) b off inb h
  cases w
  · unfold slabAt
    iapply (wp_load 𝒱₀ (c : Thread nD τ) none Set.univ (m := mKf) (S := slab (org d c n)) (by
      rw [show (mKf.view.setOn (Rect.unit (s := S8x2x512x512) off S1x1x512x512.size inb).toLoadRect.set)
        = (Rect.unit (s := S8x2x512x512) off S1x1x512x512.size inb).set from setOn_whole _ _]
      exact hset)) $$ Hs; iintro Hs
    rw [hr.1]
    iapply Hk $$ %f %hf [Hw Hs]
    iapply Hw; iexact Hs
  · unfold slabAt
    iapply (wp_load 𝒱₀ (c : Thread nD τ) none Set.univ (m := mVf) (S := slab (org d c n)) (by
      rw [show (mVf.view.setOn (Rect.unit (s := S8x2x512x512) off S1x1x512x512.size inb).toLoadRect.set)
        = (Rect.unit (s := S8x2x512x512) off S1x1x512x512.size inb).set from setOn_whole _ _]
      exact hset)) $$ Hs; iintro Hs
    rw [hr.2]
    iapply Hk $$ %f %hf [Hw Hs]
    iapply Hw; iexact Hs

theorem unpack_step (c : Dev nD) (n : ℕ) (hn : n ≤ 7) (b : Fin 2) (oA oB : Fin 4 → Nat)
    (iA : ∀ a, oA a + S1x1x512x512.size a ≤ S8x2x512x512.size a) (iB : ∀ a, oB a + S1x1x512x512.size a ≤ S8x2x512x512.size a)
    (hA : oA = ![(org false c n).val, b.val, 0, 0]) (hB : oB = ![(org true c n).val, b.val, 0, 0]) :
    Step c (unpackK (F := F) b oA oB iA iB)
      iprop(SP G c false n ∗ SP G c true n ∗ hU c false (2 * (8 * b.val)) (HT (G false) c n) ∗ hU c true (2 * (8 * b.val)) (HT (G true) c n))
      iprop(SP G c false n ∗ SP G c true n ∗ hU c false (2 * (8 * b.val + 8)) (HT (G false) c n)
        ∗ hU c true (2 * (8 * b.val + 8)) (HT (G true) c n)) := fun k Q => by
  unfold unpackK
  iintro ⟨⟨SK, SV, HK, HV⟩, Hk⟩
  iapply (slab_load G c false false n hn b oA iA hA _ _ Q)
  isplitl [SK]; · iexact SK
  iintro %fka %hka SK
  iapply (slab_load G c false true n hn b oA iA hA _ _ Q)
  isplitl [SV]; · iexact SV
  iintro %fva %hva SV
  iapply (slab_load G c true false n hn b oB iB hB _ _ Q)
  isplitl [SK]; · iexact SK
  iintro %fkb %hkb SK
  iapply (slab_load G c true true n hn b oB iB hB _ _ Q)
  isplitl [SV]; · iexact SV
  iintro %fvb %hvb SV
  iapply (each_step (I := fun m => iprop(hU c false (2 * (8 * b.val + m)) (HT (G false) c n)
    ∗ hU c true (2 * (8 * b.val + m)) (HT (G true) c n)))
    (fun h => head_step c b _ _ _ _ (HT (G false) c n) (HT (G true) c n) h
      (row_half (G false) fka c n b h 0 hka) (row_half (G true) fva c n b h 0 hva)
      (row_half (G false) fkb c n b h 1 hkb) (row_half (G true) fvb c n b h 1 hvb)) k Q)
  isplitl [HK HV]
  · isplitl [HK]; · iexact HK
    iexact HV
  iintro ⟨HK, HV⟩
  iapply Hk
  isplitl [SK]; · iexact SK
  isplitl [SV]; · iexact SV
  isplitl [HK] <;> iassumption

/-- The unpacking after `n` hops, both batch elements. -/
theorem unpack2_step (c : Dev nD) (n : ℕ) (hn : n ≤ 7) (oA oB oA' oB' : Fin 4 → Nat)
    (iA : ∀ a, oA a + S1x1x512x512.size a ≤ S8x2x512x512.size a) (iB : ∀ a, oB a + S1x1x512x512.size a ≤ S8x2x512x512.size a)
    (iA' : ∀ a, oA' a + S1x1x512x512.size a ≤ S8x2x512x512.size a) (iB' : ∀ a, oB' a + S1x1x512x512.size a ≤ S8x2x512x512.size a)
    (hA : oA = ![(org false c n).val, 0, 0, 0]) (hB : oB = ![(org true c n).val, 0, 0, 0])
    (hA' : oA' = ![(org false c n).val, 1, 0, 0]) (hB' : oB' = ![(org true c n).val, 1, 0, 0]) (fk fv : Vec F S16x512x64 .bf16) :
    Step c (fun k => unpackK (F := F) 0 oA oB iA iB (unpackK 1 oA' oB' iA' iB' k))
      iprop(St G c n ∗ hP c false fk ∗ hP c true fv)
      iprop(St G c n ∗ hP c false (HT (G false) c n) ∗ hP c true (HT (G true) c n)) := fun k Q => by
  unfold St Ch
  iintro ⟨⟨⟨⟨⟨O0, T0, H0⟩, ⟨O1, T1, H1⟩, ⟨O2, T2, H2⟩, ⟨O3, T3, H3⟩⟩, F0, F1, F2, F3⟩, HK, HV⟩, Hk⟩
  ihave HK := (hU_zero c false (HT (G false) c n) fk) $$ HK
  ihave HV := (hU_zero c true (HT (G true) c n) fv) $$ HV
  iapply (unpack_step G c n hn 0 oA oB iA iB hA hB _ Q)
  isplitl [O0 O1 O2 O3 F0 F1 F2 F3 HK HV]
  · unfold SP
    isplitl [O0 O2 F0 F2]
    · isplitl [O0]; · iexact O0
      isplitl [O2]; · iexact O2
      isplitl [F0] <;> iassumption
    isplitl [O1 O3 F1 F3]
    · isplitl [O1]; · iexact O1
      isplitl [O3]; · iexact O3
      isplitl [F1] <;> iassumption
    isplitl [HK]; · iexact HK
    iexact HV
  iintro ⟨SK, SV, HK, HV⟩
  iapply (unpack_step G c n hn 1 oA' oB' iA' iB' hA' hB' _ Q)
  isplitl [SK SV HK HV]
  · isplitl [SK]; · iexact SK
    isplitl [SV]; · iexact SV
    isplitl [HK]; · iexact HK
    iexact HV
  unfold SP
  iintro ⟨⟨O0, O2, F0, F2⟩, ⟨O1, O3, F1, F3⟩, HK, HV⟩
  ihave HK := (hU_all c false (HT (G false) c n)) $$ HK
  ihave HV := (hU_all c true (HT (G true) c n)) $$ HV
  iapply Hk
  isplitr [HK HV]
  · isplitl [O0 T0 H0 O1 T1 H1 O2 T2 H2 O3 T3 H3]
    · isplitl [O0 T0 H0]
      · isplitl [O0]; · iexact O0
        isplitl [T0] <;> iassumption
      isplitl [O1 T1 H1]
      · isplitl [O1]; · iexact O1
        isplitl [T1] <;> iassumption
      isplitl [O2 T2 H2]
      · isplitl [O2]; · iexact O2
        isplitl [T2] <;> iassumption
      isplitl [O3]; · iexact O3
      isplitl [T3] <;> iassumption
    isplitl [F0]; · iexact F0
    isplitl [F1]; · iexact F1
    isplitl [F2] <;> iassumption
  isplitl [HK] <;> iassumption

/-! ## The device's own slab -/

abbrev mI : Bool → Memref sig .tc .vmem S2x512x8x64 .bf16
  | false => mK
  | true => mV
/-- The staged keys or values of device `c`. -/
def inP (c : Dev nD) (w : Bool) (v : Vec F S2x512x8x64 .bf16) : sProp 𝕄 :=
  match w with
  | false => pt c cc0_stg2_0 v
  | true => pt c cc0_stg3_0 v

theorem off4_zero : (![0, 0, 0, 0] : Fin 4 → Nat) = fun _ => 0 := by funext a; fin_cases a <;> rfl

theorem own_value (o : Dev nD) (off : Fin 4 → Nat) (inb : ∀ a, off a + S1x2x512x512.size a ≤ S8x2x512x512.size a)
    (h : off = ![o.val, 0, 0, 0]) (v : Vec F S2x512x8x64 .bf16) (g : Gath F)
    (hg : ∀ (b : Fin 2) (i j : Fin 512), g (ix4 o b i j)
      = v (ix4 b i ⟨j.val / 64, by omega⟩ ⟨j.val % 64, Nat.mod_lt _ (by decide)⟩)) :
    ∀ y, ownV v y = g ((Rect.unit (s := S8x2x512x512) off S1x2x512x512.size inb).emb y) := by
  subst h
  refine forall4 (n0 := 1) (n1 := 2) (n2 := 512) (n3 := 512) (p := fun y => ownV v y
    = g ((Rect.unit (s := S8x2x512x512) ![o.val, 0, 0, 0] S1x2x512x512.size inb).emb y)) fun u b i j => ?_
  rw [ownV_at, ← hg]
  have hu : u.val = 0 := by omega
  refine congrArg g ?_
  funext a; fin_cases a
  · exact Fin.ext (by show o.val = o.val + 1 * u.val; omega)
  · exact Fin.ext (by show b.val = 0 + 1 * b.val; omega)
  · exact Fin.ext (by show i.val = 0 + 1 * i.val; omega)
  · exact Fin.ext (by show j.val = 0 + 1 * j.val; omega)

theorem own_store (o : Dev nD) (off : Fin 4 → Nat) (inb : ∀ a, off a + S1x2x512x512.size a ≤ S8x2x512x512.size a)
    (h : off = ![o.val, 0, 0, 0]) (v : Vec F S2x512x8x64 .bf16) (g f : Gath F)
    (hg : ∀ (b : Fin 2) (i j : Fin 512), g (ix4 o b i j)
      = v (ix4 b i ⟨j.val / 64, by omega⟩ ⟨j.val % 64, Nat.mod_lt _ (by decide)⟩)) :
    ∀ i ∈ slab o,
      (mKf.access (Rect.unit (s := S8x2x512x512) off S1x2x512x512.size inb)).write (Elt F) f (ownV v) Finset.univ i = g i
      ∧ (mVf.access (Rect.unit (s := S8x2x512x512) off S1x2x512x512.size inb)).write (Elt F) f (ownV v) Finset.univ i = g i := by
  intro i hi
  rw [← rect_slab o off inb h] at hi
  obtain ⟨x, rfl⟩ := (mem_rect _ i).1 hi
  have hx := own_value o off inb h v g hg x
  rw [← hx]
  constructor
  · exact store_at cc0_scratch1 (Rect.unit (s := S8x2x512x512) off S1x2x512x512.size inb) f (ownV v) x
  · exact store_at cc0_scratch2 (Rect.unit (s := S8x2x512x512) off S1x2x512x512.size inb) f (ownV v) x

theorem own_step (c : Dev nD) (w : Bool) (v : Vec F S2x512x8x64 .bf16)
    (hg : ∀ (b : Fin 2) (i j : Fin 512), G w (ix4 (org false c 0) b i j)
      = v (ix4 b i ⟨j.val / 64, by omega⟩ ⟨j.val % 64, Nat.mod_lt _ (by decide)⟩)) :
    Step c (ownK c (mI w) (mF w) (mF_whole w))
      iprop(inP c w v ∗ anySlot c false w (org false c 0) ∗ anySlot c true w (org true c 0))
      iprop(inP c w v ∗ slot c false w (org false c 0) (G w) ∗ slot c true w (org true c 0) (G w)) := fun k Q => by
  have e0 : org true c 0 = org false c 0 := by rw [org_zero, org_zero]
  rw [e0]
  have hsl : ∀ f : Gath F, (∀ i ∈ slab (org false c 0), f i = G w i) →
      slabAt c w (org false c 0) f ⊢ iprop(slot c false w (org false c 0) (G w) ∗ slot c true w (org false c 0) (G w)) := by
    intro f hf
    have hu := slab_eq false (org false c 0)
    unfold slabAt slot
    cases w
    · dsimp only
      rw [pointsTo_congr hf, hu]; exact (pointsTo_union (half_disj_dir false _ _)).1
    · dsimp only
      rw [pointsTo_congr hf, hu]; exact (pointsTo_union (half_disj_dir false _ _)).1
  unfold ownK wpc anySlot
  iintro ⟨⟨Hi, ⟨%f, S1⟩, ⟨%g, S2⟩⟩, Hk⟩
  ihave HJ := (slab_join c false w (org false c 0) f g) $$ [S1 S2]
  · isplitl [S1]; · iexact S1
    iexact S2
  icases HJ with ⟨%h, -, Hs, -⟩
  have hset := rect_slab (org false c 0) (k0_off1 c) (k0_off1_inb c) (off1_eq c)
  cases w
  · dsimp only [slabAt] at hsl
    unfold inP
    iapply (wp_load 𝒱₀ (c : Thread nD τ) none Set.univ (m := mK) (Finset.subset_univ _)) $$ Hi; iintro Hi
    rw [show mK.view.readAt (Elt F) (Rect.unit (s := S2x512x8x64) ![0, 0, 0, 0] S2x512x8x64.size inb_S2x512x8x64_S2x512x8x64_0_0_0_0).toLoadRect v
      = v from Memref.readAt_unit_zero (Elt F) cc0_stg2_0 off4_zero _ v]
    ihave Hs := (show slabAt c false (org false c 0) h ⊢ (((c : Thread nD τ).loc cc0_scratch1) ↦[slab (org false c 0)]{fullShare} h : sProp 𝕄)
      from Entails.of_eq rfl) $$ Hs
    iapply (wp_load 𝒱₀ (c : Thread nD τ) none Set.univ (m := mKf) (S := slab (org false c 0)) (by
      rw [← hset]; exact (setOn_whole _ _).le)) $$ Hs; iintro Hs
    iapply (wp_store 𝒱₀ (c : Thread nD τ) none Set.univ (m := mKf)
      (r := Rect.unit (s := S8x2x512x512) (k0_off1 c) S1x2x512x512.size (k0_off1_inb c)) (Mk := Finset.univ) (S := slab (org false c 0))
      (by rw [View.setOn_univ, ← hset]; exact (View.set_slice_whole _ _).le)) $$ Hs; iintro Hs
    iapply Hk
    isplitl [Hi]; · iexact Hi
    iapply (hsl _ fun i hi => (own_store _ _ (k0_off1_inb c) (off1_eq c) v (G false) h hg i hi).1)
    iexact Hs
  · dsimp only [slabAt] at hsl
    unfold inP
    iapply (wp_load 𝒱₀ (c : Thread nD τ) none Set.univ (m := mV) (Finset.subset_univ _)) $$ Hi; iintro Hi
    rw [show mV.view.readAt (Elt F) (Rect.unit (s := S2x512x8x64) ![0, 0, 0, 0] S2x512x8x64.size inb_S2x512x8x64_S2x512x8x64_0_0_0_0).toLoadRect v
      = v from Memref.readAt_unit_zero (Elt F) cc0_stg3_0 off4_zero _ v]
    ihave Hs := (show slabAt c true (org false c 0) h ⊢ (((c : Thread nD τ).loc cc0_scratch2) ↦[slab (org false c 0)]{fullShare} h : sProp 𝕄)
      from Entails.of_eq rfl) $$ Hs
    iapply (wp_load 𝒱₀ (c : Thread nD τ) none Set.univ (m := mVf) (S := slab (org false c 0)) (by
      rw [← hset]; exact (setOn_whole _ _).le)) $$ Hs; iintro Hs
    iapply (wp_store 𝒱₀ (c : Thread nD τ) none Set.univ (m := mVf)
      (r := Rect.unit (s := S8x2x512x512) (k0_off1 c) S1x2x512x512.size (k0_off1_inb c)) (Mk := Finset.univ) (S := slab (org false c 0))
      (by rw [View.setOn_univ, ← hset]; exact (View.set_slice_whole _ _).le)) $$ Hs; iintro Hs
    iapply Hk
    isplitl [Hi]; · iexact Hi
    iapply (hsl _ fun i hi => (own_store _ _ (k0_off1_inb c) (off1_eq c) v (G true) h hg i hi).2)
    iexact Hs

end Cert.KernelIdeal.Attn
-- ==== Proof.Fold.lean ====
/-
# The fold of a tile and the output

The loop over the sixteen heads, and the two batch elements' output.
-/
module

public import proofs.«01_k».proof.Proof.Local

@[expose] public section

noncomputable section

namespace Cert.KernelIdeal.Attn

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem head_idx {n m : Nat} {α : Type} (f : (⟨3, ![16, n, m]⟩ : Shape).Idx → α) (t : Fin 16) (off : Fin 3 → Nat)
    (inb : ∀ a, off a + (⟨3, ![1, n, m]⟩ : Shape).size a ≤ (⟨3, ![16, n, m]⟩ : Shape).size a) (h : off = ![t.val, 0, 0])
    (i : (⟨3, ![1, n, m]⟩ : Shape).Idx) :
    f ((Rect.unit (s := ⟨3, ![16, n, m]⟩) off (⟨3, ![1, n, m]⟩ : Shape).size inb).emb i) = hd f t i := by
  subst h
  refine congrArg f ?_
  have h0 : (i 0).val < 1 := (i 0).isLt
  funext a; fin_cases a
  · exact Fin.ext (by show t.val + 1 * (i 0).val = t.val; omega)
  · exact Fin.ext (by show 0 + 1 * (i 1).val = (i 1).val; omega)
  · exact Fin.ext (by show 0 + 1 * (i 2).val = (i 2).val; omega)

section
variable (t : Fin 16) (off : Fin 3 → Nat) (h : off = ![t.val, 0, 0])
include h
theorem read_q (f : Vec F S16x512x64 .bf16) (inb : ∀ a, off a + S1x512x64.size a ≤ S16x512x64.size a) :
    mQh.view.readAt (Elt F) (Rect.unit (s := S16x512x64) off S1x512x64.size inb).toLoadRect f = hd f t :=
  funext fun i => head_idx f t off inb h i
theorem read_k (f : Vec F S16x512x64 .bf16) (inb : ∀ a, off a + S1x512x64.size a ≤ S16x512x64.size a) :
    mKh.view.readAt (Elt F) (Rect.unit (s := S16x512x64) off S1x512x64.size inb).toLoadRect f = hd f t :=
  funext fun i => head_idx f t off inb h i
theorem read_v (f : Vec F S16x512x64 .bf16) (inb : ∀ a, off a + S1x512x64.size a ≤ S16x512x64.size a) :
    mVh.view.readAt (Elt F) (Rect.unit (s := S16x512x64) off S1x512x64.size inb).toLoadRect f = hd f t :=
  funext fun i => head_idx f t off inb h i
theorem read_l (f : Vec F S16x1x512 .f32) (inb : ∀ a, off a + S1x1x512.size a ≤ S16x1x512.size a) :
    mL.view.readAt (Elt F) (Rect.unit (s := S16x1x512) off S1x1x512.size inb).toLoadRect f = hd f t :=
  funext fun i => head_idx f t off inb h i
theorem read_a (f : Vec F S16x64x512 .f32) (inb : ∀ a, off a + S1x64x512.size a ≤ S16x64x512.size a) :
    mAcc.view.readAt (Elt F) (Rect.unit (s := S16x64x512) off S1x64x512.size inb).toLoadRect f = hd f t :=
  funext fun i => head_idx f t off inb h i
end

/-- The buffer after the first `n` heads' updates: `new` at those heads, `old` at the others. -/
def mix {n m : Nat} {α : Type} (k : ℕ) (new old : (⟨3, ![16, n, m]⟩ : Shape).Idx → α) : (⟨3, ![16, n, m]⟩ : Shape).Idx → α :=
  fun i => if (i 0).val < k then new i else old i

theorem mix_zero {n m : Nat} {α : Type} (new old : (⟨3, ![16, n, m]⟩ : Shape).Idx → α) : mix 0 new old = old :=
  funext fun i => if_neg (Nat.not_lt_zero _)
theorem mix_all {n m : Nat} {α : Type} (new old : (⟨3, ![16, n, m]⟩ : Shape).Idx → α) : mix 16 new old = new :=
  funext fun i => if_pos (i 0).isLt
theorem mix_hd {n m : Nat} {α : Type} (new old : (⟨3, ![16, n, m]⟩ : Shape).Idx → α) (t : Fin 16) :
    hd (mix t.val new old) t = hd old t := funext fun i => if_neg (lt_irrefl _)

theorem store_l (t : Fin 16) (off : Fin 3 → Nat) (h : off = ![t.val, 0, 0]) (new old : Vec F S16x1x512 .f32)
    (inb : ∀ a, off a + S1x1x512.size a ≤ S16x1x512.size a) (w : Vec F S1x1x512 .f32)
    (hw : ∀ i, w i = hd new t i) :
    (mL.access (Rect.unit (s := S16x1x512) off S1x1x512.size inb)).write (Elt F) (mix t.val new old) w Finset.univ
      = mix (t.val + 1) new old := by
  funext i
  by_cases hm : (i 0).val = t.val
  · have hi : i ∈ (Rect.unit (s := S16x1x512) off S1x1x512.size inb).set := by subst h; exact (mem_head 1 512 t.val inb i).2 hm
    obtain ⟨x, hx⟩ := (mem_rect _ i).1 hi
    have e : mix (t.val + 1) new old i = new i := if_pos (by rw [hm]; exact Nat.lt_succ_self _)
    rw [e, ← hx]
    refine (store_at cc0_scratch6 (Rect.unit (s := S16x1x512) off S1x1x512.size inb) _ w x).trans ?_
    rw [hw]
    exact (head_idx new t off inb h x).symm
  · refine (store_off cc0_scratch6 (Rect.unit (s := S16x1x512) off S1x1x512.size inb) _ w i ?_).trans ?_
    · subst h; exact fun hi => hm ((mem_head 1 512 t.val inb i).1 hi)
    · show (if _ then _ else _) = if _ then _ else _
      by_cases hl : (i 0).val < t.val
      · rw [if_pos hl, if_pos (by omega)]
      · rw [if_neg hl, if_neg (by omega)]

theorem store_a (t : Fin 16) (off : Fin 3 → Nat) (h : off = ![t.val, 0, 0]) (new old : Vec F S16x64x512 .f32)
    (inb : ∀ a, off a + S1x64x512.size a ≤ S16x64x512.size a) (w : Vec F S1x64x512 .f32)
    (hw : ∀ i, w i = hd new t i) :
    (mAcc.access (Rect.unit (s := S16x64x512) off S1x64x512.size inb)).write (Elt F) (mix t.val new old) w Finset.univ
      = mix (t.val + 1) new old := by
  funext i
  by_cases hm : (i 0).val = t.val
  · have hi : i ∈ (Rect.unit (s := S16x64x512) off S1x64x512.size inb).set := by subst h; exact (mem_head 64 512 t.val inb i).2 hm
    obtain ⟨x, hx⟩ := (mem_rect _ i).1 hi
    have e : mix (t.val + 1) new old i = new i := if_pos (by rw [hm]; exact Nat.lt_succ_self _)
    rw [e, ← hx]
    refine (store_at cc0_scratch5 (Rect.unit (s := S16x64x512) off S1x64x512.size inb) _ w x).trans ?_
    rw [hw]
    exact (head_idx new t off inb h x).symm
  · refine (store_off cc0_scratch5 (Rect.unit (s := S16x64x512) off S1x64x512.size inb) _ w i ?_).trans ?_
    · subst h; exact fun hi => hm ((mem_head 64 512 t.val inb i).1 hi)
    · show (if _ then _ else _) = if _ then _ else _
      by_cases hl : (i 0).val < t.val
      · rw [if_pos hl, if_pos (by omega)]
      · rw [if_neg hl, if_neg (by omega)]

theorem trips_eq : k0_t1_loop.trips = 16 := by decide +kernel
theorem off6_eq (t : Fin k0_t1_loop.trips) : k0_off6 t = ![t.val, 0, 0] := by revert t; decide +kernel
theorem off7_eq (t : Fin k0_t1_loop.trips) : k0_off7 t = ![t.val, 0, 0] := by revert t; decide +kernel
theorem off8_eq (t : Fin k0_t1_loop.trips) : k0_off8 t = ![t.val, 0, 0] := by revert t; decide +kernel

/-- What the fold works on, after the first `n` heads. -/
def foldI (c : Dev nD) (bias : FVec F S512x512 .f32) (q kh vh : Vec F S16x512x64 .bf16) (l : Vec F S16x1x512 .f32)
    (a : Vec F S16x64x512 .f32) (n : ℕ) : sProp 𝕄 :=
  iprop(pt c cc0_scratch0 q ∗ pt c cc0_scratch3 kh ∗ pt c cc0_scratch4 vh
    ∗ pt c cc0_scratch6 (mix n (foldL bias q kh l) l) ∗ pt c cc0_scratch5 (mix n (foldA bias q kh vh a) a))

theorem foldTrip (c : Dev nD) (bias : FVec F S512x512 .f32) (q kh vh : Vec F S16x512x64 .bf16) (l : Vec F S16x1x512 .f32)
    (a : Vec F S16x64x512 .f32) (t : Fin k0_t1_loop.trips) (t' : Fin 16) (ht : t.val = t'.val) :
    foldI c bias q kh vh l a t.val ⊢ wpc c (foldStep bias t) (fun _ => foldI c bias q kh vh l a (t.val + 1)) := by
  have e6 : k0_off6 t = ![t'.val, 0, 0] := (off6_eq t).trans (by rw [ht])
  have e7 : k0_off7 t = ![t'.val, 0, 0] := (off7_eq t).trans (by rw [ht])
  have e8 : k0_off8 t = ![t'.val, 0, 0] := (off8_eq t).trans (by rw [ht])
  unfold foldI foldStep wpc
  rw [ht]
  iintro ⟨H0, H3, H4, H6, H5⟩
  iapply (wp_load 𝒱₀ (c : Thread nD τ) none Set.univ (m := mQh) (Finset.subset_univ _)) $$ H0; iintro H0
  rw [read_q t' _ e6 q (k0_off6_inb t)]
  iapply (wp_load 𝒱₀ (c : Thread nD τ) none Set.univ (m := mKh) (Finset.subset_univ _)) $$ H3; iintro H3
  rw [read_k t' _ e6 kh (k0_off6_inb t)]
  iapply (wp_load 𝒱₀ (c : Thread nD τ) none Set.univ (m := mL) (Finset.subset_univ _)) $$ H6; iintro H6
  rw [read_l t' _ e7 _ (k0_off7_inb t), mix_hd]
  iapply (wp_load 𝒱₀ (c : Thread nD τ) none Set.univ (m := mL) (Finset.subset_univ _)) $$ H6; iintro H6
  iapply (wp_store 𝒱₀ (c : Thread nD τ) none Set.univ (m := mL)
    (r := Rect.unit (s := S16x1x512) (k0_off7 t) S1x1x512.size (k0_off7_inb t)) (Mk := Finset.univ)
    (Finset.subset_univ _)) $$ H6; iintro H6
  rw [store_l t' _ e7 (foldL bias q kh l) l (k0_off7_inb t) _ (by
    refine forall3 (n0 := 1) (n1 := 1) (n2 := 512) (p := fun i => lV (pV bias (hd q t') (hd kh t')) (hd l t') i = hd (foldL bias q kh l) t' i)
      fun u i j => ?_
    have hu : u = 0 := Subsingleton.elim _ _
    subst hu; rfl)]
  iapply (wp_load 𝒱₀ (c : Thread nD τ) none Set.univ (m := mVh) (Finset.subset_univ _)) $$ H4; iintro H4
  rw [read_v t' _ e6 vh (k0_off6_inb t)]
  iapply (wp_load 𝒱₀ (c : Thread nD τ) none Set.univ (m := mAcc) (Finset.subset_univ _)) $$ H5; iintro H5
  rw [read_a t' _ e8 _ (k0_off8_inb t), mix_hd]
  iapply (wp_load 𝒱₀ (c : Thread nD τ) none Set.univ (m := mAcc) (Finset.subset_univ _)) $$ H5; iintro H5
  iapply (wp_store 𝒱₀ (c : Thread nD τ) none Set.univ (m := mAcc)
    (r := Rect.unit (s := S16x64x512) (k0_off8 t) S1x64x512.size (k0_off8_inb t)) (Mk := Finset.univ)
    (Finset.subset_univ _)) $$ H5; iintro H5
  rw [store_a t' _ e8 (foldA bias q kh vh a) a (k0_off8_inb t) _ (by
    refine forall3 (n0 := 1) (n1 := 64) (n2 := 512)
      (p := fun i => accV (pV bias (hd q t') (hd kh t')) (hd vh t') (hd a t') i = hd (foldA bias q kh vh a) t' i)
      fun u i j => ?_
    have hu : u = 0 := Subsingleton.elim _ _
    subst hu; rfl), wp_ret]
  imodintro
  isplitl [H0]; · iexact H0
  isplitl [H3]; · iexact H3
  isplitl [H4]; · iexact H4
  isplitl [H6] <;> iassumption

theorem fold_step (c : Dev nD) (bias : FVec F S512x512 .f32) (q kh vh : Vec F S16x512x64 .bf16) (l : Vec F S16x1x512 .f32)
    (a : Vec F S16x64x512 .f32) :
    Step c (foldK bias)
      iprop(pt c cc0_scratch0 q ∗ pt c cc0_scratch3 kh ∗ pt c cc0_scratch4 vh ∗ pt c cc0_scratch6 l ∗ pt c cc0_scratch5 a)
      iprop(pt c cc0_scratch0 q ∗ pt c cc0_scratch3 kh ∗ pt c cc0_scratch4 vh ∗ pt c cc0_scratch6 (foldL bias q kh l)
        ∗ pt c cc0_scratch5 (foldA bias q kh vh a)) := fun k Q => by
  have h0 : foldI c bias q kh vh l a 0
      = iprop(pt c cc0_scratch0 q ∗ pt c cc0_scratch3 kh ∗ pt c cc0_scratch4 vh ∗ pt c cc0_scratch6 l ∗ pt c cc0_scratch5 a) := by
    unfold foldI; rw [mix_zero, mix_zero]
  have h16 : foldI c bias q kh vh l a 16
      = iprop(pt c cc0_scratch0 q ∗ pt c cc0_scratch3 kh ∗ pt c cc0_scratch4 vh ∗ pt c cc0_scratch6 (foldL bias q kh l)
        ∗ pt c cc0_scratch5 (foldA bias q kh vh a)) := by
    unfold foldI; rw [mix_all, mix_all]
  rw [← h0, ← h16]
  unfold foldK wpc
  iintro ⟨H, Hk⟩
  iapply (Scf.wp_for_bind frame (wpE (defs₀ (F := F)) 𝒱₀ (c : Thread nD τ) none) Set.univ k0_t1_loop.lb k0_t1_loop.ub k0_t1_loop.st
    k0_t1_ok (⟨⟩ : PUnit) (fun t _ => foldStep bias t) (fun n _ => foldI c bias q kh vh l a n)
    (fun t acc => foldTrip c bias q kh vh l a t ⟨t.val, lt_of_lt_of_eq t.isLt trips_eq⟩ rfl)) $$ H
  iintro %acc H
  iapply Hk
  iapply (Entails.of_eq (congrArg (foldI c bias q kh vh l a) trips_eq))
  iexact H

/-! ## The output -/

theorem ctx_load (c : Dev nD) (b : Fin 2) (h : Fin 8) (a : Vec F S16x64x512 .f32) (l : Vec F S16x1x512 .f32)
    (k : FVec F S64x512 .f32 → Pg F) (Q : PUnit → sProp 𝕄) :
    iprop((pt c cc0_scratch5 a ∗ pt c cc0_scratch6 l) ∗ ((pt c cc0_scratch5 a ∗ pt c cc0_scratch6 l)
      -∗ wpc c (k (ctxV (hd a (tOf b h)) (hd l (tOf b h)))) Q)) ⊢ wpc c (ctxK b h k) Q := by
  unfold ctxK wpc
  iintro ⟨⟨H5, H6⟩, Hk⟩
  iapply (wp_load 𝒱₀ (c : Thread nD τ) none Set.univ (m := mAcc) (Finset.subset_univ _)) $$ H5; iintro H5
  rw [read_a (tOf b h) ![8 * b.val + h.val, 0, 0] rfl a (inbAcc b h)]
  iapply (wp_load 𝒱₀ (c : Thread nD τ) none Set.univ (m := mL) (Finset.subset_univ _)) $$ H6; iintro H6
  rw [read_l (tOf b h) ![8 * b.val + h.val, 0, 0] rfl l (inbL b h)]
  iapply Hk
  isplitl [H5] <;> iassumption

abbrev posO (i : (⟨3, ![2, 512, 768]⟩ : Shape).Idx) : ℕ := (i 0).val

theorem out_step (c : Dev nD) (b : Fin 2) (wo : Vec F S512x768 .bf16) (a : Vec F S16x64x512 .f32) (l : Vec F S16x1x512 .f32) :
    Step c (outK b wo) iprop((pt c cc0_scratch5 a ∗ pt c cc0_scratch6 l) ∗ upto c cc0_stg5_0 posO b.val (OT wo a l))
      iprop((pt c cc0_scratch5 a ∗ pt c cc0_scratch6 l) ∗ upto c cc0_stg5_0 posO (b.val + 1) (OT wo a l)) := fun k Q => by
  unfold outK
  have hu : ∀ n, upto c cc0_stg5_0 posO n (OT wo a l)
      = iprop(∃ f : Vec F S2x512x768 .f32, ⌜∀ i, posO i < n → f i = OT wo a l i⌝ ∗ pt c cc0_stg5_0 f) := fun n => rfl
  rw [hu, hu]
  iintro ⟨⟨HA, ⟨%f, %hf, H⟩⟩, Hk⟩
  iapply (ctx_load c b 0 a l _ Q); isplitl [HA]; · iexact HA
  iintro HA
  iapply (ctx_load c b 1 a l _ Q); isplitl [HA]; · iexact HA
  iintro HA
  iapply (ctx_load c b 2 a l _ Q); isplitl [HA]; · iexact HA
  iintro HA
  iapply (ctx_load c b 3 a l _ Q); isplitl [HA]; · iexact HA
  iintro HA
  iapply (ctx_load c b 4 a l _ Q); isplitl [HA]; · iexact HA
  iintro HA
  iapply (ctx_load c b 5 a l _ Q); isplitl [HA]; · iexact HA
  iintro HA
  iapply (ctx_load c b 6 a l _ Q); isplitl [HA]; · iexact HA
  iintro HA
  iapply (ctx_load c b 7 a l _ Q); isplitl [HA]; · iexact HA
  iintro HA
  unfold wpc
  iapply (wp_load 𝒱₀ (c : Thread nD τ) none Set.univ (m := mOut) (Finset.subset_univ _)) $$ H; iintro H
  iapply (wp_store 𝒱₀ (c : Thread nD τ) none Set.univ (m := mOut)
    (r := Rect.unit (s := S2x512x768) ![b.val, 0, 0] S1x512x768.size (inbX b)) (Mk := Finset.univ)
    (Finset.subset_univ _)) $$ H; iintro H
  iapply Hk
  isplitl [HA]; · iexact HA
  iexists _
  isplitr
  rotate_left
  · iexact H
  ipureintro
  refine upto_store c cc0_stg5_0 posO b.val (OT wo a l) f _ _ hf (fun i hi => ?_) ?_
  · rw [Rect.mem_set_unit]
    intro x
    have h0 : (i 0).val = b.val := hi
    have h1 : (i 1).val < 512 := (i 1).isLt
    have h2 : (i 2).val < 768 := (i 2).isLt
    fin_cases x
    · show b.val ≤ (i 0).val ∧ (i 0).val < b.val + 1
      omega
    · exact ⟨Nat.zero_le _, by show (i 1).val < 0 + 512; omega⟩
    · exact ⟨Nat.zero_le _, by show (i 2).val < 0 + 768; omega⟩
  · have hvec : (![ctxV (hd a (tOf b 0)) (hd l (tOf b 0)), ctxV (hd a (tOf b 1)) (hd l (tOf b 1)),
        ctxV (hd a (tOf b 2)) (hd l (tOf b 2)), ctxV (hd a (tOf b 3)) (hd l (tOf b 3)), ctxV (hd a (tOf b 4)) (hd l (tOf b 4)),
        ctxV (hd a (tOf b 5)) (hd l (tOf b 5)), ctxV (hd a (tOf b 6)) (hd l (tOf b 6)), ctxV (hd a (tOf b 7)) (hd l (tOf b 7))]
          : Fin 8 → FVec F S64x512 .f32) = fun h => ctxV (hd a (tOf b h)) (hd l (tOf b h)) := by
      funext h; fin_cases h <;> rfl
    rw [hvec]
    refine forall3 (n0 := 1) (n1 := 512) (n2 := 768) (p := fun y => outV wo (fun h => ctxV (hd a (tOf b h)) (hd l (tOf b h))) y
      = OT wo a l ((Rect.unit (s := S2x512x768) ![b.val, 0, 0] S1x512x768.size (inbX b)).emb y)) fun u i j => ?_
    have hu : u = 0 := Subsingleton.elim _ _
    subst hu
    unfold OT
    have e0 : (Rect.unit (s := S2x512x768) ![b.val, 0, 0] S1x512x768.size (inbX b)).emb (ix3 0 i j) 0 = b :=
      Fin.ext (by show b.val + 1 * 0 = b.val; omega)
    rw [e0]
    refine congrArg _ ?_
    funext x; fin_cases x
    · rfl
    · exact Fin.ext (by show i.val = 0 + 1 * i.val; omega)
    · exact Fin.ext (by show j.val = 0 + 1 * j.val; omega)

theorem epi_wp (c : Dev nD) (wo : Vec F S512x768 .bf16) (a : Vec F S16x64x512 .f32) (l : Vec F S16x1x512 .f32)
    (f : Vec F S2x512x768 .f32) (Q : PUnit → sProp 𝕄) :
    iprop((pt c cc0_stg4_0 wo ∗ pt c cc0_scratch5 a ∗ pt c cc0_scratch6 l ∗ pt c cc0_stg5_0 f)
      ∗ ((pt c cc0_stg4_0 wo ∗ pt c cc0_scratch5 a ∗ pt c cc0_scratch6 l ∗ pt c cc0_stg5_0 (OT wo a l)) -∗ Q ⟨⟩))
      ⊢ wpc c (epiK (F := F)) Q := by
  unfold epiK wpc
  iintro ⟨⟨Hw, H5, H6, Ho⟩, Hk⟩
  iapply (wp_load 𝒱₀ (c : Thread nD τ) none Set.univ (m := mWo) (Finset.subset_univ _)) $$ Hw; iintro Hw
  rw [show mWo.view.readAt (Elt F) (Rect.unit (s := S512x768) ![0, 0] S512x768.size inb_S512x768_S512x768_0_0).toLoadRect wo = wo
    from Memref.readAt_unit_zero (Elt F) cc0_stg4_0 (by funext a; fin_cases a <;> rfl) _ wo]
  ihave Ho := (upto_zero c cc0_stg5_0 posO (OT wo a l) f) $$ Ho
  iapply (out_step c 0 wo a l _ Q)
  isplitl [H5 H6 Ho]
  · isplitl [H5 H6]
    · isplitl [H5] <;> iassumption
    iexact Ho
  iintro ⟨HA, Ho⟩
  iapply (out_step c 1 wo a l _ Q)
  isplitl [HA Ho]
  · isplitl [HA]; · iexact HA
    iexact Ho
  iintro ⟨⟨H5, H6⟩, Ho⟩
  ihave Ho := (upto_all c cc0_stg5_0 posO ((1 : Fin 2).val + 1) (OT wo a l) (fun i => (i 0).isLt)) $$ Ho
  unfold wpc
  rw [wp_ret]
  imodintro
  iapply Hk
  isplitl [Hw]; · iexact Hw
  isplitl [H5]; · iexact H5
  isplitl [H6] <;> iassumption

end Cert.KernelIdeal.Attn
-- ==== Proof.Run.lean ====
/-
# A device's run

The body from what the device has at launch to its output.
-/
module

public import proofs.«01_k».proof.Proof.Unpack
public import proofs.«01_k».proof.Proof.Fold

@[expose] public section

noncomputable section

namespace Cert.KernelIdeal.Attn

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (G : Bool → Gath F) (K : Dev nD × Option Cx → ℕ)

/-! ## A hop -/

theorem unpack3_step (c : Dev nD) (n : ℕ) (hn : n ≤ 7) (oA oB oA' oB' : Fin 4 → Nat)
    (iA : ∀ a, oA a + S1x1x512x512.size a ≤ S8x2x512x512.size a) (iB : ∀ a, oB a + S1x1x512x512.size a ≤ S8x2x512x512.size a)
    (iA' : ∀ a, oA' a + S1x1x512x512.size a ≤ S8x2x512x512.size a) (iB' : ∀ a, oB' a + S1x1x512x512.size a ≤ S8x2x512x512.size a)
    (hA : oA = ![(org false c n).val, 0, 0, 0]) (hB : oB = ![(org true c n).val, 0, 0, 0])
    (hA' : oA' = ![(org false c n).val, 1, 0, 0]) (hB' : oB' = ![(org true c n).val, 1, 0, 0]) (fk fv : Vec F S16x512x64 .bf16) :
    Step c (fun k => unpackK (F := F) 0 oA oB iA iB (unpackK 1 oA' oB' iA' iB' k))
      iprop(St G c n ∗ pt c cc0_scratch3 fk ∗ pt c cc0_scratch4 fv)
      iprop(St G c n ∗ pt c cc0_scratch3 (HT (G false) c n) ∗ pt c cc0_scratch4 (HT (G true) c n)) :=
  unpack2_step G c n hn oA oB oA' oB' iA iB iA' iB' hA hB hA' hB' fk fv

/-- What a device holds after `n` hops. -/
def HopI (c : Dev nD) (q : Vec F S16x512x64 .bf16) (n : ℕ) : sProp 𝕄 :=
  iprop(St G c n ∗ pt c cc0_scratch0 q ∗ pt c cc0_scratch3 (HT (G false) c n) ∗ pt c cc0_scratch4 (HT (G true) c n)
    ∗ pt c cc0_scratch6 (Ls q (G false) c n) ∗ pt c cc0_scratch5 (As q (G false) (G true) c n) ∗ Ow c (oweH c (7 - n)))

theorem hop_step (c : Dev nD) (q : Vec F S16x512x64 .bf16) (hp : Fin 7) :
    Step c (hopK c hp) iprop(Rec G K ∗ HopI G c q hp.val) (HopI G c q (hp.val + 1)) := fun k Q => by
  have eO : 7 - (hp.val + 1) = 6 - hp.val := by omega
  have eB : biasAt (F := F) c hp.val = biasV c (orgA c (hW hp)) (orgB c (hW hp)) := if_pos hp.isLt
  unfold HopI hopK
  rw [eO]
  iintro ⟨⟨#HR, HS, Hq, Hk3, Hv, Hl, Ha, HO⟩, Hk⟩
  iapply (sends_step G K c hp _ Q)
  isplitl [HS HO]
  · isplitr; · iexact HR
    isplitl [HS] <;> iassumption
  iintro ⟨HM, HO⟩
  iapply (fold_step c (biasV c (orgA c (hW hp)) (orgB c (hW hp))) q (HT (G false) c hp.val) (HT (G true) c hp.val)
    (Ls q (G false) c hp.val) (As q (G false) (G true) c hp.val) _ Q)
  isplitl [Hq Hk3 Hv Hl Ha]
  · isplitl [Hq]; · iexact Hq
    isplitl [Hk3]; · iexact Hk3
    isplitl [Hv]; · iexact Hv
    isplitl [Hl] <;> iassumption
  iintro ⟨Hq, Hk3, Hv, Hl, Ha⟩
  rw [← eB]
  iapply (waits_step G K c hp _ Q)
  isplitl [HM HO]
  · isplitr; · iexact HR
    isplitl [HM] <;> iassumption
  iintro ⟨HS, HO⟩
  unfold unpacksK
  iapply (unpack3_step G c (hp.val + 1) (by omega) _ _ _ _ (k0_off9_inb c hp) (k0_off10_inb c hp) (k0_off11_inb c hp)
    (k0_off12_inb c hp) (off9_eq c hp) (off10_eq c hp) (off11_eq c hp) (off12_eq c hp)
    (HT (G false) c hp.val) (HT (G true) c hp.val) _ Q)
  isplitl [HS Hk3 Hv]
  · isplitl [HS]; · iexact HS
    isplitl [Hk3]; · iexact Hk3
    iexact Hv
  iintro ⟨HS, Hk3, Hv⟩
  iapply Hk
  isplitl [HS]; · iexact HS
  isplitl [Hq]; · iexact Hq
  isplitl [Hk3]; · iexact Hk3
  isplitl [Hv]; · iexact Hv
  isplitl [Hl]; · iexact Hl
  isplitl [Ha]; · iexact Ha
  iexact HO

/-- All the hops. -/
theorem hops_step (c : Dev nD) (q : Vec F S16x512x64 .bf16) :
    Step c (hopsK c [0, 1, 2, 3, 4, 5, 6]) iprop(Rec G K ∗ HopI G c q 0) (HopI G c q 7) := fun k Q => by
  unfold hopsK hopsK hopsK hopsK hopsK hopsK hopsK hopsK
  iintro ⟨⟨#HR, H⟩, Hk⟩
  iapply (hop_step G K c q 0 _ Q); isplitl [H]
  · isplitr; · iexact HR
    iexact H
  iintro H
  iapply (hop_step G K c q 1 _ Q); isplitl [H]
  · isplitr; · iexact HR
    iexact H
  iintro H
  iapply (hop_step G K c q 2 _ Q); isplitl [H]
  · isplitr; · iexact HR
    iexact H
  iintro H
  iapply (hop_step G K c q 3 _ Q); isplitl [H]
  · isplitr; · iexact HR
    iexact H
  iintro H
  iapply (hop_step G K c q 4 _ Q); isplitl [H]
  · isplitr; · iexact HR
    iexact H
  iintro H
  iapply (hop_step G K c q 5 _ Q); isplitl [H]
  · isplitr; · iexact HR
    iexact H
  iintro H
  iapply (hop_step G K c q 6 _ Q); isplitl [H]
  · isplitr; · iexact HR
    iexact H
  iintro H
  iapply Hk; iexact H

/-! ## The gathered buffers, whole and by half slabs -/

/-- A whole gathered buffer. -/
def wh (c : Dev nD) (b : Bool) (f : Gath F) : sProp 𝕄 :=
  match b with
  | false => pt c cc0_scratch1 f
  | true => pt c cc0_scratch2 f

theorem half_disj' (c : Dev nD) : ∀ x ∈ (Finset.univ : Finset (Bool × Fin 8)), ∀ y ∈ (Finset.univ : Finset (Bool × Fin 8)),
    x ≠ y → Disjoint (half x.1 (org x.1 c x.2.val)) (half y.1 (org y.1 c y.2.val)) := fun x _ y _ h => half_disj c h

theorem cover1 (c : Dev nD) (f : Gath F) : pt c cc0_scratch1 f = bigSep Finset.univ fun x : Bool × Fin 8 =>
    (((c : Thread nD τ).loc cc0_scratch1) ↦[half x.1 (org x.1 c x.2.val)]{fullShare} f : sProp 𝕄) := by
  have h := pointsTo_biUnion (Ix := Unit) (Val := Elt F) (Name := ℕ) (U := UU) (Lvl := ℕ) (q := fullShare) (f := f)
    (ℓ := (c : Thread nD τ).loc cc0_scratch1) Finset.univ (fun x : Bool × Fin 8 => half x.1 (org x.1 c x.2.val)) (half_disj' c)
  rw [half_cover] at h
  exact h

theorem cover2 (c : Dev nD) (f : Gath F) : pt c cc0_scratch2 f = bigSep Finset.univ fun x : Bool × Fin 8 =>
    (((c : Thread nD τ).loc cc0_scratch2) ↦[half x.1 (org x.1 c x.2.val)]{fullShare} f : sProp 𝕄) := by
  have h := pointsTo_biUnion (Ix := Unit) (Val := Elt F) (Name := ℕ) (U := UU) (Lvl := ℕ) (q := fullShare) (f := f)
    (ℓ := (c : Thread nD τ).loc cc0_scratch2) Finset.univ (fun x : Bool × Fin 8 => half x.1 (org x.1 c x.2.val)) (half_disj' c)
  rw [half_cover] at h
  exact h

theorem wh_eq (c : Dev nD) (b : Bool) (f : Gath F) :
    wh c b f = bigSep Finset.univ fun d : Bool => bigSep Finset.univ fun j : Fin 8 => slot c d b (org d c j.val) f := by
  rw [← bigSep_univ_prod (fun x : Bool × Fin 8 => slot c x.1 b (org x.1 c x.2.val) f)]
  cases b
  · exact cover1 c f
  · exact cover2 c f

theorem bigSep_bool (f : Bool → sProp 𝕄) : (bigSep Finset.univ f : sProp 𝕄) = iprop(f false ∗ f true) := by
  rw [bigSep_univ_eq_bigSepL [false, true] (by decide) (by decide), bigSepL_cons_cons, bigSepL_singleton]
  rfl
theorem bigSep_four (f : Fin 4 → sProp 𝕄) : (bigSep Finset.univ f : sProp 𝕄) = iprop(f 0 ∗ f 1 ∗ f 2 ∗ f 3) := by
  rw [bigSep_univ_eq_bigSepL [0, 1, 2, 3] (by decide) (by decide)]
  simp only [bigSepL_cons_cons, bigSepL_singleton]
  rfl
theorem bigSep_eight (f : Fin 8 → sProp 𝕄) :
    (bigSep Finset.univ f : sProp 𝕄) = iprop(f 0 ∗ f 1 ∗ f 2 ∗ f 3 ∗ f 4 ∗ f 5 ∗ f 6 ∗ f 7) := by
  rw [bigSep_univ_eq_bigSepL [0, 1, 2, 3, 4, 5, 6, 7] (by decide) (by decide)]
  simp only [bigSepL_cons_cons, bigSepL_singleton]
  rfl

/-- Half slabs of one direction and buffer the first four copies land in. -/
def near1 (c : Dev nD) (d b : Bool) : sProp 𝕄 := bigSep Finset.univ fun j : Fin 4 => anySlot c d b (org d c (j.val + 1))

theorem near_eq (c : Dev nD) (d : Bool) : near (F := F) c d = iprop(near1 c d false ∗ near1 c d true) :=
  bigSep_bool _

theorem slot_any (c : Dev nD) (d b : Bool) (o : Dev nD) (f : Gath F) : slot c d b o f ⊢ anySlot c d b o := by
  unfold anySlot; iintro H; iexists f; iexact H

theorem dir_any (c : Dev nD) (d b : Bool) (f : Gath F) :
    (bigSep Finset.univ fun j : Fin 8 => slot c d b (org d c j.val) f)
      ⊢ bigSep Finset.univ fun j : Fin 8 => anySlot c d b (org d c j.val) :=
  bigSep_mono fun j _ => slot_any c d b (org d c j.val) f

theorem dir_split (c : Dev nD) (d b : Bool) (f : Gath F) :
    (bigSep Finset.univ fun j : Fin 8 => slot c d b (org d c j.val) f)
      ⊢ iprop(anySlot c d b (org d c 0) ∗ near1 c d b ∗ far c d b) := by
  refine (dir_any c d b f).trans ?_
  unfold near1 far
  rw [bigSep_eight, bigSep_four, bigSep_three]
  iintro ⟨H0, H1, H2, H3, H4, H5, H6, H7⟩
  isplitl [H0]; · iexact H0
  isplitl [H1 H2 H3 H4]
  · isplitl [H1]; · iexact H1
    isplitl [H2]; · iexact H2
    isplitl [H3]; · iexact H3
    iexact H4
  isplitl [H5]; · iexact H5
  isplitl [H6]; · iexact H6
  iexact H7

theorem wh_split (c : Dev nD) (b : Bool) (f : Gath F) :
    wh c b f ⊢ iprop((anySlot c false b (org false c 0) ∗ near1 c false b ∗ far c false b)
      ∗ (anySlot c true b (org true c 0) ∗ near1 c true b ∗ far c true b)) := by
  rw [wh_eq, bigSep_bool]
  exact BIClass.sep_mono (dir_split c false b f) (dir_split c true b f)

theorem own_seven (c : Dev nD) (d b : Bool) :
    own G c d b 7 = bigSep Finset.univ fun j : Fin 8 => slot c d b (org d c j.val) (G b) :=
  bigSep_congr fun j _ => if_pos (by have := j.isLt; omega)

theorem wh_join (c : Dev nD) (b : Bool) : iprop(own G c false b 7 ∗ own G c true b 7) ⊢ wh c b (G b) := by
  rw [wh_eq, bigSep_bool, own_seven, own_seven]

theorem own_zero (c : Dev nD) (d b : Bool) : slot c d b (org d c 0) (G b) ⊢ own G c d b 0 := by
  have e : (if (0 : Fin 8).val ≤ 0 then slot c d b (org d c (0 : Fin 8).val) (G b) else iprop(emp)) = slot c d b (org d c 0) (G b) :=
    if_pos le_rfl
  unfold own
  rw [bigSep_eight]
  iintro H
  isplitl [H]; · iapply (Entails.of_eq e.symm); iexact H
  isplitr; · iempintro
  isplitr; · iempintro
  isplitr; · iempintro
  isplitr; · iempintro
  isplitr; · iempintro
  isplitr; · iempintro
  iempintro

theorem tg_zero (c : Dev nD) (d b : Bool) : near1 (F := F) (tgt d c) d b ⊢ tg c d b 0 := by
  have e : ∀ j : Fin 7, j.val ≤ 3 → anySlot (F := F) (tgt d c) d b (org d (tgt d c) (j.val + 1))
      = if 0 ≤ j.val ∧ (j.val ≤ 3 ∨ 4 ≤ 0) then anySlot (tgt d c) d b (org d c j.val) else iprop(emp) :=
    fun j hj => by rw [if_pos ⟨Nat.zero_le _, Or.inl hj⟩, org_tgt d c ⟨j.val, by omega⟩]
  have e0 := e 0 (by decide)
  have e1 := e 1 (by decide)
  have e2 := e 2 (by decide)
  have e3 := e 3 (by decide)
  unfold near1 tg
  rw [bigSep_seven, bigSep_four]
  iintro ⟨H0, H1, H2, H3⟩
  isplitl [H0]; · iapply (Entails.of_eq e0); iexact H0
  isplitl [H1]; · iapply (Entails.of_eq e1); iexact H1
  isplitl [H2]; · iapply (Entails.of_eq e2); iexact H2
  isplitl [H3]; · iapply (Entails.of_eq e3); iexact H3
  isplitr; · iempintro
  isplitr; · iempintro
  iempintro

/-! ## The semaphores at the end -/

/-- All of a device's tokens of the exchange. -/
def Toks (c : Dev nD) : sProp 𝕄 :=
  iprop((hs c false false 0 ∗ hs c false true 0) ∗ (hs c true false 0 ∗ hs c true true 0))
/-- All of a device's semaphores, at zero. -/
def Zeros (c : Dev nD) : sProp 𝕄 :=
  iprop((hs c false false 7 ∗ hs c false true 7) ∗ (hs c true false 7 ∗ hs c true true 7))

theorem hs_zero (c : Dev nD) (d b : Bool) : hs (F := F) c d b 0 = bigSep Finset.univ fun j : Fin 7 => Tok c d b j :=
  bigSep_congr fun j _ => if_pos (Nat.zero_le _)
theorem hs_seven (c : Dev nD) (d b : Bool) : hs (F := F) c d b 7 = bigSep Finset.univ fun j : Fin 7 => Zero c d b j :=
  bigSep_congr fun j _ => if_neg (by have := j.isLt; omega)

theorem Toks_eq (c : Dev nD) :
    Toks (F := F) c = bigSep Finset.univ fun x : Bool × Bool × Fin 7 => Tok c x.1 x.2.1 x.2.2 := by
  rw [bigSep_univ_prod, bigSep_bool, bigSep_univ_prod, bigSep_univ_prod, bigSep_bool, bigSep_bool]
  unfold Toks
  simp only [hs_zero]
theorem Zeros_eq (c : Dev nD) :
    Zeros (F := F) c = bigSep Finset.univ fun x : Cx => semVal (xCell c x) 0 := by
  rw [bigSep_univ_prod, bigSep_bool, ← bigSep_sep', bigSep_univ_prod, bigSep_bool, bigSep_univ_prod, bigSep_univ_prod,
    bigSep_bool, bigSep_bool]
  unfold Zeros
  simp only [hs_seven]
  rfl

/-! ## The whole body -/

variable (x : Vec F S2x512x768 .bf16) (wq : Vec F S768x512 .bf16) (kk vv : Dev nD → Vec F S2x512x8x64 .bf16)
  (wo : Vec F S512x768 .bf16)

/-- The two gathered buffers, filled. -/
def GG : Bool → Gath F
  | false => GT kk
  | true => GT vv

/-- The five inputs as the body has them. -/
def Ins (c : Dev nD) : sProp 𝕄 :=
  iprop(pt c cc0_stg0_0 x ∗ pt c cc0_stg1_0 wq ∗ pt c cc0_stg2_0 (kk c) ∗ pt c cc0_stg3_0 (vv c) ∗ pt c cc0_stg4_0 wo)
/-- The scratch buffers at any contents. -/
def Scr (c : Dev nD) : sProp 𝕄 :=
  iprop((∃ f, pt c cc0_scratch0 f) ∗ (∃ f : Gath F, wh c false f) ∗ (∃ f : Gath F, wh c true f) ∗ (∃ f, pt c cc0_scratch3 f)
    ∗ (∃ f, pt c cc0_scratch4 f) ∗ (∃ f, pt c cc0_scratch5 f) ∗ (∃ f, pt c cc0_scratch6 f))
/-- A device's part of the barrier. -/
def BarTok (c : Dev nD) : sProp 𝕄 :=
  iprop(dutyTok ER (barCell (src false c)) 0 false ∗ dutyTok ER (barCell (src true c)) 0 true ∗ atPos ER (barCell c) 0 ∅ 0
    ∗ cred (tallyAt (barCell c) () 2))

theorem GG_own (c : Dev nD) (w : Bool) (b : Fin 2) (i j : Fin 512) :
    GG kk vv w (ix4 (org false c 0) b i j)
      = (match w with | false => kk c | true => vv c) (ix4 b i ⟨j.val / 64, by omega⟩ ⟨j.val % 64, Nat.mod_lt _ (by decide)⟩) := by
  rw [org_zero]; cases w <;> rfl

theorem ownK_step (c : Dev nD) : Step c (ownK c mK mKf (Memref.isWhole_whole _))
    iprop(pt c cc0_stg2_0 (kk c) ∗ anySlot c false false (org false c 0) ∗ anySlot c true false (org true c 0))
    iprop(pt c cc0_stg2_0 (kk c) ∗ slot c false false (org false c 0) (GG kk vv false) ∗ slot c true false (org true c 0) (GG kk vv false)) :=
  own_step (GG kk vv) c false (kk c) (GG_own kk vv c false)
theorem ownV_step (c : Dev nD) : Step c (ownK c mV mVf (Memref.isWhole_whole _))
    iprop(pt c cc0_stg3_0 (vv c) ∗ anySlot c false true (org false c 0) ∗ anySlot c true true (org true c 0))
    iprop(pt c cc0_stg3_0 (vv c) ∗ slot c false true (org false c 0) (GG kk vv true) ∗ slot c true true (org true c 0) (GG kk vv true)) :=
  own_step (GG kk vv) c true (vv c) (GG_own kk vv c true)

theorem farIf_zero (c : Dev nD) (d b : Bool) : farIf (F := F) c d b 0 = far c d b := if_pos (by decide)

theorem wq_read : mWq.view.readAt (Elt F) (Rect.unit (s := S768x512) ![0, 0] S768x512.size inb_S768x512_S768x512_0_0).toLoadRect wq = wq :=
  Memref.readAt_unit_zero (Elt F) cc0_stg1_0 (by funext a; fin_cases a <;> rfl) _ wq

/-- From the start to the first hop. -/
theorem pre_step (c : Dev nD) :
    Step c (preK c)
      iprop(Rec (GG kk vv) K ∗ Ins x wq kk vv wo c ∗ Scr c ∗ BarTok c ∗ Toks c ∗ Ow c (O₀ c))
      iprop(Ins x wq kk vv wo c ∗ semVal (barCell c) 0 ∗ HopI (GG kk vv) c (QT wq x) 0) := fun k Q => by
  unfold Ins Scr BarTok Toks HopI St Ch preK
  iintro ⟨⟨#HR, ⟨Hx, Hwq, HK, HV, Hwo⟩, ⟨⟨%f0, H0⟩, ⟨%f1, H1⟩, ⟨%f2, H2⟩, ⟨%f3, H3⟩, ⟨%f4, H4⟩, ⟨%f5, H5⟩, ⟨%f6, H6⟩⟩,
    ⟨Hd0, Hd1, Hat, Hcr⟩, ⟨⟨Tff, Tft⟩, Ttf, Ttt⟩, HO⟩, Hk⟩
  ihave H1 := (wh_split c false f1) $$ H1
  icases H1 with ⟨⟨Kf0, Kfn, Kff⟩, Kt0, Ktn, Ktf⟩
  ihave H2 := (wh_split c true f2) $$ H2
  icases H2 with ⟨⟨Vf0, Vfn, Vff⟩, Vt0, Vtn, Vtf⟩
  iapply (barrier_step (GG kk vv) K c _ Q)
  simp only [near_eq]
  isplitl [Kfn Ktn Vfn Vtn Hd0 Hd1 Hat Hcr HO]
  · isplitr; · iexact HR
    isplitl [Kfn Vfn]
    · isplitl [Kfn] <;> iassumption
    isplitl [Ktn Vtn]
    · isplitl [Ktn] <;> iassumption
    isplitl [Hd0]; · iexact Hd0
    isplitl [Hd1]; · iexact Hd1
    isplitl [Hat]; · iexact Hat
    isplitl [Hcr] <;> iassumption
  iintro ⟨Hz, ⟨Nff, Nft⟩, ⟨Ntf, Ntt⟩, HO⟩
  iapply (ownK_step kk vv c _ Q)
  isplitl [HK Kf0 Kt0]
  · isplitl [HK]; · iexact HK
    isplitl [Kf0] <;> iassumption
  iintro ⟨HK, Kf0, Kt0⟩
  iapply (ownV_step kk vv c _ Q)
  isplitl [HV Vf0 Vt0]
  · isplitl [HV]; · iexact HV
    isplitl [Vf0] <;> iassumption
  iintro ⟨HV, Vf0, Vt0⟩
  unfold wpc
  iapply (wp_load 𝒱₀ (c : Thread nD τ) none Set.univ (m := mWq) (Finset.subset_univ _)) $$ Hwq; iintro Hwq
  rw [wq_read]
  ihave H0 := (upto_zero c cc0_scratch0 pos3 (QT wq x) f0) $$ H0
  iapply (proj_step c 0 wq x _ Q)
  isplitl [H0 Hx]
  · isplitl [H0]; · iexact H0
    iexact Hx
  iintro ⟨H0, Hx⟩
  iapply (proj_step c 1 wq x _ Q)
  isplitl [H0 Hx]
  · isplitl [H0]; · iexact H0
    iexact Hx
  iintro ⟨H0, Hx⟩
  ihave H0 := (upto_all c cc0_scratch0 pos3 (8 * (1 : Fin 2).val + 8) (QT wq x) (fun i => (i 0).isLt)) $$ H0
  iapply (zero_step c f5 f6 _ Q)
  isplitl [H5 H6]
  · isplitl [H5] <;> iassumption
  iintro ⟨H5, H6⟩
  ihave Kf0 := (own_zero (GG kk vv) c false false) $$ Kf0
  ihave Kt0 := (own_zero (GG kk vv) c true false) $$ Kt0
  ihave Vf0 := (own_zero (GG kk vv) c false true) $$ Vf0
  ihave Vt0 := (own_zero (GG kk vv) c true true) $$ Vt0
  ihave Nff := (tg_zero c false false) $$ Nff
  ihave Nft := (tg_zero c false true) $$ Nft
  ihave Ntf := (tg_zero c true false) $$ Ntf
  ihave Ntt := (tg_zero c true true) $$ Ntt
  iapply (unpack3_step (GG kk vv) c 0 (by omega) _ _ _ _ (k0_off2_inb c) (k0_off2_inb c) (k0_off3_inb c)
    (k0_off3_inb c) (off2_eq false c) (off2_eq true c) (off3_eq false c) (off3_eq true c) f3 f4 _ Q)
  isplitl [Kf0 Kt0 Vf0 Vt0 Nff Nft Ntf Ntt Tff Tft Ttf Ttt Kff Ktf Vff Vtf H3 H4]
  · isplitr [H3 H4]
    · unfold St Ch
      isplitr [Kff Ktf Vff Vtf]
      · isplitl [Kf0 Nff Tff]
        · isplitl [Kf0]; · iexact Kf0
          isplitl [Nff] <;> iassumption
        isplitl [Vf0 Nft Tft]
        · isplitl [Vf0]; · iexact Vf0
          isplitl [Nft] <;> iassumption
        isplitl [Kt0 Ntf Ttf]
        · isplitl [Kt0]; · iexact Kt0
          isplitl [Ntf] <;> iassumption
        isplitl [Vt0]; · iexact Vt0
        isplitl [Ntt] <;> iassumption
      isplitl [Kff]; · iapply (Entails.of_eq (farIf_zero c _ _).symm); iexact Kff
      isplitl [Vff]; · iapply (Entails.of_eq (farIf_zero c _ _).symm); iexact Vff
      isplitl [Ktf]; · iapply (Entails.of_eq (farIf_zero c _ _).symm); iexact Ktf
      iapply (Entails.of_eq (farIf_zero c _ _).symm); iexact Vtf
    isplitl [H3]; · iexact H3
    iexact H4
  unfold St Ch
  iintro ⟨HS, H3, H4⟩
  iapply Hk
  isplitl [Hx Hwq HK HV Hwo]
  · isplitl [Hx]; · iexact Hx
    isplitl [Hwq]; · iexact Hwq
    isplitl [HK]; · iexact HK
    isplitl [HV] <;> iassumption
  isplitl [Hz]; · iexact Hz
  isplitl [HS]; · iexact HS
  isplitl [H0]; · iexact H0
  isplitl [H3]; · iexact H3
  isplitl [H4]; · iexact H4
  isplitl [H6]; · iexact H6
  isplitl [H5]; · iexact H5
  iexact HO

/-- The body. -/
theorem body_wp (c : Dev nD) (fo : Vec F S2x512x768 .f32) (Q : PUnit → sProp 𝕄) :
    iprop((Rec (GG kk vv) K ∗ Ins x wq kk vv wo c ∗ Scr c ∗ BarTok c ∗ Toks c ∗ Ow c (O₀ c) ∗ pt c cc0_stg5_0 fo)
      ∗ ((Ins x wq kk vv wo c ∗ Scr c ∗ semVal (barCell c) 0 ∗ Zeros c ∗ Ow c 0
          ∗ pt c cc0_stg5_0 (outT x wq kk vv wo c)) -∗ Q ⟨⟩))
      ⊢ wpc c (bodyK (F := F)) Q := by
  unfold bodyK
  iintro ⟨⟨#HR, HI, HS, HB, HT, HO, Ho⟩, Hk⟩
  unfold wpc
  rw [wp_deviceId]
  iapply (pre_step K x wq kk vv wo c _ Q)
  isplitl [HI HS HB HT HO]
  · isplitr; · iexact HR
    isplitl [HI]; · iexact HI
    isplitl [HS]; · iexact HS
    isplitl [HB]; · iexact HB
    isplitl [HT] <;> iassumption
  iintro ⟨HI, Hz, HH⟩
  iapply (hops_step (GG kk vv) K c (QT wq x) _ Q)
  isplitl [HH]
  · isplitr; · iexact HR
    iexact HH
  unfold HopI Ins Scr St Ch Zeros
  iintro ⟨⟨⟨⟨O0, T0, Z0⟩, ⟨O1, T1, Z1⟩, ⟨O2, T2, Z2⟩, ⟨O3, T3, Z3⟩⟩, F0, F1, F2, F3⟩, H0, H3, H4, H6, H5, HO⟩
  icases HI with ⟨Hx, Hwq, HK, HV, Hwo⟩
  have eB : biasAt (F := F) c 7 = biasV c (orgB c 1#32) (orgZ c) := if_neg (by decide)
  unfold postK
  iapply (fold_step c (biasV c (orgB c 1#32) (orgZ c)) (QT wq x) (HT (GG kk vv false) c 7) (HT (GG kk vv true) c 7)
    (Ls (QT wq x) (GG kk vv false) c 7) (As (QT wq x) (GG kk vv false) (GG kk vv true) c 7) _ Q)
  isplitl [H0 H3 H4 H6 H5]
  · isplitl [H0]; · iexact H0
    isplitl [H3]; · iexact H3
    isplitl [H4]; · iexact H4
    isplitl [H6] <;> iassumption
  iintro ⟨H0, H3, H4, H6, H5⟩
  rw [← eB]
  iapply (epi_wp c wo (As (QT wq x) (GG kk vv false) (GG kk vv true) c 8) (Ls (QT wq x) (GG kk vv false) c 8) fo Q)
  isplitl [Hwo H5 H6 Ho]
  · isplitl [Hwo]; · iexact Hwo
    isplitl [H5]; · iexact H5
    isplitl [H6]; · iexact H6
    iexact Ho
  iintro ⟨Hwo, H5, H6, Ho⟩
  iapply Hk
  isplitl [Hx Hwq HK HV Hwo]
  · isplitl [Hx]; · iexact Hx
    isplitl [Hwq]; · iexact Hwq
    isplitl [HK]; · iexact HK
    isplitl [HV] <;> iassumption
  isplitl [H0 H3 H4 H5 H6 O0 O1 O2 O3]
  · isplitl [H0]; · iexists _; iexact H0
    isplitl [O0 O2]
    · iexists _
      iapply (wh_join (GG kk vv) c false)
      isplitl [O0] <;> iassumption
    isplitl [O1 O3]
    · iexists _
      iapply (wh_join (GG kk vv) c true)
      isplitl [O1] <;> iassumption
    isplitl [H3]; · iexists _; iexact H3
    isplitl [H4]; · iexists _; iexact H4
    isplitl [H5]; · iexists _; iexact H5
    iexists _; iexact H6
  isplitl [Hz]; · iexact Hz
  isplitl [Z0 Z1 Z2 Z3]
  · isplitl [Z0 Z1]
    · isplitl [Z0] <;> iassumption
    isplitl [Z2] <;> iassumption
  isplitl [HO]; · iexact HO
  iexact Ho

end Cert.KernelIdeal.Attn
-- ==== Proof.BodyEq.lean ====
/-
# The body is the program of its pieces

The printed body of the kernel equals `bodyK` (Prog.lean), which says it as a chain of named pieces, each taking what
follows it. Each piece is compared with the stretch of the printed body that it stands for; at a loop the printed
nesting is first reassociated.
-/
module
public import proofs.«01_k».proof.Proof.Prog
@[expose] public section
noncomputable section
namespace Cert.KernelIdeal.Attn
open Cert.KernelIdeal Cert.KernelIdeal.Gen
open Idealize.ShloMosaic Idealize.SL.Sem
variable {F : FTy → Type} [FloatOps F] [Named F]

/-- Two programs that begin with the same operation are equal if what follows it is. -/
theorem congr_op {E : Type → Type} {α β : Type} {e : E β} {k k' : β → Prog E α} (h' : ∀ v, k v = k' v) : Prog.op e k = Prog.op e k' := by
  congr 1; funext v; exact h' v

/-- A program nested thrice around `p`, as the printed one is around its loops, is `p` and then the rest. -/
theorem loop_seg {E : Type → Type} {α β γ δ : Type} {p : Prog E α} {f1 : α → Prog E β} {f2 : β → Prog E γ} {f3 : γ → Prog E δ} {q : Prog E δ} {k : Prog E δ}
    (h0 : q = ((p.bind f1).bind f2).bind f3) (hk : ∀ x, ((f1 x).bind f2).bind f3 = k) : q = p.bind fun _ => k := by
  rw [h0]
  have h : p >>= f1 >>= f2 >>= f3 = p >>= fun x => f1 x >>= f2 >>= f3 := by simp only [Prog.bind_assoc]
  refine h.trans ?_
  exact congrArg (Prog.bind p) (funext hk)

/-- `seg` for an unpacking. -/
theorem seg_unpack {b oA oB iA iB} {p K k' : Pg F} (h : p = unpackK b oA oB iA iB K) (h' : K = k') : p = unpackK b oA oB iA iB k' := h.trans (congrArg _ h')

/-- A program that begins with the piece `f` equals another that does, if what follows is equal. -/
theorem seg {α : Type _} {p K k' : α} {f : α → α} (h : p = f K) (h' : K = k') : p = f k' := h.trans (congrArg f h')

set_option maxRecDepth 100000 in
set_option maxHeartbeats 0 in
/-- The printed body, at the buffers of this launch, is `bodyK`. -/
theorem body_eq : cc0_body (F := F) mX (Memref.isWhole_whole _) mWq (Memref.isWhole_whole _) mK (Memref.isWhole_whole _)
    mV (Memref.isWhole_whole _) mWo (Memref.isWhole_whole _) mOut (Memref.isWhole_whole _) mQh (Memref.isWhole_whole _)
    mKf (Memref.isWhole_whole _) mVf (Memref.isWhole_whole _) mKh (Memref.isWhole_whole _) mVh (Memref.isWhole_whole _)
    mAcc (Memref.isWhole_whole _) mL (Memref.isWhole_whole _) cc0_scratch7 cc0_scratch8 cc0_scratch9 cc0_scratch10
    cc0_scratch11 cc0_scratch12 cc0_scratch13 cc0_scratch14 = bodyK := by
  refine congr_op (fun d0 => ?_)
  refine seg (f := barrierK d0) (K := ?_) ?_ ?_; rotate_left; exact rfl
  refine seg (f := ownK d0 mK mKf (Memref.isWhole_whole _)) (K := ?_) ?_ ?_; rotate_left; exact rfl
  refine seg (f := ownK d0 mV mVf (Memref.isWhole_whole _)) (K := ?_) ?_ ?_; rotate_left; exact rfl
  refine congr_op (fun (wq : Vec F S768x512 .bf16) => ?_)
  refine seg (f := projK 0 wq) (K := ?_) ?_ ?_; rotate_left; exact rfl
  refine seg (f := projK 1 wq) (K := ?_) ?_ ?_; rotate_left; exact rfl
  refine seg (f := zeroK) (K := ?_) ?_ ?_; rotate_left; exact rfl
  refine seg (f := unpackK 0 (k0_off2 d0) (k0_off2 d0) (k0_off2_inb d0) (k0_off2_inb d0)) (K := ?_) ?_ ?_; rotate_left; exact rfl
  iterate 7
    refine seg_unpack (K := ?_) ?_ ?_
    rotate_left
    exact rfl
    refine seg (f := sendK _ (Memref.isWhole_whole _) (k0_off4 d0 (hW _)) (k0_off4_inb d0 _) (k0_off4_wordsbf16 d0 _) _ _ _) (K := ?_) ?_ ?_; rotate_left; exact rfl
    refine seg (f := sendK _ (Memref.isWhole_whole _) (k0_off4 d0 (hW _)) (k0_off4_inb d0 _) (k0_off4_wordsbf16 d0 _) _ _ _) (K := ?_) ?_ ?_; rotate_left; exact rfl
    refine seg (f := sendK _ (Memref.isWhole_whole _) (k0_off5 d0 (hW _)) (k0_off5_inb d0 _) (k0_off5_wordsbf16 d0 _) _ _ _) (K := ?_) ?_ ?_; rotate_left; exact rfl
    refine congr_op (fun _ => ?_)
    (conv_lhs => whnf)
    apply loop_seg
    · exact rfl
    intro _
    iterate 4 (refine seg (f := waitK _ (Memref.isWhole_whole _) (k0_off4 d0 (hW _)) (k0_off4_inb d0 _) (k0_off4_wordsbf16 d0 _) _) (K := ?_) ?_ ?_; rotate_left; exact rfl)
    iterate 4 (refine seg (f := waitK _ (Memref.isWhole_whole _) (k0_off5 d0 (hW _)) (k0_off5_inb d0 _) (k0_off5_wordsbf16 d0 _) _) (K := ?_) ?_ ?_; rotate_left; exact rfl)
    refine seg (f := unpackK _ _ _ (k0_off9_inb d0 _) (k0_off10_inb d0 _)) (K := ?_) ?_ ?_; rotate_left; exact rfl
  iterate 68 ((conv_lhs => whnf); (conv_rhs => whnf); refine congr_op (fun _ => ?_))
  (conv_lhs => whnf)
  apply loop_seg
  · exact rfl
  intro _
  exact rfl
end Cert.KernelIdeal.Attn

end
-- ==== Proof.Launch.lean ====
/-
# The launch

The resources every device starts from, dealt out of the launch's, and the run of the eight devices: it terminates
without fault, leaves the inputs as they were and every semaphore at zero, and each device's output array holds
`outT` of what the inputs held.
-/
module

public import proofs.«01_k».proof.Proof.Run
public import proofs.«01_k».proof.Proof.BodyEq
public import proofs.«01_k».proof.Proof.Gen.KernelIdeal.Launch
public import Idealize.ShloMosaic.Lib.Pipeline.CollectiveSegs

@[expose] public section

noncomputable section

namespace Cert.KernelIdeal.Attn

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The inputs as staged, and the output -/

abbrev pt0 : Fin cfg0.N := t0_0

def xIn (c : Dev nD) : Vec F S2x512x768 .bf16 := (win0_0.blk pt0).view.read (Elt F) (m ((c : Thread nD τ).loc main_arg0))
def wqIn (c : Dev nD) : Vec F S768x512 .bf16 := (win0_1.blk pt0).view.read (Elt F) (m ((c : Thread nD τ).loc main_arg1))
def kIn (c : Dev nD) : Vec F S2x512x8x64 .bf16 := (win0_2.blk pt0).view.read (Elt F) (m ((c : Thread nD τ).loc main_arg2))
def vIn (c : Dev nD) : Vec F S2x512x8x64 .bf16 := (win0_3.blk pt0).view.read (Elt F) (m ((c : Thread nD τ).loc main_arg3))
def woIn (c : Dev nD) : Vec F S512x768 .bf16 := (win0_4.blk pt0).view.read (Elt F) (m ((c : Thread nD τ).loc main_arg4))

/-- A device's output block. -/
def outAt (c : Dev nD) : Vec F S2x512x768 .f32 := outT (xIn m c) (wqIn m c) (kIn m) (vIn m) (woIn m c) c

/-- The gathered buffers' contents. -/
abbrev GM : Bool → Gath F := GG (kIn m) (vIn m)

/-! ## The region's proof data -/

/-- What a device starts from, apart from its buffers. -/
def start (c : Dev nD) : sProp 𝕄 := iprop((∃ K, Rec (GM m) K) ∗ BarTok c ∗ Toks c)
def Φ₀ (c : Dev nD) : sProp 𝕄 := iprop(start m c ∗ Scr c)
def Φ₁ (c : Dev nD) : sProp 𝕄 := iprop(Scr c ∗ semVal (barCell c) 0 ∗ Zeros c)

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wqIn m c
    | ⟨2, _⟩ => kIn m c
    | ⟨3, _⟩ => vIn m c
    | ⟨4, _⟩ => woIn m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetched (w : Fin 6) (hw : w.val < 5) (t : Fin cfg0.N) : (cfg0.win w).fetch t = true := by
  rw [fin_N0 t]; revert hw; revert w; decide

/-- A whole buffer at known contents, as the region states it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem stg_in (c : Dev nD) (b : Ref sig .tc) (X : b.ty.Contents (Elt F)) : pt c b X ⊢ stg c b X := by
  iintro H; iexists X; isplitr; · ipureintro; rfl
  iexact H
theorem stg_out (c : Dev nD) (b : Ref sig .tc) (X : b.ty.Contents (Elt F)) : stg c b X ⊢ pt c b X := by
  iintro ⟨%f, %hf, H⟩; subst hf; iexact H

def bodyPre (c : Dev nD) : sProp 𝕄 :=
  iprop(Φ₀ m c ∗ (dats m 0 c).owesAt () pt0.castSucc
    ∗ (∃ d, stg c cc0_stg0_0 ((dats m 0 c).before (0 : Fin 6) pt0 d))
    ∗ (∃ d, stg c cc0_stg1_0 ((dats m 0 c).before (1 : Fin 6) pt0 d))
    ∗ (∃ d, stg c cc0_stg2_0 ((dats m 0 c).before (2 : Fin 6) pt0 d))
    ∗ (∃ d, stg c cc0_stg3_0 ((dats m 0 c).before (3 : Fin 6) pt0 d))
    ∗ (∃ d, stg c cc0_stg4_0 ((dats m 0 c).before (4 : Fin 6) pt0 d))
    ∗ (∃ d, stg c cc0_stg5_0 ((dats m 0 c).before (5 : Fin 6) pt0 d)))
def bodyPost (c : Dev nD) : sProp 𝕄 :=
  iprop(Φ₁ c ∗ (dats m 0 c).owesAt () pt0.succ
    ∗ stg c cc0_stg0_0 (xIn m c) ∗ stg c cc0_stg1_0 (wqIn m c) ∗ stg c cc0_stg2_0 (kIn m c) ∗ stg c cc0_stg3_0 (vIn m c)
    ∗ stg c cc0_stg4_0 (woIn m c) ∗ stg c cc0_stg5_0 (outAt m c))

theorem before_0 (c : Dev nD) (d) : (dats m 0 c).before (0 : Fin 6) pt0 d = xIn m c := by
  unfold Dat.before; rw [if_pos (fetched 0 (by decide) pt0)]; rfl
theorem before_1 (c : Dev nD) (d) : (dats m 0 c).before (1 : Fin 6) pt0 d = wqIn m c := by
  unfold Dat.before; rw [if_pos (fetched 1 (by decide) pt0)]; rfl
theorem before_2 (c : Dev nD) (d) : (dats m 0 c).before (2 : Fin 6) pt0 d = kIn m c := by
  unfold Dat.before; rw [if_pos (fetched 2 (by decide) pt0)]; rfl
theorem before_3 (c : Dev nD) (d) : (dats m 0 c).before (3 : Fin 6) pt0 d = vIn m c := by
  unfold Dat.before; rw [if_pos (fetched 3 (by decide) pt0)]; rfl
theorem before_4 (c : Dev nD) (d) : (dats m 0 c).before (4 : Fin 6) pt0 d = woIn m c := by
  unfold Dat.before; rw [if_pos (fetched 4 (by decide) pt0)]; rfl

theorem body_run (c : Dev nD) : bodyPre m c ⊢ wpc c (bodyK (F := F)) (fun _ => bodyPost m c) := by
  unfold bodyPre Φ₀ start Dat.owesAt Pipeline.owesWithin
  rw [show (dats m 0 c).owed pt0.castSucc = O₀ c from rfl]
  iintro ⟨⟨⟨⟨%K, #HR⟩, HB, HT⟩, HS⟩, ⟨%W, %hW, HO⟩, ⟨%d0, H0⟩, ⟨%d1, H1⟩, ⟨%d2, H2⟩, ⟨%d3, H3⟩, ⟨%d4, H4⟩, ⟨%d5, H5⟩⟩
  rw [before_0, before_1, before_2, before_3, before_4]
  ihave H0 := (stg_out c cc0_stg0_0 _) $$ H0
  ihave H1 := (stg_out c cc0_stg1_0 _) $$ H1
  ihave H2 := (stg_out c cc0_stg2_0 _) $$ H2
  ihave H3 := (stg_out c cc0_stg3_0 _) $$ H3
  ihave H4 := (stg_out c cc0_stg4_0 _) $$ H4
  ihave H5 := (stg_out c cc0_stg5_0 _) $$ H5
  iapply (body_wp K (xIn m c) (wqIn m c) (kIn m) (vIn m) (woIn m c) c ((dats m 0 c).before (5 : Fin 6) pt0 d5) (fun _ => bodyPost m c))
  unfold Ins Ow
  isplitl [HB HT HS HO H0 H1 H2 H3 H4 H5]
  · isplitr; · iexact HR
    isplitl [H0 H1 H2 H3 H4]
    · isplitl [H0]; · iexact H0
      isplitl [H1]; · iexact H1
      isplitl [H2]; · iexact H2
      isplitl [H3] <;> iassumption
    isplitl [HS]; · iexact HS
    isplitl [HB]; · iexact HB
    isplitl [HT]; · iexact HT
    isplitl [HO]; · iexists W; iexact HO
    iexact H5
  iintro ⟨⟨H0, H1, H2, H3, H4⟩, HS, HZ, HZs, ⟨%W', HO⟩, H5⟩
  unfold bodyPost Φ₁ Dat.owesAt Pipeline.owesWithin
  rw [show (dats m 0 c).owed pt0.succ = 0 from rfl]
  isplitl [HS HZ HZs]
  · isplitl [HS]; · iexact HS
    isplitl [HZ] <;> iassumption
  isplitl [HO]
  · iexists W'
    isplitr; · ipureintro; exact fun _ _ => Or.inl trivial
    iexact HO
  isplitl [H0]; · iapply (stg_in c cc0_stg0_0 _); iexact H0
  isplitl [H1]; · iapply (stg_in c cc0_stg1_0 _); iexact H1
  isplitl [H2]; · iapply (stg_in c cc0_stg2_0 _); iexact H2
  isplitl [H3]; · iapply (stg_in c cc0_stg3_0 _); iexact H3
  isplitl [H4]; · iapply (stg_in c cc0_stg4_0 _); iexact H4
  iapply (stg_in c cc0_stg5_0 _); iexact H5

theorem bigSep_win (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

theorem body_obligation (c : Dev nD) : BodyObligation (dats (F := F) m 0 c) (defs₀ (F := F)) 𝒱₀ () Set.univ := fun t => by
  rw [fin_N0 t, bigSep_win, bigSep_win]
  simp only [owns_whole]
  have h := body_run m c
  rw [← body_eq] at h
  exact h

/-! ## The cells and the tokens -/

abbrev osem (x : Cx) : SemLoc sig := .dma (dsem x)

theorem ownSemFacts : Pipeline.OwnSemFacts cfg0.spec osem where
  isScoped := by decide +kernel
  inj x y h := dsem_inj (SemLoc.dma.inj h)
  disj k w s h := by
    have h1 := dec_dsem k
    rw [SemLoc.dma.inj h] at h1
    exact absurd (h1.symm.trans (dec_stage w s)) (by simp)

theorem bigSep_option {I : Type} [Fintype I] [DecidableEq I] (Φ : Option I → sProp 𝕄) :
    bigSep Finset.univ Φ = iprop(Φ none ∗ bigSep Finset.univ fun i => Φ (some i)) := by
  have e : (Finset.univ.erase none : Finset (Option I)) = Finset.univ.map Function.Embedding.some := by
    ext x; cases x <;> simp
  rw [bigSep_univ_at Φ none, e, bigSep_map]; rfl

def ringCells : Finset (GSem nD τ sig) := Finset.univ.map ⟨kcell, kcell_inj⟩

/-- The duties of a device's own cells. -/
abbrev tokOf (cj : Dev nD × Option (Option Cx)) : GSem nD τ sig × ℕ × Bool := match cj.2 with
  | none => (barCell cj.1, 0, false)
  | some none => (barCell cj.1, 0, true)
  | some (some x) => (xCell cj.1 x, 0, false)

theorem tokOf_inj : Function.Injective tokOf := by
  rintro ⟨c, j⟩ ⟨c', j'⟩ h
  have hc : ∀ {x x' : Option Cx}, kcell (c, x) = kcell (c', x') → c = c' ∧ x = x' := fun e =>
    ⟨congrArg Prod.fst (kcell_inj e), congrArg Prod.snd (kcell_inj e)⟩
  rcases j with _ | _ | x <;> rcases j' with _ | _ | x'
  · obtain ⟨rfl, -⟩ := hc (congrArg Prod.fst h); rfl
  · exact absurd (congrArg (fun t => t.2.2) h) (by simp)
  · obtain ⟨-, e⟩ := hc (congrArg Prod.fst h); cases e
  · exact absurd (congrArg (fun t => t.2.2) h) (by simp)
  · obtain ⟨rfl, -⟩ := hc (congrArg Prod.fst h); rfl
  · obtain ⟨-, e⟩ := hc (congrArg Prod.fst h); cases e
  · obtain ⟨-, e⟩ := hc (congrArg Prod.fst h); cases e
  · obtain ⟨-, e⟩ := hc (congrArg Prod.fst h); cases e
  · obtain ⟨rfl, e⟩ := hc (congrArg Prod.fst h); cases e; rfl

def ringToks : Finset (GSem nD τ sig × ℕ × Bool) := Finset.univ.map ⟨tokOf, tokOf_inj⟩

def u₀ : UU := (initOf (Pipeline.cells cfgs cellOf_inj) (Pipeline.launchToks cfgs cellOf_inj), initOf ringCells ringToks)

/-- The tokens of a device's own cells. -/
def mint (c : Dev nD) : sProp 𝕄 :=
  iprop(dutyTok ER (barCell c) 0 false ∗ dutyTok ER (barCell c) 0 true ∗ bigSep Finset.univ fun x : Cx => dutyTok ER (xCell c x) 0 false)

/-- What a device gets of the launch's ghost state. -/
def deal (c : Dev nD) : sProp 𝕄 :=
  iprop((bigSep Finset.univ fun k : Option Cx => roundState ER (Rd (GM m)) (kcell (c, k)) 0)
    ∗ (bigSep Finset.univ fun k : Option Cx => iprop(atPos ER (kcell (c, k)) 0 ∅ 0 ∗ reached ER (kcell (c, k)) 0)) ∗ mint c)

theorem fund_ring : BI.own (ER (initOf ringCells ringToks)) ⊢ (|==> bigSep Finset.univ (deal m) : sProp 𝕄) := by
  have hX (Φ : GSem nD τ sig → sProp 𝕄) :
      bigSep ringCells Φ = bigSep Finset.univ fun c : Dev nD => bigSep Finset.univ fun k : Option Cx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => mint c := by
    unfold ringToks; rw [bigSep_map, bigSep_univ_prod]
    exact bigSep_congr fun c _ => by unfold mint; rw [bigSep_option, bigSep_option]; rfl
  iintro HX
  imod (Rounds.fund ER (Rd (GM m)) ringCells ringToks) $$ HX with ⟨Hst, Hr, Hat, Htok⟩
  imodintro
  ihave Hst := (Entails.of_eq (hX fun g => roundState ER (Rd (GM m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold deal; simp only [bigSep_sep']
  isplitl [Hst]; · iexact Hst
  isplitl [Hat Hr]
  · isplitl [Hat] <;> iassumption
  iexact Htok

/-! ## The global step -/

theorem unscoped_eq (c : Dev nD) : (unscopedSems0 c : sProp 𝕄) = semVal (barCell c) 0 := by
  unfold unscopedSems0; rw [bigSep_eq_bigSepL_of_eq [SemLoc.reg barrier0] (by decide +kernel) (by decide)]; rfl

abbrev ownZ (c : Dev nD) : sProp 𝕄 := Pipeline.ownSems0 (Ix := Unit) (Name := ℕ) (U := UU) (Lvl := ℕ) (Val := Elt F) (τ := τ) osem c

theorem ownZ_eq (c : Dev nD) : ownZ (F := F) c = Zeros c := by
  rw [Zeros_eq]; rfl

theorem sems_eq (c : Dev nD) :
    iprop(ownZ c ∗ unscopedSems0 c) ⊢ (bigSep Finset.univ fun k : Option Cx => semVal (kcell (c, k)) 0 : sProp 𝕄) := by
  rw [unscoped_eq, bigSep_option]
  unfold ownZ Pipeline.ownSems0
  iintro ⟨HS, HB⟩
  isplitl [HB]; · iexact HB
  iexact HS

theorem inv_make (c : Dev nD) :
    iprop((bigSep Finset.univ fun k : Option Cx => semVal (kcell (c, k)) 0)
        ∗ bigSep Finset.univ fun k : Option Cx => roundState ER (Rd (GM m)) (kcell (c, k)) 0)
      ⊢ (|={Set.univ}=> bigSep Finset.univ fun k => iprop(∃ κ : ℕ, cellInv ER (Rd (GM m)) κ (kcell (c, k))) : sProp 𝕄) := by
  rw [← bigSep_sep']
  exact (bigSep_mono fun k _ => (Rounds.body_intro ER (Rd (GM m)) (kcell (c, k))).trans inv_alloc).trans (bigSep_fupd _ _)

def made (c : Dev nD) : sProp 𝕄 :=
  iprop((bigSep Finset.univ fun k => iprop(∃ κ : ℕ, cellInv ER (Rd (GM m)) κ (kcell (c, k))))
    ∗ (bigSep Finset.univ fun k : Option Cx => iprop(atPos ER (kcell (c, k)) 0 ∅ 0 ∗ reached ER (kcell (c, k)) 0)) ∗ mint c)

theorem core_alloc (c : Dev nD) : iprop(ownZ c ∗ unscopedSems0 c ∗ deal m c) ⊢ |={Set.univ}=> made m c := by
  unfold deal made
  iintro ⟨Hos, Hus, Hst, Hat, Htok⟩
  ihave Hv := (sems_eq (F := F) c) $$ [Hos Hus]
  · isplitl [Hos] <;> iassumption
  imod (inv_make m c) $$ [Hv Hst] with Hinv
  · isplitl [Hv] <;> iassumption
  imodintro
  isplitl [Hinv]; · iexact Hinv
  isplitl [Hat] <;> iassumption

/-- What every device knows, levels apart. -/
def recs (K : Dev nD × Option Cx → ℕ) : sProp 𝕄 :=
  iprop((bigSep Finset.univ fun ck : Dev nD × Option Cx => cellInv ER (Rd (GM m)) (K ck) (kcell ck))
    ∗ bigSep Finset.univ fun ck : Dev nD × Option Cx => reached ER (kcell ck) 0)
instance recs_persistent (K : Dev nD × Option Cx → ℕ) : BI.Persistent (recs m K) := by unfold recs; infer_instance

abbrev Y : Type := Bool × Bool × Fin 7

/-- The tokens a device pays with. -/
def pays (c : Dev nD) : sProp 𝕄 :=
  iprop(dutyTok ER (barCell (src false c)) 0 false ∗ dutyTok ER (barCell (src true c)) 0 true
    ∗ (bigSep Finset.univ fun y : Y => dutyTok ER (xCell c (false, y)) 0 false)
    ∗ bigSep Finset.univ fun y : Y => dutyTok ER (xCell (tgt y.1 c) (true, y)) 0 false)

/-- Every copy moves to the device it starts from. -/
def shift : Dev nD × Y ≃ Dev nD × Y where
  toFun p := (tgt p.2.1 p.1, p.2)
  invFun p := (src p.2.1 p.1, p.2)
  left_inv p := by simp only [src_tgt]
  right_inv p := by simp only [tgt_src]

theorem recv_around : (bigSep Finset.univ fun c : Dev nD => bigSep Finset.univ fun y : Y => (dutyTok ER (xCell c (true, y)) 0 false : sProp 𝕄))
    = bigSep Finset.univ fun c : Dev nD => bigSep Finset.univ fun y : Y => dutyTok ER (xCell (tgt y.1 c) (true, y)) 0 false := by
  rw [← bigSep_univ_prod (fun p : Dev nD × Y => (dutyTok ER (xCell p.1 (true, p.2)) 0 false : sProp 𝕄)), bigSep_univ_equiv shift,
    bigSep_univ_prod]
  rfl

theorem sides (f : Cx → sProp 𝕄) : bigSep Finset.univ f
    = iprop((bigSep Finset.univ fun y : Y => f (false, y)) ∗ bigSep Finset.univ fun y : Y => f (true, y)) := by
  rw [bigSep_univ_prod, bigSep_bool]

theorem toks_around : (bigSep Finset.univ fun c : Dev nD => (mint c : sProp 𝕄)) ⊢ bigSep Finset.univ fun c : Dev nD => pays c := by
  unfold mint pays
  simp only [sides]
  rw [bigSep_sep', bigSep_sep', bigSep_sep', bigSep_sep', bigSep_sep', bigSep_sep', recv_around,
    bigSep_univ_equiv (ring false).symm (fun c : Dev nD => (dutyTok ER (barCell c) 0 false : sProp 𝕄)),
    bigSep_univ_equiv (ring true).symm (fun c : Dev nD => (dutyTok ER (barCell c) 0 true : sProp 𝕄))]
  iintro ⟨H1, H2, H3, H4⟩
  isplitl [H1]; · iexact H1
  isplitl [H2]; · iexact H2
  isplitl [H3] <;> iassumption

/-- What stays with a device: its positions and the tokens it pays with. -/
def lin (c : Dev nD) : sProp 𝕄 := iprop((bigSep Finset.univ fun k : Option Cx => atPos ER (kcell (c, k)) 0 ∅ 0) ∗ pays c)
def held (c : Dev nD) : sProp 𝕄 := iprop(∃ K, recs m K ∗ lin c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem held_intro (K : Dev nD × Option Cx → ℕ) (c : Dev nD) : iprop(recs m K ∗ lin c) ⊢ held m c := by
  unfold held; iintro H; iexists K; iexact H

theorem lin_all : iprop((bigSep Finset.univ fun c : Dev nD => bigSep Finset.univ fun k : Option Cx => (atPos ER (kcell (c, k)) 0 ∅ 0 : sProp 𝕄))
    ∗ bigSep Finset.univ fun c : Dev nD => (pays c : sProp 𝕄)) ⊢ bigSep Finset.univ fun c : Dev nD => (lin c : sProp 𝕄) := by
  unfold lin; rw [bigSep_sep']

theorem regroup : (bigSep Finset.univ fun c : Dev nD => made m c) ⊢ bigSep Finset.univ (held m) := by
  unfold made
  rw [bigSep_sep', bigSep_sep',
    ← bigSep_univ_prod (fun ck : Dev nD × Option Cx => iprop(∃ κ : ℕ, cellInv ER (Rd (GM m)) κ (kcell ck))),
    bigSep_congr (s := Finset.univ) (fun (c : Dev nD) _ => bigSep_sep' Finset.univ
      (fun k : Option Cx => (atPos ER (kcell (c, k)) 0 ∅ 0 : sProp 𝕄)) (fun k => reached ER (kcell (c, k)) 0)),
    bigSep_sep', ← bigSep_univ_prod (fun ck : Dev nD × Option Cx => (reached ER (kcell ck) 0 : sProp 𝕄))]
  iintro ⟨HI, ⟨Hat, #HR⟩, Htok⟩
  ihave HK := (BI.bigSep_exists_pi Finset.univ
    (fun (ck : Dev nD × Option Cx) (κ : ℕ) => (cellInv ER (Rd (GM m)) κ (kcell ck) : sProp 𝕄))) $$ HI
  icases HK with ⟨%K, #HI⟩
  ihave Htk := (toks_around (F := F)) $$ Htok
  iapply (with_persistent (R := recs m K) fun c _ => held_intro m K c)
  isplitr
  · unfold recs; isplitl; · iexact HI
    iexact HR
  iapply (lin_all (F := F))
  isplitl [Hat] <;> iassumption

theorem glob : (bigSep Finset.univ fun c => iprop(ownZ c ∗ unscopedSems0 c ∗ deal m c) : sProp 𝕄)
    ⊢ |={Set.univ}=> bigSep Finset.univ (held m) :=
  ((bigSep_mono fun c _ => core_alloc m c).trans (bigSep_fupd _ _)).trans (BI.fupd_mono (regroup m))

/-! ## The launch credit -/

theorem xCell_iff {a b : Dev nD} {x y : Cx} : xCell a x = xCell b y ↔ a = b ∧ x = y :=
  ⟨fun h => ⟨congrArg Prod.fst (kcell_inj h), Option.some.inj (congrArg Prod.snd (kcell_inj h))⟩, fun h => by rw [h.1, h.2]⟩
theorem bar_ne_x {a b : Dev nD} {y : Cx} : barCell a ≠ xCell b y := fun h => by cases congrArg Prod.snd (kcell_inj h)
theorem bar_iff {a b : Dev nD} : barCell a = barCell b ↔ a = b := ⟨fun h => congrArg Prod.fst (kcell_inj h), fun h => by rw [h]⟩

theorem owe1_at (d c : Dev nD) (δ b δ' b' : Bool) (hp hp' : Fin 7) :
    owe1 d δ' b' hp' (xCell c (true, δ, b, hp)) () = if (δ = δ' ∧ b = b' ∧ hp = hp') ∧ c = tgt δ d then N else 0 := by
  rw [tallyAt_apply]
  refine if_congr ?_ rfl rfl
  rw [xCell_iff]
  constructor
  · rintro ⟨⟨h1, h2⟩, -⟩; cases h2; exact ⟨⟨rfl, rfl, rfl⟩, h1⟩
  · rintro ⟨⟨rfl, rfl, rfl⟩, rfl⟩; exact ⟨⟨rfl, rfl⟩, rfl⟩

theorem oweH_at (d c : Dev nD) (δ b : Bool) (hp : Fin 7) : ∀ k, k ≤ 7 →
    oweH d k (xCell c (true, δ, b, hp)) () = if 7 ≤ hp.val + k ∧ c = tgt δ d then N else 0
  | 0, _ => by rw [if_neg (by have := hp.isLt; omega)]; rfl
  | k + 1, hk => by
    have ih := oweH_at d c δ b hp k (by omega)
    have hv : (Fin.ofNat 7 (6 - k)).val = 6 - k := Nat.mod_eq_of_lt (by omega)
    unfold oweH
    generalize Fin.ofNat 7 (6 - k) = j at hv
    have hj : (hp = j) ↔ hp.val = 6 - k := by rw [Fin.ext_iff, hv]
    rw [Pi.add_apply, Finsupp.add_apply, Pi.add_apply, Finsupp.add_apply, Pi.add_apply, Finsupp.add_apply, Pi.add_apply,
      Finsupp.add_apply, owe1_at, owe1_at, owe1_at, owe1_at, ih]
    by_cases hc : c = tgt δ d
    · by_cases h1 : hp = j
      · have h4 := hj.mp h1
        have h2 : ¬ 7 ≤ hp.val + k := by omega
        have h3 : 7 ≤ hp.val + (k + 1) := by omega
        rw [if_neg (fun h => h2 h.1), if_pos (And.intro h3 hc)]
        cases δ <;> cases b <;> simp [hc, h1]
      · have h4 : ¬ hp.val = 6 - k := fun h => h1 (hj.mpr h)
        have h2 : 7 ≤ hp.val + (k + 1) ↔ 7 ≤ hp.val + k := by omega
        simp only [h1, h2, and_false, false_and, if_false, Nat.add_zero]
    · rw [if_neg (fun h => hc h.2), if_neg (fun h => hc h.2), if_neg (fun h => hc h.2), if_neg (fun h => hc h.2),
        if_neg (fun h => hc h.2), if_neg (fun h => hc h.2)]

theorem oweH_bar (d c : Dev nD) : ∀ k, oweH d k (barCell c) () = 0
  | 0 => rfl
  | k + 1 => by
    unfold oweH
    simp only [Pi.add_apply, Finsupp.add_apply, oweH_bar d c k, owe1]
    rw [tallyAt_ne_cell bar_ne_x, tallyAt_ne_cell bar_ne_x, tallyAt_ne_cell bar_ne_x, tallyAt_ne_cell bar_ne_x]; rfl

theorem src_eq_iff (δ : Bool) (c d : Dev nD) : c = src δ d ↔ d = tgt δ c :=
  ⟨fun h => by rw [h, tgt_src], fun h => by rw [h, src_tgt]⟩

theorem owed_bar (d c : Dev nD) : O₀ d (barCell c) () = (if d = tgt true c then 1 else 0) + (if d = tgt false c then 1 else 0) := by
  unfold O₀ O₁
  rw [Pi.add_apply, Finsupp.add_apply, Pi.add_apply, Finsupp.add_apply, oweH_bar, tallyAt_apply, tallyAt_apply, Nat.zero_add]
  congr 1
  · exact if_congr (by rw [bar_iff, ← src_eq_iff]; simp) rfl rfl
  · exact if_congr (by rw [bar_iff, ← src_eq_iff]; simp) rfl rfl

theorem owed_recv (d c : Dev nD) (y : Y) : O₀ d (xCell c (true, y)) () = if d = src y.1 c then N else 0 := by
  obtain ⟨δ, b, hp⟩ := y
  unfold O₀ O₁
  rw [Pi.add_apply, Finsupp.add_apply, Pi.add_apply, Finsupp.add_apply, oweH_at d c δ b hp 7 le_rfl,
    tallyAt_ne_cell (Ne.symm bar_ne_x), tallyAt_ne_cell (Ne.symm bar_ne_x), Finsupp.zero_apply, Nat.add_zero, Nat.add_zero]
  exact if_congr ⟨fun h => (src_eq_iff δ d c).mpr h.2, fun h => ⟨by omega, (src_eq_iff δ d c).mp h⟩⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (tgt true c) fun _ => 1, Finset.sum_ite_eq' Finset.univ (tgt false c) fun _ => 1,
    if_pos (Finset.mem_univ _), if_pos (Finset.mem_univ _)]

theorem launch_recv (c : Dev nD) (y : Y) :
    tallyOn (xCell c (true, y)) (launchCredit (Pipeline.owing O₀) 0 (xCell c (true, y)))
      = (tallyAt (xCell c (true, y)) () N : CellTallies nD τ sig Unit) := by
  unfold tallyAt; refine congrArg _ (Finsupp.ext fun u => ?_); cases u
  rw [Pipeline.launchCredit_owing, Finsupp.single_eq_same, Finset.sum_congr rfl fun d _ => owed_recv d c y,
    Finset.sum_ite_eq' Finset.univ (src y.1 c) fun _ => N, if_pos (Finset.mem_univ _)]

/-- The semaphores a device is owed on. -/
def dueSem (y : Option Y) : SemLoc sig := csem (y.map fun y => (true, y))
theorem dueSem_inj : Function.Injective dueSem := fun a b h => by
  have := csem_inj h
  cases a <;> cases b <;> simp_all

theorem creds (c : Dev nD) : (Pipeline.launchCred O₀ c : sProp 𝕄)
    ⊢ iprop(cred (tallyAt (barCell c) () 2) ∗ bigSep Finset.univ fun y : Y => cred (tallyAt (xCell c (true, y)) () N)) := by
  have e : (bigSep (Finset.univ.map ⟨dueSem, dueSem_inj⟩) fun sm : SemLoc sig =>
        (cred (tallyOn ((c.tc : Thread nD τ), sm) (launchCredit (Pipeline.owing O₀) 0 ((c.tc : Thread nD τ), sm))) : sProp 𝕄))
      = iprop(cred (tallyAt (barCell c) () 2) ∗ bigSep Finset.univ fun y : Y => cred (tallyAt (xCell c (true, y)) () N)) := by
    rw [bigSep_map, bigSep_option]
    refine congrArg₂ (fun a b : sProp 𝕄 => iprop(a ∗ b)) ?_ (bigSep_congr fun y _ => ?_)
    · exact congrArg cred (launch_bar c)
    · exact congrArg cred (launch_recv c y)
  rw [← e]
  exact bigSep_subset (Finset.subset_univ _)

/-! ## The region's entry and exit -/

theorem toks_join (c : Dev nD) :
    iprop((bigSep Finset.univ fun x : Cx => (atPos ER (xCell c x) 0 ∅ 0 : sProp 𝕄))
      ∗ (bigSep Finset.univ fun y : Y => (dutyTok ER (xCell c (false, y)) 0 false : sProp 𝕄))
      ∗ (bigSep Finset.univ fun y : Y => (dutyTok ER (xCell (tgt y.1 c) (true, y)) 0 false : sProp 𝕄))
      ∗ bigSep Finset.univ fun y : Y => (cred (tallyAt (xCell c (true, y)) () N) : sProp 𝕄)) ⊢ Toks c := by
  rw [Toks_eq, sides]
  unfold Tok
  rw [bigSep_sep', bigSep_sep', bigSep_sep', bigSep_sep']
  iintro ⟨⟨H1, H2⟩, H3, H4, H5⟩
  isplitl [H3]; · iexact H3
  isplitl [H4]; · iexact H4
  isplitl [H1]; · iexact H1
  isplitl [H2] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ held m c)
      ⊢ |={Set.univ}=> iprop(start m c ∗ emp) := by
  unfold held recs lin pays
  rw [bigSep_option]
  iintro ⟨-, #Hlev, Hcr, -, ⟨%K, ⟨#HI, #HRr⟩, ⟨HaB, HaX⟩, HtF, HtT, Hs, Hr⟩⟩
  ihave Hc := (creds (F := F) c) $$ Hcr
  icases Hc with ⟨H1, HN⟩
  imodintro
  unfold start
  isplitl
  · isplitr
    · iexists K
      unfold Rec
      isplitr; · iexact HI
      isplitr; · iexact HRr
      iexact Hlev
    isplitl [HtF HtT HaB H1]
    · unfold BarTok
      isplitl [HtF]; · iexact HtF
      isplitl [HtT]; · iexact HtT
      isplitl [HaB] <;> iassumption
    iapply (toks_join (F := F) c)
    isplitl [HaX]; · iexact HaX
    isplitl [Hs]; · iexact Hs
    isplitl [Hr] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Scr
  iintro ⟨Hs, -, Hr⟩
  isplitl [Hs]; · iexact Hs
  iexact Hr

theorem phi1_exit (c : Dev nD) :
    (dats m 0 c).Φ (Fin.last cfg0.N) ⊢ iprop(unscopedSems0 c ∗ ownZ c ∗ Pipeline.scopedRest cfg0.spec c) := by
  rw [show (dats m 0 c).Φ (Fin.last cfg0.N) = Φ₁ c from rfl, scopedRest0_eq, ownZ_eq, unscoped_eq]
  unfold Φ₁ Scr
  iintro ⟨Hr, HB, HZ⟩
  isplitl [HB]; · iexact HB
  isplitl [HZ]; · iexact HZ
  iexact Hr

theorem lv_stage (c : Dev nD) (w : Fin 6) (s : Fin (spec0 w).nbuf) : lv ((c : Thread nD τ), .dma ((spec0 w).sem s)) () = 0 := by
  show (match dec ((spec0 w).sem s) with | some (true, _, _, hp) => hp.val + 2 | _ => 0) = 0
  rw [dec_stage]

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_O₀ c _ (lv_stage c w s)
    · show (levAts L lv : sProp 𝕄) ⊢ MayWait (c : Thread nD τ) _ () 0
      rw [MayWait_zero]; iintro -; iempintro

/-! ## The run -/

theorem share_eq (c : Dev nD) (w : Fin cfg0.W) : (dats m 0 c).share w = fullShare := by unfold Dat.share; split <;> rfl

/-- What a device's arrays hold at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := deal m) (G' := held m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨(h.1 c 0).trans ((dats (F := F) m 0 c).arrAt_in (0 : Fin 6) rfl _), (h.1 c 1).trans ((dats (F := F) m 0 c).arrAt_in (1 : Fin 6) rfl _),
    (h.1 c 2).trans ((dats (F := F) m 0 c).arrAt_in (2 : Fin 6) rfl _), (h.1 c 3).trans ((dats (F := F) m 0 c).arrAt_in (3 : Fin 6) rfl _), (h.1 c 4).trans ((dats (F := F) m 0 c).arrAt_in (4 : Fin 6) rfl _)⟩, h.2⟩)
    (run_main m ρ)

end Cert.KernelIdeal.Attn
-- ==== Proof.Out.lean ====
/-
# The arrays the launch reads and leaves

The launch has one step and every window is a whole array: what is staged of an input is the input, and the output array
ends with what the step leaves.
-/
module

public import proofs.«01_k».proof.Proof.Launch
public import Idealize.ShloMosaic.Lib.Pipeline.ValueKit.Geometry

@[expose] public section

noncomputable section

namespace Cert.KernelIdeal.Attn

open Cert.KernelIdeal Cert.KernelIdeal.Gen
open Idealize.ShloMosaic
open Idealize.ShloMosaic.TcCoe
open Idealize.ShloMosaic.Pipeline (Dat Cfg Window)

variable {F : FTy → Type} [FloatOps F] [Named F]
variable (m : (ℓ : Loc nD τ sig) → Buf (Elt F) ℓ)

/-- What is staged of each input is the input. -/
theorem staged (c : Dev nD) : xIn m c = m ((c : Thread nD τ).loc main_arg0)
    ∧ wqIn m c = m ((c : Thread nD τ).loc main_arg1) ∧ kIn m c = m ((c : Thread nD τ).loc main_arg2)
    ∧ vIn m c = m ((c : Thread nD τ).loc main_arg3) ∧ woIn m c = m ((c : Thread nD τ).loc main_arg4) := by
  have i0 : ∀ a, win0_0.index pt0 a = 0 := by decide +kernel
  have i1 : ∀ a, win0_1.index pt0 a = 0 := by decide +kernel
  have i2 : ∀ a, win0_2.index pt0 a = 0 := by decide +kernel
  have i3 : ∀ a, win0_3.index pt0 a = 0 := by decide +kernel
  have i4 : ∀ a, win0_4.index pt0 a = 0 := by decide +kernel
  unfold xIn wqIn kIn vIn woIn
  refine ⟨?_, ?_, ?_, ?_, ?_⟩ <;>
  · funext y
    refine congrArg (m _) (funext fun a => Fin.ext ?_)
    blk_simp
    simp only [i0, i1, i2, i3, i4, Nat.zero_mul, Nat.zero_add]

/-- The output array ends with what the step leaves. -/
theorem out_eq (c : Dev nD) : finalA m c 5 = outAt m c := by
  refine (dats m 0 c).arrAt_eq_of_covers 5 _ (by decide +kernel) fun t hf y => ?_
  blk_simp
  change outAt m c y = _
  have i5 : ∀ t a, win0_5.index t a = 0 := by decide +kernel
  have e : (win0_5.blk t).view.emb y = y := funext fun a => Fin.ext (by
    blk_simp
    simp only [i5, Nat.zero_mul, Nat.zero_add])
  rw [e]

end Cert.KernelIdeal.Attn
-- ==== Proof.Kval.lean ====
/-
# The kernel's operations at an index

Over the extended reals, each payload of the kernel read at an index: the products are sums over the contracted
coordinate, the reduction a sum over the rows.
-/
module

public import proofs.«01_k».proof.Proof.Vals
public import Idealize.ShloMosaic.Lib.Pointwise
public import Idealize.ShloMosaic.PureOps.Ideal.Laws

@[expose] public section

set_option maxRecDepth 16384

noncomputable section

namespace Cert.KernelIdeal.Attn

open Cert.KernelIdeal Cert.KernelIdeal.Gen
open Idealize.ShloMosaic

theorem pV_at (bias : FVec Ideal S512x512 .f32) (q kh : Vec Ideal S1x512x64 .bf16) (r i : Fin 512) :
    pV bias q kh (ix2 r i) = Ideal.exp2 ((∑ d : Fin 64, kh (ix3 0 r d) * q (ix3 0 i d)) + bias (ix2 r i)) := by
  pointwise [pV]
  rfl

theorem lV_at (p : FVec Ideal S512x512 .f32) (l : Vec Ideal S1x1x512 .f32) (i : Fin 512) :
    lV p l (ix3 0 0 i) = l (ix3 0 0 i) + ∑ r : Fin 512, p (ix2 r i) := by
  pointwise [lV]

theorem accV_at (p : FVec Ideal S512x512 .f32) (v : Vec Ideal S1x512x64 .bf16) (a : Vec Ideal S1x64x512 .f32) (d : Fin 64)
    (i : Fin 512) :
    accV p v a (ix3 0 d i) = a (ix3 0 d i) + ∑ r : Fin 512, v (ix3 0 r d) * p (ix2 r i) := by
  pointwise [accV]

theorem projV_at (wq : Vec Ideal S768x512 .bf16) (x : Vec Ideal S1x512x768 .bf16) (i j : Fin 512) :
    projV wq x (ix2 i j) = (∑ e : Fin 768, x (ix3 0 i e) * wq (ix2 e j)) * qscaleC (F := Ideal) := by
  pointwise [projV]

theorem ctxV_at (a : Vec Ideal S1x64x512 .f32) (l : Vec Ideal S1x1x512 .f32) (d : Fin 64) (i : Fin 512) :
    ctxV a l (ix2 d i) = Ideal.div (a (ix3 0 d i)) (l (ix3 0 0 i)) := by
  pointwise [ctxV]

theorem outV_at (wo : Vec Ideal S512x768 .bf16) (u : Fin 8 → FVec Ideal S64x512 .f32) (i : Fin 512) (e : Fin 768) :
    outV wo u (ix3 0 i e) = ∑ k : Fin 512, u ⟨k.val / 64, by omega⟩ (ix2 ⟨k.val % 64, Nat.mod_lt _ (by decide)⟩ i) * wo (ix2 k e) := by
  pointwise [outV]
  refine Finset.sum_congr rfl fun k _ => ?_
  congr 1
  obtain ⟨h, d, rfl⟩ : ∃ (h : Fin 8) (d : Fin 64), k = ⟨64 * h.val + d.val, by omega⟩ :=
    ⟨⟨k.val / 64, by omega⟩, ⟨k.val % 64, Nat.mod_lt _ (by decide)⟩, Fin.ext (by show k.val = 64 * (k.val / 64) + k.val % 64; omega)⟩
  have hd := d.isLt
  have e1 : (⟨(64 * h.val + d.val) / 64, by omega⟩ : Fin 8) = h := Fin.ext (by show (64 * h.val + d.val) / 64 = h.val; omega)
  have e2 : (⟨(64 * h.val + d.val) % 64, Nat.mod_lt _ (by decide)⟩ : Fin 64) = d := Fin.ext (by show (64 * h.val + d.val) % 64 = d.val; omega)
  simp only [e1, e2]
  fin_vals h with hh <;> simp only [hh] <;> (repeat (first | rw [dif_pos (by omega)] | rw [dif_neg (by omega)])) <;>
    exact congr (congrArg u (Fin.ext hh.symm)) (congrArg (ix2 · i) (Fin.ext (by show _ = d.val; simp only []; omega)))

end Cert.KernelIdeal.Attn
-- ==== Proof.Math.lean ====
/-
# Softmax without the running maximum

The two programs weigh the values alike: one subtracts each row's maximum and normalises the weights before the
weighted sum, the other leaves the scores as they are and divides the sums at the end. Over the extended reals the two
agree when the kept scores are real, whatever the values.
-/
module

public import Idealize.ShloMosaic.PureOps.Ideal.Laws
public import Mathlib.Data.EReal.Operations
public import Mathlib.Analysis.SpecialFunctions.Pow.Real

@[expose] public section

noncomputable section

namespace Cert.Attn

open Idealize.ShloMosaic

variable {ι : Type} [Fintype ι]

/-- A sum of reals is the sum of them as extended reals. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum. -/
theorem sum_mul_coe (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- The greatest of finitely many scores, none of them `⊤` and one of them real, is real. -/
theorem fold_max_real (f : ι → EReal) (ht : ∀ i, f i ≠ ⊤) (i₀ : ι) (hb : f i₀ ≠ ⊥) :
    ∃ M : ℝ, (Finset.univ : Finset ι).fold max (⊥ : EReal) f = (M : EReal) := by
  have h1 : (Finset.univ : Finset ι).fold max (⊥ : EReal) f < ⊤ :=
    (Finset.fold_max_lt _).2 ⟨bot_lt_top, fun i _ => lt_top_iff_ne_top.2 (ht i)⟩
  have h2 : ⊥ < (Finset.univ : Finset ι).fold max (⊥ : EReal) f :=
    (Finset.lt_fold_max _).2 (Or.inr ⟨i₀, Finset.mem_univ _, bot_lt_iff_ne_bot.2 hb⟩)
  exact ⟨_, (EReal.coe_toReal h1.ne h2.ne').symm⟩

variable (k : ι → Prop) [DecidablePred k] (r : ι → ℝ)

/-- The weight of an element: the exponential of its score where it is kept, zero elsewhere. -/
def wt (i : ι) : ℝ := if k i then Real.exp (r i) else 0

theorem wt_nonneg (i : ι) : 0 ≤ wt k r i := by unfold wt; split <;> positivity

/-- The weights of a row with an element kept add up to more than zero. -/
theorem sum_wt_pos (i₀ : ι) (h₀ : k i₀) : 0 < ∑ i, wt k r i :=
  Finset.sum_pos' (fun i _ => wt_nonneg k r i) ⟨i₀, Finset.mem_univ _, by unfold wt; rw [if_pos h₀]; exact Real.exp_pos _⟩

/-- The exponential of a masked score less a real is the weight times a constant. -/
theorem exp_sub (M : ℝ) (i : ι) :
    Ideal.exp ((if k i then (r i : EReal) else ⊥) - (M : EReal)) = ((wt k r i * Real.exp (-M) : ℝ) : EReal) := by
  unfold wt
  by_cases h : k i
  · rw [if_pos h, if_pos h, ← EReal.coe_sub, Ideal.exp_coe, sub_eq_add_neg, Real.exp_add]
  · rw [if_neg h, if_neg h, EReal.bot_sub, Ideal.exp_bot, zero_mul, EReal.coe_zero]

/-- The power of two of a scaled score plus its bias is the weight. -/
theorem exp2_add (i : ι) (z : EReal) (hz : z = ((r i * (Real.log 2)⁻¹ : ℝ) : EReal)) :
    Ideal.exp2 (z + if k i then (0 : EReal) else ⊥) = ((wt k r i : ℝ) : EReal) := by
  unfold wt
  subst hz
  by_cases h : k i
  · rw [if_pos h, if_pos h, add_zero, Ideal.exp2_coe]
    congr 1
    show (2 : ℝ) ^ (r i * (Real.log 2)⁻¹) = _
    rw [Real.rpow_def_of_pos (by norm_num), mul_comm (r i), mul_inv_cancel_left₀ (Real.log_pos (by norm_num)).ne']
  · rw [if_neg h, if_neg h, EReal.add_bot, Ideal.exp2_bot, EReal.coe_zero]

/-- The weighted sum divided at the end is the weighted sum of the normalised weights. -/
theorem softmax (i₀ : ι) (h₀ : k i₀) (v : ι → EReal) (M : ℝ) :
    Ideal.div (∑ i, v i * ((wt k r i : ℝ) : EReal)) (∑ i, ((wt k r i : ℝ) : EReal))
      = ∑ i, v i * Ideal.div (Ideal.exp ((if k i then (r i : EReal) else ⊥) - (M : EReal)))
          (∑ j, Ideal.exp ((if k j then (r j : EReal) else ⊥) - (M : EReal))) := by
  have hP := sum_wt_pos k r i₀ h₀
  have hE := Real.exp_pos (-M)
  simp only [exp_sub]
  rw [← coe_sum, ← coe_sum, ← Finset.sum_mul, Ideal.div_coe hP.ne', sum_mul_coe _ _ (by positivity)]
  refine Finset.sum_congr rfl fun i _ => ?_
  rw [Ideal.div_coe (by positivity), mul_assoc, ← EReal.coe_mul, ← EReal.coe_mul]
  congr 2
  field_simp

end Cert.Attn
-- ==== Proof.Mask.lean ====
/-
# The block mask

A query is folded with a key when their blocks of 64 positions are equal, when the key's block is the first, or when the
two blocks' numbers add up to a multiple of three. The kernel computes it on words, from the number of the device and
the origin of the half slab; here it is read at an index.
-/
module

public import proofs.«01_k».proof.Proof.Vals
public import Idealize.ShloMosaic.Lib.Pointwise
public import Idealize.ShloMosaic.PureOps.Ideal.Laws

@[expose] public section

set_option maxRecDepth 16384

noncomputable section

namespace Cert.Attn

/-- Whether the mask keeps a query of block `a` and a key of block `b`. -/
def keepB (a b : ℕ) : Prop := a = b ∨ b = 0 ∨ (a + b) % 3 = 0

instance (a b : ℕ) : Decidable (keepB a b) := by unfold keepB; infer_instance

end Cert.Attn

namespace Cert.KernelIdeal.Attn

open Cert.KernelIdeal Cert.KernelIdeal.Gen Cert.Attn
open Idealize.ShloMosaic

/-- The kernel's test on two block numbers. -/
def condW (q k : BitVec 32) : BitVec 1 :=
  IntOp.ori (IntOp.ori (IntOp.cmpi .eq q k) (IntOp.cmpi .eq k 0#32))
    (IntOp.cmpi .eq (Scalar.remsi (IntOp.addi q k) 3#32) 0#32)

theorem condW_eq : ∀ q k : Fin 64,
    condW (BitVec.ofNat 32 q.val) (BitVec.ofNat 32 k.val) = if keepB q.val k.val then 1#1 else 0#1 := by
  decide +kernel

theorem div64_word : ∀ n : Fin 512, div64 (fun _ => BitVec.ofNat 32 n.val) (ix2 0 0) = BitVec.ofNat 32 (n.val / 64) := by
  decide +kernel

theorem div64_at (v : IVec S512x512 32) (j : S512x512.Idx) (n : Fin 512) (h : v j = BitVec.ofNat 32 n.val) :
    div64 v j = BitVec.ofNat 32 (n.val / 64) := by
  have e : div64 v j = div64 (fun _ => v j) (ix2 0 0) := rfl
  rw [e, h, div64_word]

theorem qb_word : ∀ c a : Fin 8, IntOp.addi (Scalar.muli (myW c) 8#32) (BitVec.ofNat 32 a.val) = BitVec.ofNat 32 (8 * c.val + a.val) := by
  decide +kernel

theorem kb_word : ∀ o a : Fin 8, IntOp.addi (IntOp.muli (BitVec.ofNat 32 o.val) 8#32) (BitVec.ofNat 32 a.val) = BitVec.ofNat 32 (8 * o.val + a.val) := by
  decide +kernel

theorem row_word : ∀ r : Fin 512, IntOp.cmpi .slt (BitVec.ofNat 32 r.val) 256#32 = if 256 ≤ r.val then 0#1 else 1#1 := by
  decide +kernel

theorem orgA_word : ∀ (c : Dev nD) (n : Fin 7), orgA c (BitVec.ofNat 32 n.val) = BitVec.ofNat 32 (org false c n.val).val := by
  decide +kernel
theorem orgB_word : ∀ (c : Dev nD) (n : Fin 7), orgB c (BitVec.ofNat 32 n.val) = BitVec.ofNat 32 (org true c n.val).val := by
  decide +kernel
theorem orgY_word : ∀ (c : Dev nD), orgB c 1#32 = BitVec.ofNat 32 (org false c 7).val := by decide +kernel
theorem orgZ_word : ∀ (c : Dev nD), orgZ c = BitVec.ofNat 32 (org true c 7).val := by decide +kernel

theorem qbV_at (c : Dev nD) (r i : Fin 512) : qbV c (ix2 r i) = BitVec.ofNat 32 (8 * c.val + i.val / 64) := by
  have e : qbV c (ix2 r i) = IntOp.addi (Scalar.muli (myW c) 8#32)
    (div64 (iota .tc S512x512 32 [1] iota_S512x512_d1_w32) (ix2 r i)) := rfl
  rw [e, div64_at _ _ i (by pointwise), qb_word c ⟨i.val / 64, by omega⟩]

theorem kbV_at (oA oB : Dev nD) (r i : Fin 512) :
    kbV (BitVec.ofNat 32 oA.val) (BitVec.ofNat 32 oB.val) (ix2 r i)
      = BitVec.ofNat 32 (8 * (if 256 ≤ r.val then oB else oA).val + r.val / 64) := by
  have hr : rowV (ix2 r i) = BitVec.ofNat 32 r.val := by unfold rowV; pointwise
  have e : kbV (BitVec.ofNat 32 oA.val) (BitVec.ofNat 32 oB.val) (ix2 r i)
    = IntOp.addi (IntOp.muli (Scalar.select (IntOp.cmpi .slt (rowV (ix2 r i)) 256#32) (BitVec.ofNat 32 oA.val) (BitVec.ofNat 32 oB.val)) 8#32)
      (div64 rowV (ix2 r i)) := rfl
  rw [e, hr, div64_at _ _ r hr, row_word]
  split
  · exact kb_word oB ⟨r.val / 64, by omega⟩
  · exact kb_word oA ⟨r.val / 64, by omega⟩

theorem mask_bot : maskC (F := Ideal) = (⊥ : EReal) := rfl

theorem biasV_at (c oA oB : Dev nD) (r i : Fin 512) :
    biasV (F := Ideal) c (BitVec.ofNat 32 oA.val) (BitVec.ofNat 32 oB.val) (ix2 r i)
      = if keepB (8 * c.val + i.val / 64) (8 * (if 256 ≤ r.val then oB else oA).val + r.val / 64) then (0 : EReal) else ⊥ := by
  have e : biasV (F := Ideal) c (BitVec.ofNat 32 oA.val) (BitVec.ofNat 32 oB.val) (ix2 r i)
    = Scalar.select (condW (qbV c (ix2 r i)) (kbV (BitVec.ofNat 32 oA.val) (BitVec.ofNat 32 oB.val) (ix2 r i)))
      (Ideal.ofBits .f32 0x00000000#32) (maskC (F := Ideal)) := rfl
  have hc : c.val < 8 := c.isLt
  have ho : (if 256 ≤ r.val then oB else oA).val < 8 := (if 256 ≤ r.val then oB else oA).isLt
  rw [e, qbV_at, kbV_at, mask_bot, Ideal.ofBits_zero_f32,
    condW_eq ⟨8 * c.val + i.val / 64, by omega⟩ ⟨8 * (if 256 ≤ r.val then oB else oA).val + r.val / 64, by omega⟩]
  by_cases hk : keepB (8 * c.val + i.val / 64) (8 * (if 256 ≤ r.val then oB else oA).val + r.val / 64)
  · rw [if_pos hk, if_pos hk]; rfl
  · rw [if_neg hk, if_neg hk]; rfl

/-- The bias of the fold after `n` hops, at a key's row and a query's column. -/
theorem biasAt_at (c : Dev nD) (n : Fin 8) (r i : Fin 512) :
    biasAt (F := Ideal) c n.val (ix2 r i)
      = if keepB (8 * c.val + i.val / 64) (8 * (org (decide (256 ≤ r.val)) c n.val).val + r.val / 64) then (0 : EReal) else ⊥ := by
  have h : ∀ z : Prop, ∀ [Decidable z], org (decide z) c n.val = if z then org true c n.val else org false c n.val := by
    intro z _; by_cases hz : z <;> simp [hz]
  rw [h]
  unfold biasAt
  by_cases hn : n.val < 7
  · rw [if_pos hn, orgA_word c ⟨n.val, hn⟩, orgB_word c ⟨n.val, hn⟩]
    exact biasV_at c _ _ r i
  · have h7 : n.val = 7 := by omega
    rw [if_neg hn, orgY_word, orgZ_word, h7]
    exact biasV_at c _ _ r i

end Cert.KernelIdeal.Attn
-- ==== Proof.Spec.lean ====
/-
# What both programs compute

Block-sparse attention over whole arrays: real queries' inputs, projection and keys, any values and output projection.
-/
module

public import proofs.«01_k».proof.Proof.Math
public import proofs.«01_k».proof.Proof.Mask

@[expose] public section

noncomputable section

namespace Cert.Attn

open Idealize.ShloMosaic

/-- The column of head `h`'s coordinate `d`. -/
def col (h : Fin 8) (d : Fin 64) : Fin 512 := ⟨64 * h.val + d.val, by omega⟩

/-- Whether the mask keeps query `i` and key `j`. -/
def keep (i j : Fin 4096) : Prop := keepB (i.val / 64) (j.val / 64)

instance (i : Fin 4096) : DecidablePred (keep i) := fun _ => by unfold keep; infer_instance

/-- Every query keeps the first key. -/
theorem keep_zero (i : Fin 4096) : keep i 0 := Or.inr (Or.inl rfl)

variable (X : (⟨3, ![2, 4096, 768]⟩ : Shape).Idx → ℝ) (W : (⟨2, ![768, 512]⟩ : Shape).Idx → ℝ)
  (K : (⟨4, ![2, 4096, 8, 64]⟩ : Shape).Idx → ℝ) (V : (⟨4, ![2, 4096, 8, 64]⟩ : Shape).Idx → EReal)
  (O : (⟨2, ![512, 768]⟩ : Shape).Idx → EReal)

/-- A projected query's coordinate. -/
def proj (b : Fin 2) (i : Fin 4096) (n : Fin 512) : ℝ := ∑ e : Fin 768, X (ix3 b i e) * W (ix2 e n)

/-- The score of a query and a key. -/
def score (b : Fin 2) (h : Fin 8) (i j : Fin 4096) : ℝ :=
  (∑ d : Fin 64, proj X W b i (col h d) * K (ix4 b j h d)) * (1 / 8)

/-- The weight of a key for a query. -/
abbrev weight (b : Fin 2) (h : Fin 8) (i j : Fin 4096) : EReal := ((wt (keep i) (score X W K b h i) j : ℝ) : EReal)

/-- A head's context. -/
def ctx (b : Fin 2) (h : Fin 8) (d : Fin 64) (i : Fin 4096) : EReal :=
  Ideal.div (∑ j : Fin 4096, V (ix4 b j h d) * weight X W K b h i j) (∑ j : Fin 4096, weight X W K b h i j)

/-- The output. -/
def attn (b : Fin 2) (i : Fin 4096) (e : Fin 768) : EReal :=
  ∑ k : Fin 512, ctx X W K V b ⟨k.val / 64, by omega⟩ ⟨k.val % 64, Nat.mod_lt _ (by decide)⟩ i * O (ix2 k e)

end Cert.Attn
-- ==== Proof.Ksum.lean ====
/-
# The kernel's output

The accumulators after the eight folds are sums over every key, in the order the half slabs arrive; summed up, they are
the sums over the keys in order.
-/
module

public import proofs.«01_k».proof.Proof.Kval
public import proofs.«01_k».proof.Proof.Spec
public import Idealize.ShloMosaic.Lib.Layout

@[expose] public section

set_option maxRecDepth 16384

noncomputable section

namespace Cert.KernelIdeal.Attn

open Cert.KernelIdeal Cert.KernelIdeal.Gen Cert.Attn
open Idealize.ShloMosaic

/-- The position in the whole array of row `r` of device `o`'s block. -/
def pos (o : Dev nD) (r : Fin 512) : Fin 4096 := ⟨o.val * 512 + r.val, by have : o.val < 8 := o.isLt; omega⟩

theorem pos_div (o : Dev nD) (r : Fin 512) : (pos o r).val / 64 = 8 * o.val + r.val / 64 := by
  show (o.val * 512 + r.val) / 64 = _
  omega

/-- The keys in the order the half slabs arrive are the keys. -/
theorem sum_ring (c : Dev nD) (G : Fin 4096 → EReal) :
    ∑ m ∈ Finset.range 8, ∑ r : Fin 512, G (pos (org (decide (256 ≤ r.val)) c m) r) = ∑ j : Fin 4096, G j := by
  rw [Finset.sum_range fun m => ∑ r : Fin 512, G (pos (org (decide (256 ≤ r.val)) c m) r), Finset.sum_comm]
  have h1 : ∀ r : Fin 512, ∑ m : Fin 8, G (pos (org (decide (256 ≤ r.val)) c m.val) r) = ∑ o : Fin 8, G (pos o r) := fun r =>
    Fintype.sum_bijective (fun m : Fin 8 => org (decide (256 ≤ r.val)) c m.val)
      ⟨org_inj _ c, fun o => org_surj _ c o⟩ _ _ fun _ => rfl
  rw [Finset.sum_congr rfl fun r _ => h1 r, Finset.sum_comm, ← Fintype.sum_prod_type' fun (o : Fin 8) (r : Fin 512) => G (pos o r)]
  exact Fintype.sum_equiv (finProdFinEquiv (m := 8) (n := 512)) _ _ fun p => congrArg G (Fin.ext (by
    show p.1.val * 512 + p.2.val = p.2.val + 512 * p.1.val
    omega))

section
variable (q : Vec Ideal S16x512x64 .bf16) (gk gv : S8x2x512x512.Idx → Elt Ideal .bf16) (c : Dev nD)

/-- The weight of a row of the tile folded after `m` hops. -/
def tileP (m : ℕ) (t : Fin 16) (r i : Fin 512) : EReal := pV (biasAt c m) (hd q t) (hd (HT gk c m) t) (ix2 r i)

theorem Ls_at (t : Fin 16) (i : Fin 512) : ∀ n, Ls q gk c n (ix3 t 0 i) = ∑ m ∈ Finset.range n, ∑ r : Fin 512, tileP q gk c m t r i
  | 0 => Ideal.ofBits_zero_f32
  | n + 1 => by
    rw [Finset.sum_range_succ, ← Ls_at t i n]
    exact lV_at _ _ i

theorem As_at (t : Fin 16) (d : Fin 64) (i : Fin 512) :
    ∀ n, As q gk gv c n (ix3 t d i) = ∑ m ∈ Finset.range n, ∑ r : Fin 512, HT gv c m (ix3 t r d) * tileP q gk c m t r i
  | 0 => Ideal.ofBits_zero_f32
  | n + 1 => by
    rw [Finset.sum_range_succ, ← As_at t d i n]
    exact accV_at _ _ _ d i
end

/-- The kernel's scale of the queries. -/
theorem qscale_val : qscaleC (F := Ideal) = ((1 / 8 * (Real.log 2)⁻¹ : ℝ) : EReal) := rfl

variable (X : (⟨3, ![2, 4096, 768]⟩ : Shape).Idx → ℝ) (W : (⟨2, ![768, 512]⟩ : Shape).Idx → ℝ)
  (K : (⟨4, ![2, 4096, 8, 64]⟩ : Shape).Idx → ℝ) (V : (⟨4, ![2, 4096, 8, 64]⟩ : Shape).Idx → EReal)
  (O : (⟨2, ![512, 768]⟩ : Shape).Idx → EReal)
  (x : Vec Ideal S2x512x768 .bf16) (wq : Vec Ideal S768x512 .bf16) (kk vv : Dev nD → Vec Ideal S2x512x8x64 .bf16)
  (wo : Vec Ideal S512x768 .bf16) (c : Dev nD)

theorem QT_at (hx : ∀ b i e, x (ix3 b i e) = (X (ix3 b (pos c i) e) : EReal)) (hw : ∀ j, wq j = (W j : EReal))
    (b : Fin 2) (h : Fin 8) (i : Fin 512) (d : Fin 64) :
    QT wq x (ix3 (tOf b h) i d) = ((proj X W b (pos c i) (col h d) * (1 / 8 * (Real.log 2)⁻¹) : ℝ) : EReal) := by
  have hb : bOf (tOf b h) = b := Fin.ext (by show (8 * b.val + h.val) / 8 = b.val; omega)
  have hcol : colOf (tOf b h) d = col h d := Fin.ext (by show 64 * ((8 * b.val + h.val) % 8) + d.val = 64 * h.val + d.val; omega)
  have e : QT wq x (ix3 (tOf b h) i d) = projV wq (xrow x (bOf (tOf b h))) (ix2 i (colOf (tOf b h) d)) := rfl
  rw [e, hb, hcol, projV_at, qscale_val, EReal.coe_mul (proj X W b (pos c i) (col h d)), proj, coe_sum]
  congr 1
  refine Finset.sum_congr rfl fun k _ => ?_
  rw [EReal.coe_mul, ← hw]
  exact congrArg (· * _) (hx b i k)

theorem HT_at (v : Dev nD → Vec Ideal S2x512x8x64 .bf16) (n : ℕ) (b : Fin 2) (h : Fin 8) (r : Fin 512) (d : Fin 64) :
    HT (GT v) c n (ix3 (tOf b h) r d) = v (org (decide (256 ≤ r.val)) c n) (ix4 b r h d) := by
  have hb : bOf (tOf b h) = b := Fin.ext (by show (8 * b.val + h.val) / 8 = b.val; omega)
  have hcol : colOf (tOf b h) d = col h d := Fin.ext (by show 64 * ((8 * b.val + h.val) % 8) + d.val = 64 * h.val + d.val; omega)
  have h1 : (⟨(64 * h.val + d.val) / 64, by omega⟩ : Fin 8) = h := Fin.ext (by show (64 * h.val + d.val) / 64 = h.val; omega)
  have h2 : (⟨(64 * h.val + d.val) % 64, Nat.mod_lt _ (by decide)⟩ : Fin 64) = d := Fin.ext (by show (64 * h.val + d.val) % 64 = d.val; omega)
  have e : HT (GT v) c n (ix3 (tOf b h) r d) = v (org (decide (256 ≤ r.val)) c n)
    (ix4 (bOf (tOf b h)) r ⟨(colOf (tOf b h) d).val / 64, by omega⟩ ⟨(colOf (tOf b h) d).val % 64, Nat.mod_lt _ (by decide)⟩) := rfl
  rw [e, hb]
  simp only [hcol]
  exact congrArg (v _) (by
    show ix4 b r (⟨(64 * h.val + d.val) / 64, by omega⟩ : Fin 8) (⟨(64 * h.val + d.val) % 64, Nat.mod_lt _ (by decide)⟩ : Fin 64) = _
    rw [h1, h2])

theorem tileP_at (hx : ∀ b i e, x (ix3 b i e) = (X (ix3 b (pos c i) e) : EReal)) (hw : ∀ j, wq j = (W j : EReal))
    (hk : ∀ o b r h d, kk o (ix4 b r h d) = (K (ix4 b (pos o r) h d) : EReal))
    (m : Fin 8) (b : Fin 2) (h : Fin 8) (r i : Fin 512) :
    tileP (QT wq x) (GT kk) c m.val (tOf b h) r i = weight X W K b h (pos c i) (pos (org (decide (256 ≤ r.val)) c m.val) r) := by
  rw [tileP, pV_at, biasAt_at, ← pos_div, ← pos_div]
  refine exp2_add (keep (pos c i)) (score X W K b h (pos c i)) _ _ ?_
  have e : ∀ d : Fin 64, hd (HT (GT kk) c m.val) (tOf b h) (ix3 0 r d) * hd (QT wq x) (tOf b h) (ix3 0 i d)
      = ((K (ix4 b (pos (org (decide (256 ≤ r.val)) c m.val) r) h d) * (proj X W b (pos c i) (col h d) * (1 / 8 * (Real.log 2)⁻¹)) : ℝ) : EReal) := fun d => by
    rw [EReal.coe_mul, ← QT_at X W x wq c hx hw, ← hk, ← HT_at c kk m.val b h r d]
    rfl
  rw [Finset.sum_congr rfl fun d _ => e d, ← coe_sum, score]
  congr 1
  rw [Finset.sum_mul, Finset.sum_mul]
  exact Finset.sum_congr rfl fun d _ => by ring

theorem OT_at (a : Vec Ideal S16x64x512 .f32) (l : Vec Ideal S16x1x512 .f32) (b : Fin 2) (i : Fin 512) (e : Fin 768) :
    OT wo a l (ix3 b i e) = outV wo (fun h => ctxV (hd a (tOf b h)) (hd l (tOf b h))) (ix3 0 i e) := rfl

/-- A device's output is its block of the whole output. -/
theorem outT_at (hx : ∀ b i e, x (ix3 b i e) = (X (ix3 b (pos c i) e) : EReal)) (hw : ∀ j, wq j = (W j : EReal))
    (hk : ∀ o b r h d, kk o (ix4 b r h d) = (K (ix4 b (pos o r) h d) : EReal))
    (hv : ∀ o b r h d, vv o (ix4 b r h d) = V (ix4 b (pos o r) h d)) (hwo : wo = O) (b : Fin 2) (i : Fin 512) (e : Fin 768) :
    outT x wq kk vv wo c (ix3 b i e) = attn X W K V O b (pos c i) e := by
  have hL : ∀ h : Fin 8, hd (Ls (QT wq x) (GT kk) c 8) (tOf b h) (ix3 0 0 i) = ∑ j : Fin 4096, weight X W K b h (pos c i) j := fun h => by
    rw [← sum_ring c]
    refine (Ls_at _ _ c (tOf b h) i 8).trans (Finset.sum_congr rfl fun m hm => Finset.sum_congr rfl fun r _ => ?_)
    exact tileP_at X W K x wq kk c hx hw hk ⟨m, Finset.mem_range.1 hm⟩ b h r i
  have hA : ∀ (h : Fin 8) (d : Fin 64), hd (As (QT wq x) (GT kk) (GT vv) c 8) (tOf b h) (ix3 0 d i)
      = ∑ j : Fin 4096, V (ix4 b j h d) * weight X W K b h (pos c i) j := fun h d => by
    rw [← sum_ring c fun j => V (ix4 b j h d) * weight X W K b h (pos c i) j]
    refine (As_at _ _ _ c (tOf b h) d i 8).trans (Finset.sum_congr rfl fun m hm => Finset.sum_congr rfl fun r _ => ?_)
    rw [HT_at, hv]
    exact congrArg (_ * ·) (tileP_at X W K x wq kk c hx hw hk ⟨m, Finset.mem_range.1 hm⟩ b h r i)
  have hC : ∀ (h : Fin 8) (d : Fin 64), ctxV (hd (As (QT wq x) (GT kk) (GT vv) c 8) (tOf b h)) (hd (Ls (QT wq x) (GT kk) c 8) (tOf b h)) (ix2 d i)
      = ctx X W K V b h d (pos c i) := fun h d => by
    rw [ctxV_at, ctx, hL, hA]
  rw [outT, OT_at, outV_at, attn, hwo]
  exact Finset.sum_congr rfl fun k _ => congrArg (fun z : EReal => z * O (ix2 k e)) (hC ⟨k.val / 64, by omega⟩ ⟨k.val % 64, Nat.mod_lt _ (by decide)⟩)

end Cert.KernelIdeal.Attn
-- ==== Proof.Rmask.lean ====
/-
# The reference's mask

The reference computes the same test as the kernel on the words of the positions' blocks, by a floor division and a
remainder that round the way the host's do not; on positions, which are not negative, there is nothing to correct.
-/
module

public import proofs.«01_k».proof.Proof.Gen.ReferenceIdeal.Read
public import proofs.«01_k».proof.Proof.Spec

@[expose] public section

set_option maxRecDepth 16384

noncomputable section

namespace Cert.ReferenceIdeal.Attn

open Cert.ReferenceIdeal Cert.ReferenceIdeal.Gen Cert.ReferenceIdeal.Read Cert.Attn
open Idealize.ShloMosaic

variable {F : FTy → Type} [FloatOps F]

/-- A word's sign. -/
def signW (x : BitVec 32) : BitVec 32 := if x = 0 then 0 else if x.msb then -1 else 1

/-- The floor of a word's quotient by 64. -/
def floorW (x : BitVec 32) : BitVec 32 :=
  Scalar.select (IntOp.andi (IntOp.cmpi .ne (signW x) (signW 64#32)) (IntOp.cmpi .ne (IntOp.remsi .host x 64#32) 0#32))
    (IntOp.subi (IntOp.divsi .host x 64#32) 1#32) (IntOp.divsi .host x 64#32)

/-- The divisor 3, kept from being zero. -/
def threeW : BitVec 32 := Scalar.select (IntOp.cmpi .eq 3#32 0#32) 1#32 3#32

/-- A word's remainder by 3, of the divisor's sign. -/
def remW (x : BitVec 32) : BitVec 32 :=
  Scalar.select
    (IntOp.andi (IntOp.cmpi .ne (IntOp.cmpi .slt (IntOp.remsi .host x threeW) 0#32) (IntOp.cmpi .slt threeW 0#32))
      (IntOp.cmpi .ne (IntOp.remsi .host x threeW) 0#32))
    (IntOp.addi (IntOp.remsi .host x threeW) threeW) (IntOp.remsi .host x threeW)

/-- The reference's test on two block numbers. -/
def testW (q k : BitVec 32) : BitVec 1 :=
  IntOp.ori (IntOp.ori (IntOp.cmpi .eq q k) (IntOp.cmpi .eq k 0#32)) (IntOp.cmpi .eq (remW (IntOp.addi q k)) 0#32)

theorem floorW_eq : ∀ n : Fin 4096, floorW (BitVec.ofNat 32 n.val) = BitVec.ofNat 32 (n.val / 64) := by
  decide +kernel

theorem testW_eq : ∀ a b : Fin 64,
    testW (BitVec.ofNat 32 a.val) (BitVec.ofNat 32 b.val) = if keepB a.val b.val then 1#1 else 0#1 := by
  decide +kernel

theorem call0_v3_at (i : S4096.Idx) : val_main_call0_v3 (F := F) i = signW (val_main_v7 (F := F) i) := rfl
theorem call0_v4_at (i : S_.Idx) : val_main_call0_v4 (F := F) i = signW (val_main_call0_v0 (F := F) i) := rfl
theorem call1_v3_at (i : S4096.Idx) : val_main_call1_v3 (F := F) i = signW (val_main_v10 (F := F) i) := rfl
theorem call1_v4_at (i : S_.Idx) : val_main_call1_v4 (F := F) i = signW (val_main_call1_v0 (F := F) i) := rfl

/-- The block of a query's position. -/
theorem v8_at (i : S4096.Idx) : val_main_v8 (F := F) i = BitVec.ofNat 32 ((i 0).val / 64) := by
  rw [← floorW_eq (i 0)]
  simp only [val_main_v8_apply, val_main_call0_v11_apply, val_main_call0_v13_apply, val_main_call0_v2_apply,
    val_main_call0_v6_apply, val_main_call0_v10_apply, val_main_call0_v12_apply, val_main_call0_v1_apply,
    val_main_call0_v5_apply, val_main_call0_v8_apply, val_main_call0_v9_apply, val_main_call0_v7_apply, call0_v3_at,
    call0_v4_at, val_main_call0_v0_apply, val_main_call0_c_apply, val_main_call0_c_0_apply, val_main_c_apply,
    val_main_v7_apply]
  rfl

/-- The block of a key's position. -/
theorem v11_at (i : S4096.Idx) : val_main_v11 (F := F) i = BitVec.ofNat 32 ((i 0).val / 64) := by
  rw [← floorW_eq (i 0)]
  simp only [val_main_v11_apply, val_main_call1_v11_apply, val_main_call1_v13_apply, val_main_call1_v2_apply,
    val_main_call1_v6_apply, val_main_call1_v10_apply, val_main_call1_v12_apply, val_main_call1_v1_apply,
    val_main_call1_v5_apply, val_main_call1_v8_apply, val_main_call1_v9_apply, val_main_call1_v7_apply, call1_v3_at,
    call1_v4_at, val_main_call1_v0_apply, val_main_call1_c_apply, val_main_call1_c_0_apply, val_main_c_0_apply,
    val_main_v10_apply]
  rfl

/-- The remainder of the sum of the two blocks. -/
theorem v23_at (i : S4096x4096.Idx) : val_main_v23 (F := F) i = remW (val_main_v22 (F := F) i) := by
  simp only [val_main_v23_apply, val_main_call2_v12_apply, val_main_call2_v14_apply, val_main_call2_v11_apply,
    val_main_call2_v6_apply, val_main_call2_v8_apply, val_main_call2_v10_apply, val_main_call2_v9_apply,
    val_main_call2_v13_apply, val_main_call2_v4_apply, val_main_call2_v3_apply, val_main_call2_v5_apply,
    val_main_call2_v7_apply, val_main_call2_v2_apply, val_main_call2_v1_apply, val_main_call2_v0_apply,
    val_main_call2_c_apply, val_main_call2_c_0_apply, val_main_call2_c_1_apply, val_main_call2_c_2_apply,
    val_main_call2_c_3_apply, val_main_c_2_apply]
  rfl

/-- The mask at a query and a key. -/
theorem v26_at (i j : Fin 4096) :
    val_main_v26 (F := F) (ix2 i j) = if keep i j then 1#1 else 0#1 := by
  have h := testW_eq ⟨i.val / 64, by omega⟩ ⟨j.val / 64, by omega⟩
  refine Eq.trans ?_ h
  simp only [val_main_v26_apply, val_main_v19_apply, val_main_v25_apply, val_main_v15_apply, val_main_v18_apply,
    val_main_v17_apply, val_main_v16_apply, v23_at, val_main_v24_apply, val_main_v22_apply, val_main_v20_apply,
    val_main_v21_apply, val_main_v13_apply, val_main_v14_apply, val_main_v12_apply, val_main_v9_apply, v8_at, v11_at,
    val_main_c_1_apply, val_main_c_3_apply]
  rfl

/-- One of a family of bits set, their disjunction is. -/
theorem fold_ori {ι : Type} [Fintype ι] [DecidableEq ι] (z : BitVec 1) (f : ι → BitVec 1) (i₀ : ι) (h : f i₀ = 1#1) :
    (Finset.univ : Finset ι).fold IntOp.ori z f = 1#1 := by
  rw [← Finset.insert_erase (Finset.mem_univ i₀), Finset.fold_insert (Finset.notMem_erase _ _), h]
  generalize Finset.fold IntOp.ori z f _ = y
  revert y
  decide

/-- Every query has a key. -/
theorem v37_at (i : S4096.Idx) : val_main_v37 (F := F) i = 1#1 := by
  unfold val_main_v37
  rw [Host.reduce_eq_fold_single IntOp.ori _ _ _ (by decide)]
  refine fold_ori _ _ (0 : Fin 4096) ?_
  have h := (v26_at (F := F) (i 0) 0).trans (if_pos (keep_zero _))
  exact (congrArg (val_main_v26 (F := F)) (eq_ix2 _)).trans h

end Cert.ReferenceIdeal.Attn
-- ==== Proof.Rval.lean ====
/-
# The reference's value

Each row's maximum is a real number, as the first key is never masked; so the softmax less the maximum is the plain
softmax, and the reference's output is the attention.
-/
module

public import proofs.«01_k».proof.Proof.Rmask
public import Idealize.ShloMosaic.Lib.IdealHost

@[expose] public section

set_option maxRecDepth 16384

noncomputable section

namespace Cert.ReferenceIdeal.Attn

open Cert.ReferenceIdeal Cert.ReferenceIdeal.Gen Cert.ReferenceIdeal.Read Cert.Attn
open Idealize.ShloMosaic

theorem ofBits_eighth : Ideal.ofBits .f32 0x3E000000#32 = (((1 : ℝ) / 8 : ℝ) : EReal) := by
  simp [Ideal.ofBits, Ideal.ieee, -EReal.coe_mul]; norm_num

theorem ofBits_bot : Ideal.ofBits .f32 0xFF800000#32 = (⊥ : EReal) := by
  simp [Ideal.ofBits, Ideal.ieee]

variable (X : (⟨3, ![2, 4096, 768]⟩ : Shape).Idx → ℝ) (W : (⟨2, ![768, 512]⟩ : Shape).Idx → ℝ)
  (K : (⟨4, ![2, 4096, 8, 64]⟩ : Shape).Idx → ℝ) (V : (⟨4, ![2, 4096, 8, 64]⟩ : Shape).Idx → EReal)
  (O : (⟨2, ![512, 768]⟩ : Shape).Idx → EReal)
  (x0 : (⟨S2x4096x768, .bf16⟩ : BufTy).Contents (Elt Ideal)) (x1 : (⟨S768x512, .bf16⟩ : BufTy).Contents (Elt Ideal))
  (x2 x3 : (⟨S2x4096x8x64, .bf16⟩ : BufTy).Contents (Elt Ideal))
  (x4 : (⟨S512x768, .bf16⟩ : BufTy).Contents (Elt Ideal))

/-- A projected query's coordinate. -/
theorem v5_at (hx : ∀ j, x0 j = (X j : EReal)) (hw : ∀ j, x1 j = (W j : EReal)) (b : Fin 2) (i : Fin 4096)
    (n : Fin 512) : val_main_v5 (F := Ideal) x0 x1 (ix3 b i n) = (proj X W b i n : EReal) := by
  rw [val_main_v5_apply, proj, coe_sum]
  refine Finset.sum_congr rfl fun e _ => ?_
  rw [val_main_v0_apply, val_main_v1_apply, EReal.coe_mul, ← hx, ← hw]
  rw [(eq_ix3 _ : lidx_main_v5 (ix3 b i n) e = ix3 b i e), (eq_ix2 _ : ridx_main_v5 (ix3 b i n) e = ix2 e n)]
  rfl

/-- The same by head and coordinate. -/
theorem v6_at (hx : ∀ j, x0 j = (X j : EReal)) (hw : ∀ j, x1 j = (W j : EReal)) (b : Fin 2) (i : Fin 4096)
    (h : Fin 8) (d : Fin 64) :
    val_main_v6 (F := Ideal) x0 x1 (ix4 b i h d) = (proj X W b i (col h d) : EReal) := by
  rw [val_main_v6_apply, ← v5_at X W x0 x1 hx hw]
  refine congrArg _ ((eq_ix3 _).trans ?_)
  have e0 : idx_main_v6 (ix4 b i h d) 0 = b := Fin.ext (by
    show (((b.val * 4096 + i.val) * 8 + h.val) * 64 + d.val) / 2097152 = b.val; omega)
  have e1 : idx_main_v6 (ix4 b i h d) 1 = i := Fin.ext (by
    show (((b.val * 4096 + i.val) * 8 + h.val) * 64 + d.val) / 512 % 4096 = i.val; omega)
  have e2 : idx_main_v6 (ix4 b i h d) 2 = col h d := Fin.ext (by
    show (((b.val * 4096 + i.val) * 8 + h.val) * 64 + d.val) % 512 = 64 * h.val + d.val; omega)
  rw [e0, e1, e2]

/-- A masked score. -/
theorem v31_at (hx : ∀ j, x0 j = (X j : EReal)) (hw : ∀ j, x1 j = (W j : EReal)) (hk : ∀ j, x2 j = (K j : EReal))
    (b : Fin 2) (h : Fin 8) (i j : Fin 4096) :
    val_main_v31 (F := Ideal) x0 x1 x2 (ix4 b h i j) = if keep i j then (score X W K b h i j : EReal) else ⊥ := by
  have hs : val_main_v29 (F := Ideal) x0 x1 x2 (ix4 b h i j) = (score X W K b h i j : EReal) := by
    rw [val_main_v29_apply, val_main_v28_apply, val_main_v27_apply, val_main_cst_apply, score, EReal.coe_mul, coe_sum]
    refine congrArg₂ (fun y z : EReal => y * z) (Finset.sum_congr rfl fun d _ => ?_) ofBits_eighth
    rw [val_main_v2_apply, EReal.coe_mul, ← hk, ← v6_at X W x0 x1 hx hw]
    rw [(eq_ix4 _ : lidx_main_v27 (ix4 b h i j) d = ix4 b i h d),
      (eq_ix4 _ : ridx_main_v27 (ix4 b h i j) d = ix4 b j h d)]
    rfl
  have hm : val_main_call3_v1 (F := Ideal) (ix4 b h i j) = if keep i j then 1#1 else 0#1 := by
    rw [val_main_call3_v1_apply, val_main_v30_apply, ← v26_at (F := Ideal) i j]
    exact congrArg _ (eq_ix2 _)
  have hb : val_main_call3_v2 (F := Ideal) (ix4 b h i j) = (⊥ : EReal) := by
    rw [val_main_call3_v2_apply]
    exact ofBits_bot
  rw [val_main_v31_apply, hm, hs, hb]
  by_cases hc : keep i j
  · rw [if_pos hc, if_pos hc]; rfl
  · rw [if_neg hc, if_neg hc]; rfl

/-- A row's maximum is real. -/
theorem v32_at (hx : ∀ j, x0 j = (X j : EReal)) (hw : ∀ j, x1 j = (W j : EReal)) (hk : ∀ j, x2 j = (K j : EReal))
    (b : Fin 2) (h : Fin 8) (i : Fin 4096) :
    ∃ M : ℝ, val_main_v32 (F := Ideal) x0 x1 x2 (ix3 b h i) = (M : EReal) := by
  have hv := v31_at X W K x0 x1 x2 hx hw hk b h i
  unfold val_main_v32
  revert hv
  generalize val_main_v31 (F := Ideal) x0 x1 x2 = y
  intro hv
  have hr : S2x8x4096x4096.Reduces [3] S2x8x4096 := by decide
  have e := Host.reduce_eq_fold_single (α := EReal) max y (val_main_cst_5 (F := Ideal))
    reducesTo_S2x8x4096x4096_S2x8x4096_d3 hr h_S_ (ix3 b h i)
  have hl : ∀ j : Fin 4096, (y ∘ hr.lift (ix3 b h i)) j = if keep i j then (score X W K b h i j : EReal) else ⊥ :=
    fun j => (congrArg y (eq_ix4 _)).trans (hv j)
  obtain ⟨M, hM⟩ := fold_max_real (ι := Fin 4096) (y ∘ hr.lift (ix3 b h i))
    (fun j hj => by
      have h' := (hl j).symm.trans hj
      split at h'
      · exact EReal.coe_ne_top _ h'
      · exact bot_ne_top h') 0
    (fun hj => EReal.coe_ne_bot _ (((hl 0).trans (if_pos (keep_zero i))).symm.trans hj))
  refine ⟨M, Eq.trans ?_ hM⟩
  refine Eq.trans e ?_
  exact congrArg (fun z : EReal => Finset.fold max z _ _) ofBits_bot

/-- A row's exponentials less its maximum, divided by their sum. -/
theorem v45_at (hx : ∀ j, x0 j = (X j : EReal)) (hw : ∀ j, x1 j = (W j : EReal)) (hk : ∀ j, x2 j = (K j : EReal))
    (b : Fin 2) (h : Fin 8) (i : Fin 4096) : ∃ M : ℝ, ∀ j : Fin 4096,
    val_main_v45 (F := Ideal) x0 x1 x2 (ix4 b h i j)
      = Ideal.div (Ideal.exp ((if keep i j then (score X W K b h i j : EReal) else ⊥) - (M : EReal)))
        (∑ j' : Fin 4096, Ideal.exp ((if keep i j' then (score X W K b h i j' : EReal) else ⊥) - (M : EReal))) := by
  obtain ⟨M, hM⟩ := v32_at X W K x0 x1 x2 hx hw hk b h i
  have h36 : ∀ j : Fin 4096, val_main_v36 (F := Ideal) x0 x1 x2 (ix4 b h i j)
      = Ideal.exp ((if keep i j then (score X W K b h i j : EReal) else ⊥) - (M : EReal)) := fun j => by
    rw [val_main_v36_apply, val_main_v35_apply, val_main_v34_apply, val_main_v33_apply,
      v31_at X W K x0 x1 x2 hx hw hk, ← hM]
    rw [(eq_ix3 _ : idx_main_v33 (idx_main_v34 (ix4 b h i j)) = ix3 b h i)]
    rfl
  have h39 : val_main_v39 (F := Ideal) x0 x1 x2 (ix3 b h i)
      = ∑ j' : Fin 4096, Ideal.exp ((if keep i j' then (score X W K b h i j' : EReal) else ⊥) - (M : EReal)) := by
    rw [val_main_v39_apply, val_main_cst_7_apply]
    refine Eq.trans (congrArg₂ (fun y z : EReal => y + z) Ideal.ofBits_zero_f32
      (Finset.sum_congr rfl fun j _ => ?_)) (zero_add _)
    rw [(eq_ix4 _ : idx_main_v39 (ix3 b h i) j = ix4 b h i j)]
    exact h36 j
  refine ⟨M, fun j => ?_⟩
  have h43 : val_main_v43 (F := Ideal) x0 x1 x2 (ix4 b h i j)
      = Ideal.div (Ideal.exp ((if keep i j then (score X W K b h i j : EReal) else ⊥) - (M : EReal)))
        (∑ j' : Fin 4096, Ideal.exp ((if keep i j' then (score X W K b h i j' : EReal) else ⊥) - (M : EReal))) := by
    rw [val_main_v43_apply, h36, val_main_v42_apply, val_main_v41_apply, val_main_call4_v1_apply, val_main_v38_apply,
      v37_at, val_main_v40_apply]
    refine congrArg (Ideal.div _) (Eq.trans ?_ h39)
    exact congrArg (val_main_v39 (F := Ideal) x0 x1 x2) (eq_ix3 _)
  rw [val_main_v45_apply, val_main_call5_v1_apply, val_main_v44_apply, v37_at, h43]
  rfl

/-- A head's context. -/
theorem v46_at (hx : ∀ j, x0 j = (X j : EReal)) (hw : ∀ j, x1 j = (W j : EReal)) (hk : ∀ j, x2 j = (K j : EReal))
    (hv : x3 = V) (b : Fin 2) (h : Fin 8) (d : Fin 64) (i : Fin 4096) :
    val_main_v46 (F := Ideal) x0 x1 x2 x3 (ix4 b h d i) = ctx X W K V b h d i := by
  obtain ⟨M, hM⟩ := v45_at X W K x0 x1 x2 hx hw hk b h i
  rw [val_main_v46_apply, ctx, softmax (keep i) (score X W K b h i) 0 (keep_zero i) (fun j => V (ix4 b j h d)) M]
  refine Finset.sum_congr rfl fun j _ => ?_
  have er : ridx_main_v46 (ix4 b h d i) j = ix4 b h i j := eq_ix4 _
  have el : lidx_main_v46 (ix4 b h d i) j = ix4 b j h d := eq_ix4 _
  rw [er, hM, val_main_v3_apply, hv, el]
  rfl

/-- The reference's output. -/
theorem v49_at (hx : ∀ j, x0 j = (X j : EReal)) (hw : ∀ j, x1 j = (W j : EReal)) (hk : ∀ j, x2 j = (K j : EReal))
    (hv : x3 = V) (ho : x4 = O) (b : Fin 2) (i : Fin 4096) (e : Fin 768) :
    val_main_v49 (F := Ideal) x0 x1 x2 x3 x4 (ix3 b i e) = attn X W K V O b i e := by
  rw [val_main_v49_apply, attn]
  refine Finset.sum_congr rfl fun k _ => ?_
  rw [val_main_v48_apply, val_main_v47_apply, ← v46_at X W K V x0 x1 x2 x3 hx hw hk hv, val_main_v4_apply, ho,
    (eq_ix2 _ : ridx_main_v49 (ix3 b i e) k = ix2 k e)]
  refine congrArg (fun z : EReal => z * O (ix2 k e)) (congrArg _ ((eq_ix4 _).trans ?_))
  have hi := i.isLt
  have hk := k.isLt
  have e0 : idx_main_v47 (idx_main_v48 (lidx_main_v49 (ix3 b i e) k)) 0 = b := Fin.ext (by
    show ((b.val * 4096 + i.val) * 512 + k.val) / 2097152 = b.val; omega)
  have e1 : idx_main_v47 (idx_main_v48 (lidx_main_v49 (ix3 b i e) k)) 1 = (⟨k.val / 64, by omega⟩ : Fin 8) :=
    Fin.ext (by show ((b.val * 4096 + i.val) * 512 + k.val) / 64 % 8 = k.val / 64; omega)
  have e2 : idx_main_v47 (idx_main_v48 (lidx_main_v49 (ix3 b i e) k)) 2
      = (⟨k.val % 64, Nat.mod_lt _ (by decide)⟩ : Fin 64) :=
    Fin.ext (by show ((b.val * 4096 + i.val) * 512 + k.val) % 64 = k.val % 64; omega)
  have e3 : idx_main_v47 (idx_main_v48 (lidx_main_v49 (ix3 b i e) k)) 3 = i := Fin.ext (by
    show ((b.val * 4096 + i.val) * 512 + k.val) / 512 % 4096 = i.val; omega)
  rw [e0, e1, e2, e3]

end Cert.ReferenceIdeal.Attn
-- ==== Proof.Algebraic.lean ====
/-
# The kernel and the reference compute the same

Under the precondition the queries' inputs, the projection and the keys hold real numbers, on each device and so in the
whole arrays. Both programs then leave the attention of the whole arrays: the reference all of it, each device its
block of positions.
-/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Out
public import proofs.«01_k».proof.Proof.Ksum
public import proofs.«01_k».proof.Proof.Rval
public import Idealize.ShloMosaic.Lib.ReduceAll

@[expose] public section

noncomputable section

namespace Cert.Proof

open Idealize.ShloMosaic Idealize.SL.Sem
open Cert.Attn
open Cert.KernelIdeal.Attn (pos)

/-- The side conditions of the precondition read of a device's blocks, -/
instance facts_pre_KernelIdeal : Cert.Pre_finite_KernelIdeal.Facts where
  bitsLt_bf16_f32 := by decide
  bcast_S_S2x512x768 := by decide
  reducesTo_S2x512x768_S_d0_1_2 := by decide
  h_S_ := by decide
  bcast_S_S768x512 := by decide
  reducesTo_S768x512_S_d0_1 := by decide
  bcast_S_S2x512x8x64 := by decide
  reducesTo_S2x512x8x64_S_d0_1_2_3 := by decide

/-- and of whole arrays. -/
instance facts_pre_ReferenceIdeal : Cert.Pre_finite_ReferenceIdeal.Facts where
  bitsLt_bf16_f32 := by decide
  bcast_S_S2x4096x768 := by decide
  reducesTo_S2x4096x768_S_d0_1_2 := by decide
  h_S_ := by decide
  bcast_S_S768x512 := by decide
  reducesTo_S768x512_S_d0_1 := by decide
  bcast_S_S2x4096x8x64 := by decide
  reducesTo_S2x4096x8x64_S_d0_1_2_3 := by decide

/-! ## The precondition -/

theorem ofBits_top : Ideal.ofBits .f32 0x7F800000#32 = (⊤ : EReal) := by simp [Ideal.ofBits, Ideal.ieee]

/-- A value whose absolute value is less than infinity is real. -/
theorem real_of_abs (a : EReal) (h : Ideal.cmp .olt (max a (-a)) (Ideal.ofBits .f32 0x7F800000#32) = 1#1) :
    a = (a.toReal : EReal) := by
  rw [ofBits_top] at h
  have h' : max a (-a) < ⊤ := by
    by_contra hn
    rw [show Ideal.cmp .olt (max a (-a)) ⊤ = BitVec.ofBool (decide (max a (-a) < ⊤)) from rfl, decide_eq_false hn] at h
    exact absurd h (by decide)
  rw [max_lt_iff] at h'
  refine (EReal.coe_toReal h'.1.ne ?_).symm
  rintro rfl
  simp at h'

instance : Subsingleton Cert.Pre_finite_KernelIdeal.S_.Idx := inferInstanceAs (Subsingleton ((a : Fin 0) → _))

/-- What the precondition says of a device's blocks. -/
theorem finite_blocks (x0 : FVec Ideal ⟨3, ![2, 512, 768]⟩ .bf16) (x1 : FVec Ideal ⟨2, ![768, 512]⟩ .bf16)
    (x2 x3 : FVec Ideal ⟨4, ![2, 512, 8, 64]⟩ .bf16) (x4 : FVec Ideal ⟨2, ![512, 768]⟩ .bf16)
    (h : Cert.Pre_finite_KernelIdeal.fn (F := Ideal) x0 x1 x2 x3 x4 = fun _ => 1#1) :
    (∀ j, x0 j = (EReal.toReal (x0 j) : EReal)) ∧ (∀ j, x1 j = (EReal.toReal (x1 j) : EReal))
      ∧ ∀ j, x2 j = (EReal.toReal (x2 j) : EReal) := by
  have h0 := congrFun h (Shape.Idx.first Cert.Pre_finite_KernelIdeal.Facts.h_S_)
  obtain ⟨h1, hk⟩ := IntOp.andi_eq_one.1 h0
  obtain ⟨hx, hw⟩ := IntOp.andi_eq_one.1 h1
  exact ⟨fun j => real_of_abs _ (Host.reduce_andi_all _ _ _ _ _ hx j),
    fun j => real_of_abs _ (Host.reduce_andi_all _ _ _ _ _ hw j),
    fun j => real_of_abs _ (Host.reduce_andi_all _ _ _ _ _ hk j)⟩

/-! ## Where a device's blocks lie -/

/-- Every position is one of a device's. -/
theorem exists_pos (i : Fin 4096) : ∃ (c : Dev Cert.KernelIdeal.nD) (r : Fin 512), i = pos c r :=
  ⟨(⟨i.val / 512, by omega⟩ : Fin 8), ⟨i.val % 512, Nat.mod_lt _ (by decide)⟩, Fin.ext (by
    show i.val = i.val / 512 * 512 + i.val % 512; omega)⟩

theorem block3_at {α : Type} (v : (⟨3, ![2, 4096, 768]⟩ : Shape).Idx → α) (c : Fin 8) (b : Fin 2) (r : Fin 512)
    (e : Fin 768) :
    Layout.block ⟨3, ![2, 512, 768]⟩ ⟨3, ![2, 4096, 768]⟩ 1 8 c v (by decide) (ix3 b r e) = v (ix3 b (pos c r) e) :=
  congrArg v (eq_ix3 _)

theorem block4_at {α : Type} (v : (⟨4, ![2, 4096, 8, 64]⟩ : Shape).Idx → α) (c : Fin 8) (b : Fin 2) (r : Fin 512)
    (h : Fin 8) (d : Fin 64) :
    Layout.block ⟨4, ![2, 512, 8, 64]⟩ ⟨4, ![2, 4096, 8, 64]⟩ 1 8 c v (by decide) (ix4 b r h d)
      = v (ix4 b (pos c r) h d) :=
  congrArg v (eq_ix4 _)

/-! ## The claim -/

theorem algebraic : Cert.algebraic_KernelIdeal_ReferenceIdeal_pre_finite_KernelIdeal := by
  intro m g m' g' hpre harg
  have hfin := fun c => finite_blocks _ _ _ _ _ (hpre c)
  generalize e0 : m' (((0 : Dev Cert.ReferenceIdeal.nD).tc : Thread Cert.ReferenceIdeal.nD Cert.ReferenceIdeal.τ).loc Cert.ReferenceIdeal.main_arg0) = A0 at harg
  generalize e1 : m' (((0 : Dev Cert.ReferenceIdeal.nD).tc : Thread Cert.ReferenceIdeal.nD Cert.ReferenceIdeal.τ).loc Cert.ReferenceIdeal.main_arg1) = A1 at harg
  generalize e2 : m' (((0 : Dev Cert.ReferenceIdeal.nD).tc : Thread Cert.ReferenceIdeal.nD Cert.ReferenceIdeal.τ).loc Cert.ReferenceIdeal.main_arg2) = A2 at harg
  generalize e3 : m' (((0 : Dev Cert.ReferenceIdeal.nD).tc : Thread Cert.ReferenceIdeal.nD Cert.ReferenceIdeal.τ).loc Cert.ReferenceIdeal.main_arg3) = A3 at harg
  generalize e4 : m' (((0 : Dev Cert.ReferenceIdeal.nD).tc : Thread Cert.ReferenceIdeal.nD Cert.ReferenceIdeal.τ).loc Cert.ReferenceIdeal.main_arg4) = A4 at harg
  let X : (⟨3, ![2, 4096, 768]⟩ : Shape).Idx → ℝ := fun j => EReal.toReal (A0 j)
  let W : (⟨2, ![768, 512]⟩ : Shape).Idx → ℝ := fun j => EReal.toReal (A1 j)
  let K : (⟨4, ![2, 4096, 8, 64]⟩ : Shape).Idx → ℝ := fun j => EReal.toReal (A2 j)
  have hX : ∀ j, A0 j = (X j : EReal) := fun j => by
    obtain ⟨c, r, hr⟩ := exists_pos (j 1)
    have hj : j = ix3 (j 0) (pos c r) (j 2) := (eq_ix3 j).trans (congrArg (fun i => ix3 (j 0) i (j 2)) hr)
    have h := (hfin c).1 (ix3 (j 0) r (j 2))
    rw [(harg c).1, block3_at A0 c (j 0) r (j 2)] at h
    exact (congrArg (fun k => A0 k = (EReal.toReal (A0 k) : EReal)) hj).mpr h
  have hW : ∀ j, A1 j = (W j : EReal) := fun j => by
    have h := (hfin 0).2.1 j
    rw [(harg 0).2.1] at h
    exact h
  have hK : ∀ j, A2 j = (K j : EReal) := fun j => by
    obtain ⟨c, r, hr⟩ := exists_pos (j 1)
    have hj : j = ix4 (j 0) (pos c r) (j 2) (j 3) := (eq_ix4 j).trans (congrArg (fun i => ix4 (j 0) i (j 2) (j 3)) hr)
    have h := (hfin c).2.2 (ix4 (j 0) r (j 2) (j 3))
    rw [(harg c).2.2.1, block4_at A2 c (j 0) r (j 2) (j 3)] at h
    exact (congrArg (fun k => A2 k = (EReal.toReal (A2 k) : EReal)) hj).mpr h
  have href := fun b i e => Cert.ReferenceIdeal.Attn.v49_at X W K A3 A4 A0 A1 A2 A3 A4 hX hW hK rfl rfl b i e
  have hker : ∀ c b i e, Cert.KernelIdeal.Attn.outAt m c (ix3 b i e) = attn X W K A3 A4 b (pos c i) e := fun c b i e => by
    refine Cert.KernelIdeal.Attn.outT_at X W K A3 A4 _ _ _ _ _ c (fun b i e => ?_) (fun j => ?_)
      (fun o b r h d => ?_) (fun o b r h d => ?_) ?_ b i e
    · rw [(Cert.KernelIdeal.Attn.staged m c).1, ← hX]
      exact (congrFun (harg c).1 _).trans (block3_at A0 c b i e)
    · rw [(Cert.KernelIdeal.Attn.staged m c).2.1, ← hW]
      exact congrFun (harg c).2.1 _
    · rw [(Cert.KernelIdeal.Attn.staged m o).2.2.1, ← hK]
      exact (congrFun (harg o).2.2.1 _).trans (block4_at A2 o b r h d)
    · rw [(Cert.KernelIdeal.Attn.staged m o).2.2.2.1]
      exact (congrFun (harg o).2.2.2.1 _).trans (block4_at A3 o b r h d)
    · rw [(Cert.KernelIdeal.Attn.staged m c).2.2.2.2]
      exact (harg c).2.2.2.2
  refine ⟨Cert.ReferenceIdeal.Read.val_main_v49 (F := Ideal) A0 A1 A2 A3 A4, ?_, ?_⟩
  · refine (θ_run Cert.KernelIdeal.defs _ _).mono (fun r h c => ?_) (Cert.KernelIdeal.Attn.run_main (F := Ideal) m g)
    refine ⟨((h.1 c 5).trans (Cert.KernelIdeal.Attn.out_eq m c)).trans (funext fun j => ?_),
      (h.1 c 0).trans ((Cert.KernelIdeal.Attn.dats m 0 c).arrAt_in (0 : Fin 6) rfl _),
      (h.1 c 1).trans ((Cert.KernelIdeal.Attn.dats m 0 c).arrAt_in (1 : Fin 6) rfl _),
      (h.1 c 2).trans ((Cert.KernelIdeal.Attn.dats m 0 c).arrAt_in (2 : Fin 6) rfl _),
      (h.1 c 3).trans ((Cert.KernelIdeal.Attn.dats m 0 c).arrAt_in (3 : Fin 6) rfl _),
      (h.1 c 4).trans ((Cert.KernelIdeal.Attn.dats m 0 c).arrAt_in (4 : Fin 6) rfl _)⟩
    have hj : j = ix3 (j 0) (j 1) (j 2) := eq_ix3 j
    rw [hj]
    exact (hker c _ _ _).trans ((href _ _ _).symm.trans (block3_at _ c _ _ _).symm)
  · refine (θ_run Cert.ReferenceIdeal.defs _ _).mono (fun r h => ?_)
      (Cert.ReferenceIdeal.Value.run (F := Ideal) m' g')
    refine ⟨(h 0).1.trans ?_, ?_⟩
    · rw [Cert.ReferenceIdeal.Read.val_main_v49_eq, e0, e1, e2, e3, e4]
    · rw [← e0, ← e1, ← e2, ← e3, ← e4]
      exact (h 0).2

end Cert.Proof
-- ==== Proof.lean ====
/-
  The proof of `Cert.Claim` (proofs.«01_k».proof.Defs).

  The kernel's run is proved once, for any float values (`Proof/Launch.lean`, and the same text for the program as
  printed in `Proof/Bits/Launch.lean`): its frames are that run with the values dropped. The reference is a host
  program without semaphores; its run is the generated one. What both compute is `Proof/Algebraic.lean`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Bits.Launch
public import proofs.«01_k».proof.Proof.Algebraic
public import Idealize.ShloMosaic.Adequacy
public import Idealize.ShloMosaic.Init
public import Idealize.ShloMosaic.Lib.Quiescent

@[expose] public section

noncomputable section

namespace Cert.Proof

open Idealize.ShloMosaic Idealize.SL.Sem

theorem frame_Kernel : Cert.quiescent_Kernel := fun m g _ => Cert.Kernel.Attn.frame_run (F := Bits) m g

theorem frame_KernelIdeal : Cert.quiescent_KernelIdeal := fun m g _ => Cert.KernelIdeal.Attn.frame_run (F := Ideal) m g

theorem frame_ReferenceIdeal : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

/-- The runs under the precondition are the runs without. -/
theorem frame_KernelIdeal_pre : Cert.quiescent_KernelIdeal_pre_finite_KernelIdeal := fun m g _ =>
  frame_KernelIdeal m g trivial

theorem frame_ReferenceIdeal_pre : Cert.quiescent_ReferenceIdeal_pre_finite_ReferenceIdeal := fun m g _ =>
  frame_ReferenceIdeal m g trivial

theorem preserves : Cert.preserves_Kernel_KernelIdeal :=
  ⟨IdealRules.named_const.statement _ "qscale" .f32 _ _ rfl, IdealRules.named_const.statement _ "mask" .f32 _ _ rfl⟩

theorem claim : Cert.Claim := ⟨Cert.Kernel.Gen.facts, Cert.KernelIdeal.Gen.facts, Cert.ReferenceIdeal.Gen.facts,
  facts_pre_KernelIdeal, facts_pre_ReferenceIdeal, frame_Kernel, frame_KernelIdeal, frame_KernelIdeal_pre,
  frame_ReferenceIdeal, frame_ReferenceIdeal_pre, preserves, algebraic⟩

end Cert.Proof

end
